-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v40)) (v3 : (c : Dev Cert.KernelIdeal.nD) → Buf (Elt Ideal) ((c.tc : Thread Cert.KernelIdeal.nD Cert.KernelIdeal.τ).loc Cert.KernelIdeal.main_v36_3)) (v4 : (c : Dev Cert.KernelIdeal.nD) → Buf (Elt Ideal) ((c.tc : Thread Cert.KernelIdeal.nD Cert.KernelIdeal.τ).loc Cert.KernelIdeal.main_v36_4)) (v5 : (c : Dev Cert.KernelIdeal.nD) → Buf (Elt Ideal) ((c.tc : Thread Cert.KernelIdeal.nD Cert.KernelIdeal.τ).loc Cert.KernelIdeal.main_v36_5)) (v6 : (c : Dev Cert.KernelIdeal.nD) → Buf (Elt Ideal) ((c.tc : Thread Cert.KernelIdeal.nD Cert.KernelIdeal.τ).loc Cert.KernelIdeal.main_v36_6)) (v7 : (c : Dev Cert.KernelIdeal.nD) → Buf (Elt Ideal) ((c.tc : Thread Cert.KernelIdeal.nD Cert.KernelIdeal.τ).loc Cert.KernelIdeal.main_v36_7)) (v8 : (c : Dev Cert.KernelIdeal.nD) → Buf (Elt Ideal) ((c.tc : Thread Cert.KernelIdeal.nD Cert.KernelIdeal.τ).loc Cert.KernelIdeal.main_v36_8)) (v9 : (c : Dev Cert.KernelIdeal.nD) → Buf (Elt Ideal) ((c.tc : Thread Cert.KernelIdeal.nD Cert.KernelIdeal.τ).loc Cert.KernelIdeal.main_v36_9)) (v10 : (c : Dev Cert.KernelIdeal.nD) → Buf (Elt Ideal) ((c.tc : Thread Cert.KernelIdeal.nD Cert.KernelIdeal.τ).loc Cert.KernelIdeal.main_v36_10)) (v11 : (c : Dev Cert.KernelIdeal.nD) → Buf (Elt Ideal) ((c.tc : Thread Cert.KernelIdeal.nD Cert.KernelIdeal.τ).loc Cert.KernelIdeal.main_v36_11)) (v12 : (c : Dev Cert.KernelIdeal.nD) → Buf (Elt Ideal) ((c.tc : Thread Cert.KernelIdeal.nD Cert.KernelIdeal.τ).loc Cert.KernelIdeal.main_v36_12)) (v13 : (c : Dev Cert.KernelIdeal.nD) → Buf (Elt Ideal) ((c.tc : Thread Cert.KernelIdeal.nD Cert.KernelIdeal.τ).loc Cert.KernelIdeal.main_v36_13)) (v14 : (c : Dev Cert.KernelIdeal.nD) → Buf (Elt Ideal) ((c.tc : Thread Cert.KernelIdeal.nD Cert.KernelIdeal.τ).loc Cert.KernelIdeal.main_v36_14)) (v15 : (c : Dev Cert.KernelIdeal.nD) → Buf (Elt Ideal) ((c.tc : Thread Cert.KernelIdeal.nD Cert.KernelIdeal.τ).loc Cert.KernelIdeal.main_v41)) (v16 : (c : Dev Cert.KernelIdeal.nD) → Buf (Elt Ideal) ((c.tc : Thread Cert.KernelIdeal.nD Cert.KernelIdeal.τ).loc Cert.KernelIdeal.main_v42)) (v17 : (c : Dev Cert.KernelIdeal.nD) → Buf (Elt Ideal) ((c.tc : Thread Cert.KernelIdeal.nD Cert.KernelIdeal.τ).loc Cert.KernelIdeal.main_v43)) (v18 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_v36_3) = v3 c
          ∧ r.2.mem ((c.tc : Thread Cert.KernelIdeal.nD Cert.KernelIdeal.τ).loc Cert.KernelIdeal.main_v36_4) = v4 c
          ∧ r.2.mem ((c.tc : Thread Cert.KernelIdeal.nD Cert.KernelIdeal.τ).loc Cert.KernelIdeal.main_v36_5) = v5 c
          ∧ r.2.mem ((c.tc : Thread Cert.KernelIdeal.nD Cert.KernelIdeal.τ).loc Cert.KernelIdeal.main_v36_6) = v6 c
          ∧ r.2.mem ((c.tc : Thread Cert.KernelIdeal.nD Cert.KernelIdeal.τ).loc Cert.KernelIdeal.main_v36_7) = v7 c
          ∧ r.2.mem ((c.tc : Thread Cert.KernelIdeal.nD Cert.KernelIdeal.τ).loc Cert.KernelIdeal.main_v36_8) = v8 c
          ∧ r.2.mem ((c.tc : Thread Cert.KernelIdeal.nD Cert.KernelIdeal.τ).loc Cert.KernelIdeal.main_v36_9) = v9 c
          ∧ r.2.mem ((c.tc : Thread Cert.KernelIdeal.nD Cert.KernelIdeal.τ).loc Cert.KernelIdeal.main_v36_10) = v10 c
          ∧ r.2.mem ((c.tc : Thread Cert.KernelIdeal.nD Cert.KernelIdeal.τ).loc Cert.KernelIdeal.main_v36_11) = v11 c
          ∧ r.2.mem ((c.tc : Thread Cert.KernelIdeal.nD Cert.KernelIdeal.τ).loc Cert.KernelIdeal.main_v36_12) = v12 c
          ∧ r.2.mem ((c.tc : Thread Cert.KernelIdeal.nD Cert.KernelIdeal.τ).loc Cert.KernelIdeal.main_v36_13) = v13 c
          ∧ r.2.mem ((c.tc : Thread Cert.KernelIdeal.nD Cert.KernelIdeal.τ).loc Cert.KernelIdeal.main_v36_14) = v14 c
          ∧ r.2.mem ((c.tc : Thread Cert.KernelIdeal.nD Cert.KernelIdeal.τ).loc Cert.KernelIdeal.main_v41) = v15 c
          ∧ r.2.mem ((c.tc : Thread Cert.KernelIdeal.nD Cert.KernelIdeal.τ).loc Cert.KernelIdeal.main_v42) = v16 c
          ∧ r.2.mem ((c.tc : Thread Cert.KernelIdeal.nD Cert.KernelIdeal.τ).loc Cert.KernelIdeal.main_v43) = v17 c
          ∧ r.2.mem ((c.tc : Thread Cert.KernelIdeal.nD Cert.KernelIdeal.τ).loc Cert.KernelIdeal.main_v44) = v18 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v149) = v3 c
          ∧ r.2.mem ((c.tc : Thread Cert.ReferenceIdeal.nD Cert.ReferenceIdeal.τ).loc Cert.ReferenceIdeal.main_v152) = v4 c
          ∧ r.2.mem ((c.tc : Thread Cert.ReferenceIdeal.nD Cert.ReferenceIdeal.τ).loc Cert.ReferenceIdeal.main_v155) = v5 c
          ∧ r.2.mem ((c.tc : Thread Cert.ReferenceIdeal.nD Cert.ReferenceIdeal.τ).loc Cert.ReferenceIdeal.main_v158) = v6 c
          ∧ r.2.mem ((c.tc : Thread Cert.ReferenceIdeal.nD Cert.ReferenceIdeal.τ).loc Cert.ReferenceIdeal.main_v161) = v7 c
          ∧ r.2.mem ((c.tc : Thread Cert.ReferenceIdeal.nD Cert.ReferenceIdeal.τ).loc Cert.ReferenceIdeal.main_v164) = v8 c
          ∧ r.2.mem ((c.tc : Thread Cert.ReferenceIdeal.nD Cert.ReferenceIdeal.τ).loc Cert.ReferenceIdeal.main_v167) = v9 c
          ∧ r.2.mem ((c.tc : Thread Cert.ReferenceIdeal.nD Cert.ReferenceIdeal.τ).loc Cert.ReferenceIdeal.main_v170) = v10 c
          ∧ r.2.mem ((c.tc : Thread Cert.ReferenceIdeal.nD Cert.ReferenceIdeal.τ).loc Cert.ReferenceIdeal.main_v173) = v11 c
          ∧ r.2.mem ((c.tc : Thread Cert.ReferenceIdeal.nD Cert.ReferenceIdeal.τ).loc Cert.ReferenceIdeal.main_v176) = v12 c
          ∧ r.2.mem ((c.tc : Thread Cert.ReferenceIdeal.nD Cert.ReferenceIdeal.τ).loc Cert.ReferenceIdeal.main_v179) = v13 c
          ∧ r.2.mem ((c.tc : Thread Cert.ReferenceIdeal.nD Cert.ReferenceIdeal.τ).loc Cert.ReferenceIdeal.main_v182) = v14 c
          ∧ r.2.mem ((c.tc : Thread Cert.ReferenceIdeal.nD Cert.ReferenceIdeal.τ).loc Cert.ReferenceIdeal.main_v100) = v15 c
          ∧ r.2.mem ((c.tc : Thread Cert.ReferenceIdeal.nD Cert.ReferenceIdeal.τ).loc Cert.ReferenceIdeal.main_v104) = v16 c
          ∧ r.2.mem ((c.tc : Thread Cert.ReferenceIdeal.nD Cert.ReferenceIdeal.τ).loc Cert.ReferenceIdeal.main_v108) = v17 c
          ∧ r.2.mem ((c.tc : Thread Cert.ReferenceIdeal.nD Cert.ReferenceIdeal.τ).loc Cert.ReferenceIdeal.main_v112) = v18 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x750x2048 : Shape := ⟨3, ![8, 750, 2048]⟩
abbrev S512x2048x3 : Shape := ⟨3, ![512, 2048, 3]⟩
abbrev S512 : Shape := ⟨1, ![512]⟩
abbrev S20x512x1 : Shape := ⟨3, ![20, 512, 1]⟩
abbrev S20 : Shape := ⟨1, ![20]⟩
abbrev S512x1024x3 : Shape := ⟨3, ![512, 1024, 3]⟩
abbrev S1x512x1 : Shape := ⟨3, ![1, 512, 1]⟩
abbrev S1 : Shape := ⟨1, ![1]⟩
abbrev S_ : Shape := ⟨0, ![]⟩
abbrev S8x752x2048 : Shape := ⟨3, ![8, 752, 2048]⟩
abbrev S3x2048x512 : Shape := ⟨3, ![3, 2048, 512]⟩
abbrev S6144x512 : Shape := ⟨2, ![6144, 512]⟩
abbrev S3x1024x512 : Shape := ⟨3, ![3, 1024, 512]⟩
abbrev S3072x512 : Shape := ⟨2, ![3072, 512]⟩
abbrev S1x3072x512 : Shape := ⟨3, ![1, 3072, 512]⟩
abbrev S2x3072x512 : Shape := ⟨3, ![2, 3072, 512]⟩
abbrev S1x512x20 : Shape := ⟨3, ![1, 512, 20]⟩
abbrev S1x512 : Shape := ⟨2, ![1, 512]⟩
abbrev S2x512 : Shape := ⟨2, ![2, 512]⟩
abbrev S2x512x1 : Shape := ⟨3, ![2, 512, 1]⟩
abbrev S2x512x128 : Shape := ⟨3, ![2, 512, 128]⟩
abbrev S1x2x512 : Shape := ⟨3, ![1, 2, 512]⟩
abbrev S2x2x512 : Shape := ⟨3, ![2, 2, 512]⟩
abbrev S1x20 : Shape := ⟨2, ![1, 20]⟩
abbrev S8x750x512 : Shape := ⟨3, ![8, 750, 512]⟩
abbrev S8x750x20 : Shape := ⟨3, ![8, 750, 20]⟩
abbrev S8x1x750 : Shape := ⟨3, ![8, 1, 750]⟩
abbrev S8x2x750x512 : Shape := ⟨4, ![8, 2, 750, 512]⟩
abbrev S8x2x1x750 : Shape := ⟨4, ![8, 2, 1, 750]⟩
abbrev S8x37x512 : Shape := ⟨3, ![8, 37, 512]⟩
abbrev S1x752x2048 : Shape := ⟨3, ![1, 752, 2048]⟩
abbrev S1x750x512 : Shape := ⟨3, ![1, 750, 512]⟩
abbrev S1x750x20 : Shape := ⟨3, ![1, 750, 20]⟩
abbrev S1x1x750 : Shape := ⟨3, ![1, 1, 750]⟩
abbrev S752x2048 : Shape := ⟨2, ![752, 2048]⟩
abbrev S750x2048 : Shape := ⟨2, ![750, 2048]⟩
abbrev S750x6144 : Shape := ⟨2, ![750, 6144]⟩
abbrev S750x512 : Shape := ⟨2, ![750, 512]⟩
abbrev S512x20 : Shape := ⟨2, ![512, 20]⟩
abbrev S750x20 : Shape := ⟨2, ![750, 20]⟩
abbrev S750 : Shape := ⟨1, ![750]⟩
abbrev S750x1 : Shape := ⟨2, ![750, 1]⟩
abbrev S1x750 : Shape := ⟨2, ![1, 750]⟩
abbrev S1x752x1024 : Shape := ⟨3, ![1, 752, 1024]⟩
abbrev S1x512x128 : Shape := ⟨3, ![1, 512, 128]⟩
abbrev S1x1x750x512 : Shape := ⟨4, ![1, 1, 750, 512]⟩
abbrev S1x1x1x750 : Shape := ⟨4, ![1, 1, 1, 750]⟩
abbrev S752x1024 : Shape := ⟨2, ![752, 1024]⟩
abbrev S750x1024 : Shape := ⟨2, ![750, 1024]⟩
abbrev S750x3072 : Shape := ⟨2, ![750, 3072]⟩
abbrev S1x1x512 : Shape := ⟨3, ![1, 1, 512]⟩
abbrev S512x128 : Shape := ⟨2, ![512, 128]⟩
abbrev S750x128 : Shape := ⟨2, ![750, 128]⟩
abbrev S1x1x1 : Shape := ⟨3, ![1, 1, 1]⟩
abbrev S1x1 : Shape := ⟨2, ![1, 1]⟩
abbrev S1x2x750x512 : Shape := ⟨4, ![1, 2, 750, 512]⟩
abbrev S1x2x1x750 : Shape := ⟨4, ![1, 2, 1, 750]⟩
abbrev S1x37x512 : Shape := ⟨3, ![1, 37, 512]⟩
abbrev S40x4x750 : Shape := ⟨3, ![40, 4, 750]⟩
abbrev S1x128 : Shape := ⟨2, ![1, 128]⟩
abbrev S1x110 : Shape := ⟨2, ![1, 110]⟩
abbrev S750x110 : Shape := ⟨2, ![750, 110]⟩
abbrev S1x750x1 : Shape := ⟨3, ![1, 750, 1]⟩
abbrev S37x1x750 : Shape := ⟨3, ![37, 1, 750]⟩
abbrev S37x750 : Shape := ⟨2, ![37, 750]⟩
abbrev S37x512 : Shape := ⟨2, ![37, 512]⟩
abbrev S8x1x1x750 : Shape := ⟨4, ![8, 1, 1, 750]⟩
abbrev S8x750 : Shape := ⟨2, ![8, 750]⟩

abbrev nBuf : Space → Nat
  | .hbm => 81
  | .vmem => 63
  | .smem => 0
  | _ => 0

abbrev bufTy : (tb : Table) → Fin (tcTables nBuf tb) → BufTy
  | .hbm, ⟨0, _⟩ => ⟨S8x750x2048, .f32⟩
  | .hbm, ⟨1, _⟩ => ⟨S512x2048x3, .f32⟩
  | .hbm, ⟨2, _⟩ => ⟨S512, .f32⟩
  | .hbm, ⟨3, _⟩ => ⟨S20x512x1, .f32⟩
  | .hbm, ⟨4, _⟩ => ⟨S20, .f32⟩
  | .hbm, ⟨5, _⟩ => ⟨S512x1024x3, .f32⟩
  | .hbm, ⟨6, _⟩ => ⟨S512, .f32⟩
  | .hbm, ⟨7, _⟩ => ⟨S1x512x1, .f32⟩
  | .hbm, ⟨8, _⟩ => ⟨S1, .f32⟩
  | .hbm, ⟨9, _⟩ => ⟨S512x1024x3, .f32⟩
  | .hbm, ⟨10, _⟩ => ⟨S512, .f32⟩
  | .hbm, ⟨11, _⟩ => ⟨S1x512x1, .f32⟩
  | .hbm, ⟨12, _⟩ => ⟨S1, .f32⟩
  | .hbm, ⟨13, _⟩ => ⟨S_, .i32⟩
  | .hbm, ⟨14, _⟩ => ⟨S_, .f32⟩
  | .hbm, ⟨15, _⟩ => ⟨S8x752x2048, .f32⟩
  | .hbm, ⟨16, _⟩ => ⟨S8x752x2048, .bf16⟩
  | .hbm, ⟨17, _⟩ => ⟨S3x2048x512, .f32⟩
  | .hbm, ⟨18, _⟩ => ⟨S6144x512, .f32⟩
  | .hbm, ⟨19, _⟩ => ⟨S6144x512, .bf16⟩
  | .hbm, ⟨20, _⟩ => ⟨S3x1024x512, .f32⟩
  | .hbm, ⟨21, _⟩ => ⟨S3072x512, .f32⟩
  | .hbm, ⟨22, _⟩ => ⟨S3x1024x512, .f32⟩
  | .hbm, ⟨23, _⟩ => ⟨S3072x512, .f32⟩
  | .hbm, ⟨24, _⟩ => ⟨S1x3072x512, .f32⟩
  | .hbm, ⟨25, _⟩ => ⟨S1x3072x512, .f32⟩
  | .hbm, ⟨26, _⟩ => ⟨S2x3072x512, .f32⟩
  | .hbm, ⟨27, _⟩ => ⟨S2x3072x512, .bf16⟩
  | .hbm, ⟨28, _⟩ => ⟨S1x512x20, .f32⟩
  | .hbm, ⟨29, _⟩ => ⟨S1x512x20, .bf16⟩
  | .hbm, ⟨30, _⟩ => ⟨S512, .f32⟩
  | .hbm, ⟨31, _⟩ => ⟨S512, .f32⟩
  | .hbm, ⟨32, _⟩ => ⟨S1x512, .f32⟩
  | .hbm, ⟨33, _⟩ => ⟨S1x512, .f32⟩
  | .hbm, ⟨34, _⟩ => ⟨S2x512, .f32⟩
  | .hbm, ⟨35, _⟩ => ⟨S2x512x1, .f32⟩
  | .hbm, ⟨36, _⟩ => ⟨S_, .i32⟩
  | .hbm, ⟨37, _⟩ => ⟨S_, .f32⟩
  | .hbm, ⟨38, _⟩ => ⟨S2x512x128, .f32⟩
  | .hbm, ⟨39, _⟩ => ⟨S2x512x128, .bf16⟩
  | .hbm, ⟨40, _⟩ => ⟨S512, .f32⟩
  | .hbm, ⟨41, _⟩ => ⟨S1x512, .f32⟩
  | .hbm, ⟨42, _⟩ => ⟨S1x512, .f32⟩
  | .hbm, ⟨43, _⟩ => ⟨S2x512, .f32⟩
  | .hbm, ⟨44, _⟩ => ⟨S512, .f32⟩
  | .hbm, ⟨45, _⟩ => ⟨S1x512, .f32⟩
  | .hbm, ⟨46, _⟩ => ⟨S1x512, .f32⟩
  | .hbm, ⟨47, _⟩ => ⟨S2x512, .f32⟩
  | .hbm, ⟨48, _⟩ => ⟨S1x2x512, .f32⟩
  | .hbm, ⟨49, _⟩ => ⟨S1x2x512, .f32⟩
  | .hbm, ⟨50, _⟩ => ⟨S2x2x512, .f32⟩
  | .hbm, ⟨51, _⟩ => ⟨S1x512, .f32⟩
  | .hbm, ⟨52, _⟩ => ⟨S1x20, .f32⟩
  | .hbm, ⟨53, _⟩ => ⟨S8x750x512, .f32⟩
  | .hbm, ⟨54, _⟩ => ⟨S8x750x20, .f32⟩
  | .hbm, ⟨55, _⟩ => ⟨S8x1x750, .f32⟩
  | .hbm, ⟨56, _⟩ => ⟨S8x2x750x512, .f32⟩
  | .hbm, ⟨57, _⟩ => ⟨S8x2x1x750, .f32⟩
  | .hbm, ⟨58, _⟩ => ⟨S8x37x512, .f32⟩
  | .hbm, ⟨59, _⟩ => ⟨S8x37x512, .f32⟩
  | .hbm, ⟨60, _⟩ => ⟨S8x37x512, .f32⟩
  | .hbm, ⟨61, _⟩ => ⟨S8x37x512, .f32⟩
  | .hbm, ⟨62, _⟩ => ⟨S8x37x512, .f32⟩
  | .hbm, ⟨63, _⟩ => ⟨S8x37x512, .f32⟩
  | .hbm, ⟨64, _⟩ => ⟨S8x37x512, .f32⟩
  | .hbm, ⟨65, _⟩ => ⟨S8x37x512, .f32⟩
  | .hbm, ⟨66, _⟩ => ⟨S8x37x512, .f32⟩
  | .hbm, ⟨67, _⟩ => ⟨S8x37x512, .f32⟩
  | .hbm, ⟨68, _⟩ => ⟨S8x37x512, .f32⟩
  | .hbm, ⟨69, _⟩ => ⟨S8x37x512, .f32⟩
  | .hbm, ⟨70, _⟩ => ⟨S8x1x750, .f32⟩
  | .hbm, ⟨71, _⟩ => ⟨S8x1x750, .f32⟩
  | .hbm, ⟨72, _⟩ => ⟨S8x1x750, .f32⟩
  | .hbm, ⟨73, _⟩ => ⟨S8x1x1x750, .f32⟩
  | .hbm, ⟨74, _⟩ => ⟨S8x1x750, .f32⟩
  | .hbm, ⟨75, _⟩ => ⟨S8x1x1x750, .f32⟩
  | .hbm, ⟨76, _⟩ => ⟨S8x1x750, .f32⟩
  | .hbm, ⟨77, _⟩ => ⟨S8x750, .f32⟩
  | .hbm, ⟨78, _⟩ => ⟨S8x750, .f32⟩
  | .hbm, ⟨79, _⟩ => ⟨S8x750, .f32⟩
  | .hbm, ⟨80, _⟩ => ⟨S8x750, .f32⟩
  | .local _ .vmem, ⟨0, _⟩ => ⟨S1x752x2048, .bf16⟩
  | .local _ .vmem, ⟨1, _⟩ => ⟨S1x752x2048, .bf16⟩
  | .local _ .vmem, ⟨2, _⟩ => ⟨S6144x512, .bf16⟩
  | .local _ .vmem, ⟨3, _⟩ => ⟨S1x512, .f32⟩
  | .local _ .vmem, ⟨4, _⟩ => ⟨S1x512x20, .bf16⟩
  | .local _ .vmem, ⟨5, _⟩ => ⟨S1x20, .f32⟩
  | .local _ .vmem, ⟨6, _⟩ => ⟨S1x750x512, .f32⟩
  | .local _ .vmem, ⟨7, _⟩ => ⟨S1x750x512, .f32⟩
  | .local _ .vmem, ⟨8, _⟩ => ⟨S1x750x20, .f32⟩
  | .local _ .vmem, ⟨9, _⟩ => ⟨S1x750x20, .f32⟩
  | .local _ .vmem, ⟨10, _⟩ => ⟨S1x1x750, .f32⟩
  | .local _ .vmem, ⟨11, _⟩ => ⟨S1x1x750, .f32⟩
  | .local _ .vmem, ⟨12, _⟩ => ⟨S1x752x1024, .bf16⟩
  | .local _ .vmem, ⟨13, _⟩ => ⟨S1x752x1024, .bf16⟩
  | .local _ .vmem, ⟨14, _⟩ => ⟨S1x3072x512, .bf16⟩
  | .local _ .vmem, ⟨15, _⟩ => ⟨S1x3072x512, .bf16⟩
  | .local _ .vmem, ⟨16, _⟩ => ⟨S1x512x128, .bf16⟩
  | .local _ .vmem, ⟨17, _⟩ => ⟨S1x512x128, .bf16⟩
  | .local _ .vmem, ⟨18, _⟩ => ⟨S1x2x512, .f32⟩
  | .local _ .vmem, ⟨19, _⟩ => ⟨S1x2x512, .f32⟩
  | .local _ .vmem, ⟨20, _⟩ => ⟨S1x1x750x512, .f32⟩
  | .local _ .vmem, ⟨21, _⟩ => ⟨S1x1x750x512, .f32⟩
  | .local _ .vmem, ⟨22, _⟩ => ⟨S1x1x1x750, .f32⟩
  | .local _ .vmem, ⟨23, _⟩ => ⟨S1x1x1x750, .f32⟩
  | .local _ .vmem, ⟨24, _⟩ => ⟨S1x750x512, .f32⟩
  | .local _ .vmem, ⟨25, _⟩ => ⟨S1x750x512, .f32⟩
  | .local _ .vmem, ⟨26, _⟩ => ⟨S1x2x750x512, .f32⟩
  | .local _ .vmem, ⟨27, _⟩ => ⟨S1x2x750x512, .f32⟩
  | .local _ .vmem, ⟨28, _⟩ => ⟨S1x1x750, .f32⟩
  | .local _ .vmem, ⟨29, _⟩ => ⟨S1x1x750, .f32⟩
  | .local _ .vmem, ⟨30, _⟩ => ⟨S1x2x1x750, .f32⟩
  | .local _ .vmem, ⟨31, _⟩ => ⟨S1x2x1x750, .f32⟩
  | .local _ .vmem, ⟨32, _⟩ => ⟨S1x37x512, .f32⟩
  | .local _ .vmem, ⟨33, _⟩ => ⟨S1x37x512, .f32⟩
  | .local _ .vmem, ⟨34, _⟩ => ⟨S1x37x512, .f32⟩
  | .local _ .vmem, ⟨35, _⟩ => ⟨S1x37x512, .f32⟩
  | .local _ .vmem, ⟨36, _⟩ => ⟨S1x37x512, .f32⟩
  | .local _ .vmem, ⟨37, _⟩ => ⟨S1x37x512, .f32⟩
  | .local _ .vmem, ⟨38, _⟩ => ⟨S1x37x512, .f32⟩
  | .local _ .vmem, ⟨39, _⟩ => ⟨S1x37x512, .f32⟩
  | .local _ .vmem, ⟨40, _⟩ => ⟨S1x37x512, .f32⟩
  | .local _ .vmem, ⟨41, _⟩ => ⟨S1x37x512, .f32⟩
  | .local _ .vmem, ⟨42, _⟩ => ⟨S1x37x512, .f32⟩
  | .local _ .vmem, ⟨43, _⟩ => ⟨S1x37x512, .f32⟩
  | .local _ .vmem, ⟨44, _⟩ => ⟨S1x37x512, .f32⟩
  | .local _ .vmem, ⟨45, _⟩ => ⟨S1x37x512, .f32⟩
  | .local _ .vmem, ⟨46, _⟩ => ⟨S1x37x512, .f32⟩
  | .local _ .vmem, ⟨47, _⟩ => ⟨S1x37x512, .f32⟩
  | .local _ .vmem, ⟨48, _⟩ => ⟨S1x37x512, .f32⟩
  | .local _ .vmem, ⟨49, _⟩ => ⟨S1x37x512, .f32⟩
  | .local _ .vmem, ⟨50, _⟩ => ⟨S1x37x512, .f32⟩
  | .local _ .vmem, ⟨51, _⟩ => ⟨S1x37x512, .f32⟩
  | .local _ .vmem, ⟨52, _⟩ => ⟨S1x37x512, .f32⟩
  | .local _ .vmem, ⟨53, _⟩ => ⟨S1x37x512, .f32⟩
  | .local _ .vmem, ⟨54, _⟩ => ⟨S1x37x512, .f32⟩
  | .local _ .vmem, ⟨55, _⟩ => ⟨S1x37x512, .f32⟩
  | .local _ .vmem, ⟨56, _⟩ => ⟨S1x1x750, .f32⟩
  | .local _ .vmem, ⟨57, _⟩ => ⟨S1x1x750, .f32⟩
  | .local _ .vmem, ⟨58, _⟩ => ⟨S1x1x750, .f32⟩
  | .local _ .vmem, ⟨59, _⟩ => ⟨S1x1x750, .f32⟩
  | .local _ .vmem, ⟨60, _⟩ => ⟨S1x1x750, .f32⟩
  | .local _ .vmem, ⟨61, _⟩ => ⟨S1x1x750, .f32⟩
  | .local _ .vmem, ⟨62, _⟩ => ⟨S40x4x750, .f32⟩
  | _, _ => ⟨S8x750x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_0 : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call2_v0_0 : Ref sig .tc := ⟨.hbm, 53, rfl⟩
abbrev main_v36_0 : Ref sig .tc := ⟨.hbm, 54, rfl⟩
abbrev main_v36_1 : Ref sig .tc := ⟨.hbm, 55, rfl⟩
abbrev main_call2_v1_0 : Ref sig .tc := ⟨.hbm, 56, rfl⟩
abbrev main_v36_2 : Ref sig .tc := ⟨.hbm, 57, rfl⟩
abbrev main_v36_3 : Ref sig .tc := ⟨.hbm, 58, rfl⟩
abbrev main_v36_4 : Ref sig .tc := ⟨.hbm, 59, rfl⟩
abbrev main_v36_5 : Ref sig .tc := ⟨.hbm, 60, rfl⟩
abbrev main_v36_6 : Ref sig .tc := ⟨.hbm, 61, rfl⟩
abbrev main_v36_7 : Ref sig .tc := ⟨.hbm, 62, rfl⟩
abbrev main_v36_8 : Ref sig .tc := ⟨.hbm, 63, rfl⟩
abbrev main_v36_9 : Ref sig .tc := ⟨.hbm, 64, rfl⟩
abbrev main_v36_10 : Ref sig .tc := ⟨.hbm, 65, rfl⟩
abbrev main_v36_11 : Ref sig .tc := ⟨.hbm, 66, rfl⟩
abbrev main_v36_12 : Ref sig .tc := ⟨.hbm, 67, rfl⟩
abbrev main_v36_13 : Ref sig .tc := ⟨.hbm, 68, rfl⟩
abbrev main_v36_14 : Ref sig .tc := ⟨.hbm, 69, rfl⟩
abbrev main_v36_15 : Ref sig .tc := ⟨.hbm, 70, rfl⟩
abbrev main_v36_16 : Ref sig .tc := ⟨.hbm, 71, rfl⟩
abbrev main_v36_17 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc2_stg9_0 : Ref sig .tc := ⟨.vmem, 42, rfl⟩
abbrev cc2_stg9_1 : Ref sig .tc := ⟨.vmem, 43, rfl⟩
abbrev cc2_stg10_0 : Ref sig .tc := ⟨.vmem, 44, rfl⟩
abbrev cc2_stg10_1 : Ref sig .tc := ⟨.vmem, 45, rfl⟩
abbrev cc2_stg11_0 : Ref sig .tc := ⟨.vmem, 46, rfl⟩
abbrev cc2_stg11_1 : Ref sig .tc := ⟨.vmem, 47, rfl⟩
abbrev cc2_stg12_0 : Ref sig .tc := ⟨.vmem, 48, rfl⟩
abbrev cc2_stg12_1 : Ref sig .tc := ⟨.vmem, 49, rfl⟩
abbrev cc2_stg13_0 : Ref sig .tc := ⟨.vmem, 50, rfl⟩
abbrev cc2_stg13_1 : Ref sig .tc := ⟨.vmem, 51, rfl⟩
abbrev cc2_stg14_0 : Ref sig .tc := ⟨.vmem, 52, rfl⟩
abbrev cc2_stg14_1 : Ref sig .tc := ⟨.vmem, 53, rfl⟩
abbrev cc2_stg15_0 : Ref sig .tc := ⟨.vmem, 54, rfl⟩
abbrev cc2_stg15_1 : Ref sig .tc := ⟨.vmem, 55, rfl⟩
abbrev cc2_stg16_0 : Ref sig .tc := ⟨.vmem, 56, rfl⟩
abbrev cc2_stg16_1 : Ref sig .tc := ⟨.vmem, 57, rfl⟩
abbrev cc2_stg17_0 : Ref sig .tc := ⟨.vmem, 58, rfl⟩
abbrev cc2_stg17_1 : Ref sig .tc := ⟨.vmem, 59, rfl⟩
abbrev cc2_stg18_0 : Ref sig .tc := ⟨.vmem, 60, rfl⟩
abbrev cc2_stg18_1 : Ref sig .tc := ⟨.vmem, 61, rfl⟩
abbrev cc2_scratch0 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc2_sem8_0 : DmaSem sig := 40
abbrev cc2_sem8_1 : DmaSem sig := 41
abbrev cc2_sem9_0 : DmaSem sig := 42
abbrev cc2_sem9_1 : DmaSem sig := 43
abbrev cc2_sem10_0 : DmaSem sig := 44
abbrev cc2_sem10_1 : DmaSem sig := 45
abbrev cc2_sem11_0 : DmaSem sig := 46
abbrev cc2_sem11_1 : DmaSem sig := 47
abbrev cc2_sem12_0 : DmaSem sig := 48
abbrev cc2_sem12_1 : DmaSem sig := 49
abbrev cc2_sem13_0 : DmaSem sig := 50
abbrev cc2_sem13_1 : DmaSem sig := 51
abbrev cc2_sem14_0 : DmaSem sig := 52
abbrev cc2_sem14_1 : DmaSem sig := 53
abbrev cc2_sem15_0 : DmaSem sig := 54
abbrev cc2_sem15_1 : DmaSem sig := 55
abbrev cc2_sem16_0 : DmaSem sig := 56
abbrev cc2_sem16_1 : DmaSem sig := 57
abbrev cc2_sem17_0 : DmaSem sig := 58
abbrev cc2_sem17_1 : DmaSem sig := 59
abbrev cc2_sem18_0 : DmaSem sig := 60
abbrev cc2_sem18_1 : DmaSem sig := 61

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x752x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x20 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x750x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x750x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x750 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage1_0 : Fin 2 → Memref sig .tc .vmem S1x752x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3072x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x750x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1x750 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

@[reducible] def k2_t1_loop : Scf.Loop 32 :=
  let c0_i32 : BitVec 32 := 0#32
  let c37_i32 : BitVec 32 := 37#32
  let v316 : BitVec 32 := Scalar.addi c0_i32 c37_i32
  let c1_i32 : BitVec 32 := 1#32
  ⟨c0_i32, v316, c1_i32⟩
def k2_off1 (k2_t1 : Fin k2_t1_loop.trips) : Fin 3 → Nat :=
  let c0_i32 : BitVec 32 := 0#32
  let c1_i32 : BitVec 32 := 1#32
  let arg21 : BitVec 32 := Scf.iv c0_i32 c1_i32 k2_t1
  let v398 : Index := Scalar.indexCast arg21
  let c0_165 : Index := 0#32
  let c0_166 : Index := 0#32
  ![v398.toNat, 0, 0]
@[reducible] def k2_t2_loop : Scf.Loop 32 :=
  let c0_i32_81 : BitVec 32 := 0#32
  let c37_i32_82 : BitVec 32 := 37#32
  let v318 : BitVec 32 := Scalar.addi c0_i32_81 c37_i32_82
  let c1_i32_83 : BitVec 32 := 1#32
  ⟨c0_i32_81, v318, c1_i32_83⟩
def k2_off2 (k2_t2 : Fin k2_t2_loop.trips) : Fin 3 → Nat :=
  let c0_i32_81 : BitVec 32 := 0#32
  let c1_i32_83 : BitVec 32 := 1#32
  let arg21 : BitVec 32 := Scf.iv c0_i32_81 c1_i32_83 k2_t2
  let v398 : Index := Scalar.indexCast arg21
  let c1_165 : Index := 1#32
  let c0_166 : Index := 0#32
  ![v398.toNat, 1, 0]
@[reducible] def k2_t3_loop : Scf.Loop 32 :=
  let c0_i32_85 : BitVec 32 := 0#32
  let c37_i32_86 : BitVec 32 := 37#32
  let v320 : BitVec 32 := Scalar.addi c0_i32_85 c37_i32_86
  let c1_i32_87 : BitVec 32 := 1#32
  ⟨c0_i32_85, v320, c1_i32_87⟩
def k2_off3 (k2_t3 : Fin k2_t3_loop.trips) : Fin 3 → Nat :=
  let c0_i32_85 : BitVec 32 := 0#32
  let c1_i32_87 : BitVec 32 := 1#32
  let arg21 : BitVec 32 := Scf.iv c0_i32_85 c1_i32_87 k2_t3
  let v398 : Index := Scalar.indexCast arg21
  let c2_165 : Index := 2#32
  let c0_166 : Index := 0#32
  ![v398.toNat, 2, 0]
@[reducible] def k2_t4_loop : Scf.Loop 32 :=
  let c0_i32_89 : BitVec 32 := 0#32
  let c37_i32_90 : BitVec 32 := 37#32
  let v322 : BitVec 32 := Scalar.addi c0_i32_89 c37_i32_90
  let c1_i32_91 : BitVec 32 := 1#32
  ⟨c0_i32_89, v322, c1_i32_91⟩
def k2_off4 (k2_t4 : Fin k2_t4_loop.trips) : Fin 3 → Nat :=
  let c0_i32_89 : BitVec 32 := 0#32
  let c1_i32_91 : BitVec 32 := 1#32
  let arg21 : BitVec 32 := Scf.iv c0_i32_89 c1_i32_91 k2_t4
  let v398 : Index := Scalar.indexCast arg21
  let c3_165 : Index := 3#32
  let c0_166 : Index := 0#32
  ![v398.toNat, 3, 0]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_11 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_14 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_15 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_16 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_17 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_18 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x750x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2x750x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x750 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x2x1x750 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x37x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x37x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x37x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x37x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x37x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x37x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x37x512 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S1x37x512 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1x37x512 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S1x37x512 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S1x37x512 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S1x37x512 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S1x1x750 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S1x1x750 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S1x1x750 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]
-- ==== ReferenceIdeal.lean ====
abbrev S8x750x2048 : Shape := ⟨3, ![8, 750, 2048]⟩
abbrev S512x2048x3 : Shape := ⟨3, ![512, 2048, 3]⟩
abbrev S512 : Shape := ⟨1, ![512]⟩
abbrev S20x512x1 : Shape := ⟨3, ![20, 512, 1]⟩
abbrev S20 : Shape := ⟨1, ![20]⟩
abbrev S512x1024x3 : Shape := ⟨3, ![512, 1024, 3]⟩
abbrev S1x512x1 : Shape := ⟨3, ![1, 512, 1]⟩
abbrev S1 : Shape := ⟨1, ![1]⟩
abbrev S8x750x1024 : Shape := ⟨3, ![8, 750, 1024]⟩
abbrev S_ : Shape := ⟨0, ![]⟩
abbrev S8x752x1024 : Shape := ⟨3, ![8, 752, 1024]⟩
abbrev S512x1024x1 : Shape := ⟨3, ![512, 1024, 1]⟩
abbrev S512x1024 : Shape := ⟨2, ![512, 1024]⟩
abbrev S8x750x512 : Shape := ⟨3, ![8, 750, 512]⟩
abbrev S1x1x512 : Shape := ⟨3, ![1, 1, 512]⟩
abbrev S1x512 : Shape := ⟨2, ![1, 512]⟩
abbrev S8x750x1 : Shape := ⟨3, ![8, 750, 1]⟩
abbrev S1x1x1 : Shape := ⟨3, ![1, 1, 1]⟩
abbrev S8x1x750 : Shape := ⟨3, ![8, 1, 750]⟩
abbrev S8x752x2048 : Shape := ⟨3, ![8, 752, 2048]⟩
abbrev S512x2048x1 : Shape := ⟨3, ![512, 2048, 1]⟩
abbrev S512x2048 : Shape := ⟨2, ![512, 2048]⟩
abbrev S20x512 : Shape := ⟨2, ![20, 512]⟩
abbrev S8x750x20 : Shape := ⟨3, ![8, 750, 20]⟩
abbrev S1x1x20 : Shape := ⟨3, ![1, 1, 20]⟩
abbrev S8x750 : Shape := ⟨2, ![8, 750]⟩
abbrev S8 : Shape := ⟨1, ![8]⟩
abbrev S8x1 : Shape := ⟨2, ![8, 1]⟩
abbrev S8x37 : Shape := ⟨2, ![8, 37]⟩
abbrev S8x37x1 : Shape := ⟨3, ![8, 37, 1]⟩
abbrev S8x37x512 : Shape := ⟨3, ![8, 37, 512]⟩
abbrev S8x37x512x1 : Shape := ⟨4, ![8, 37, 512, 1]⟩
abbrev S1x1x1x1 : Shape := ⟨4, ![1, 1, 1, 1]⟩

abbrev nBuf : Space → Nat
  | .hbm => 581
  | .vmem => 0
  | .smem => 0
  | _ => 0

abbrev hbmTy0_0 (i : Nat) : BufTy := match i % 128 with
  | 0 => ⟨S8x750x2048, .f32⟩
  | 1 => ⟨S512x2048x3, .f32⟩
  | 2 => ⟨S512, .f32⟩
  | 3 => ⟨S20x512x1, .f32⟩
  | 4 => ⟨S20, .f32⟩
  | 5 => ⟨S512x1024x3, .f32⟩
  | 6 => ⟨S512, .f32⟩
  | 7 => ⟨S1x512x1, .f32⟩
  | 8 => ⟨S1, .f32⟩
  | 9 => ⟨S512x1024x3, .f32⟩
  | 10 => ⟨S512, .f32⟩
  | 11 => ⟨S1x512x1, .f32⟩
  | 12 => ⟨S1, .f32⟩
  | 13 => ⟨S8x750x1024, .f32⟩
  | 14 => ⟨S_, .i32⟩
  | 15 => ⟨S_, .f32⟩
  | 16 => ⟨S8x752x1024, .f32⟩
  | 17 => ⟨S8x750x1024, .f32⟩
  | 18 => ⟨S512x1024x1, .f32⟩
  | 19 => ⟨S512x1024, .f32⟩
  | 20 => ⟨S8x750x512, .f32⟩
  | 21 => ⟨S_, .f32⟩
  | 22 => ⟨S8x750x512, .f32⟩
  | 23 => ⟨S8x750x512, .f32⟩
  | 24 => ⟨S8x750x1024, .f32⟩
  | 25 => ⟨S512x1024x1, .f32⟩
  | 26 => ⟨S512x1024, .f32⟩
  | 27 => ⟨S8x750x512, .f32⟩
  | 28 => ⟨S8x750x512, .f32⟩
  | 29 => ⟨S8x750x1024, .f32⟩
  | 30 => ⟨S512x1024x1, .f32⟩
  | 31 => ⟨S512x1024, .f32⟩
  | 32 => ⟨S8x750x512, .f32⟩
  | 33 => ⟨S8x750x512, .f32⟩
  | 34 => ⟨S1x1x512, .f32⟩
  | 35 => ⟨S8x750x512, .f32⟩
  | 36 => ⟨S8x750x512, .f32⟩
  | 37 => ⟨S_, .f32⟩
  | 38 => ⟨S8x750x512, .f32⟩
  | 39 => ⟨S8x750x512, .f32⟩
  | 40 => ⟨S8x750x1024, .f32⟩
  | 41 => ⟨S_, .i32⟩
  | 42 => ⟨S_, .f32⟩
  | 43 => ⟨S8x752x1024, .f32⟩
  | 44 => ⟨S8x750x1024, .f32⟩
  | 45 => ⟨S512x1024x1, .f32⟩
  | 46 => ⟨S512x1024, .f32⟩
  | 47 => ⟨S8x750x512, .f32⟩
  | 48 => ⟨S_, .f32⟩
  | 49 => ⟨S8x750x512, .f32⟩
  | 50 => ⟨S8x750x512, .f32⟩
  | 51 => ⟨S8x750x1024, .f32⟩
  | 52 => ⟨S512x1024x1, .f32⟩
  | 53 => ⟨S512x1024, .f32⟩
  | 54 => ⟨S8x750x512, .f32⟩
  | 55 => ⟨S8x750x512, .f32⟩
  | 56 => ⟨S8x750x1024, .f32⟩
  | 57 => ⟨S512x1024x1, .f32⟩
  | 58 => ⟨S512x1024, .f32⟩
  | 59 => ⟨S8x750x512, .f32⟩
  | 60 => ⟨S8x750x512, .f32⟩
  | 61 => ⟨S1x1x512, .f32⟩
  | 62 => ⟨S8x750x512, .f32⟩
  | 63 => ⟨S8x750x512, .f32⟩
  | 64 => ⟨S_, .f32⟩
  | 65 => ⟨S8x750x512, .f32⟩
  | 66 => ⟨S8x750x512, .f32⟩
  | 67 => ⟨S1x512, .f32⟩
  | 68 => ⟨S8x750x1, .f32⟩
  | 69 => ⟨S1x1x1, .f32⟩
  | 70 => ⟨S8x750x1, .f32⟩
  | 71 => ⟨S8x750x1, .f32⟩
  | 72 => ⟨S8x750x1, .f32⟩
  | 73 => ⟨S8x750x1, .f32⟩
  | 74 => ⟨S_, .f32⟩
  | 75 => ⟨S8x750x1, .f32⟩
  | 76 => ⟨S8x750x1, .f32⟩
  | 77 => ⟨S_, .f32⟩
  | 78 => ⟨S8x750x1, .f32⟩
  | 79 => ⟨S8x750x1, .f32⟩
  | 80 => ⟨S8x1x750, .f32⟩
  | 81 => ⟨S1x512, .f32⟩
  | 82 => ⟨S8x750x1, .f32⟩
  | 83 => ⟨S1x1x1, .f32⟩
  | 84 => ⟨S8x750x1, .f32⟩
  | 85 => ⟨S8x750x1, .f32⟩
  | 86 => ⟨S8x750x1, .f32⟩
  | 87 => ⟨S8x750x1, .f32⟩
  | 88 => ⟨S_, .f32⟩
  | 89 => ⟨S8x750x1, .f32⟩
  | 90 => ⟨S8x750x1, .f32⟩
  | 91 => ⟨S_, .f32⟩
  | 92 => ⟨S8x750x1, .f32⟩
  | 93 => ⟨S8x750x1, .f32⟩
  | 94 => ⟨S8x1x750, .f32⟩
  | 95 => ⟨S_, .i32⟩
  | 96 => ⟨S_, .f32⟩
  | 97 => ⟨S8x752x2048, .f32⟩
  | 98 => ⟨S8x750x2048, .f32⟩
  | 99 => ⟨S512x2048x1, .f32⟩
  | 100 => ⟨S512x2048, .f32⟩
  | 101 => ⟨S8x750x512, .f32⟩
  | 102 => ⟨S_, .f32⟩
  | 103 => ⟨S8x750x512, .f32⟩
  | 104 => ⟨S8x750x512, .f32⟩
  | 105 => ⟨S8x750x2048, .f32⟩
  | 106 => ⟨S512x2048x1, .f32⟩
  | 107 => ⟨S512x2048, .f32⟩
  | 108 => ⟨S8x750x512, .f32⟩
  | 109 => ⟨S8x750x512, .f32⟩
  | 110 => ⟨S8x750x2048, .f32⟩
  | 111 => ⟨S512x2048x1, .f32⟩
  | 112 => ⟨S512x2048, .f32⟩
  | 113 => ⟨S8x750x512, .f32⟩
  | 114 => ⟨S8x750x512, .f32⟩
  | 115 => ⟨S1x1x512, .f32⟩
  | 116 => ⟨S8x750x512, .f32⟩
  | 117 => ⟨S8x750x512, .f32⟩
  | 118 => ⟨S_, .f32⟩
  | 119 => ⟨S8x750x512, .f32⟩
  | 120 => ⟨S8x750x512, .f32⟩
  | 121 => ⟨S20x512, .f32⟩
  | 122 => ⟨S8x750x20, .f32⟩
  | 123 => ⟨S1x1x20, .f32⟩
  | 124 => ⟨S8x750x20, .f32⟩
  | 125 => ⟨S8x750x20, .f32⟩
  | 126 => ⟨S_, .f32⟩
  | 127 => ⟨S8x750, .f32⟩
  | _ => ⟨S8x750x2048, .f32⟩

abbrev hbmTy0_1 (i : Nat) : BufTy := match i % 128 with
  | 0 => ⟨S8x750, .f32⟩
  | 1 => ⟨S8x750, .f32⟩
  | 2 => ⟨S_, .f32⟩
  | 3 => ⟨S8x750, .f32⟩
  | 4 => ⟨S8x750, .f32⟩
  | 5 => ⟨S_, .f32⟩
  | 6 => ⟨S8x750, .f32⟩
  | 7 => ⟨S8x750, .f32⟩
  | 8 => ⟨S8x1x750, .f32⟩
  | 9 => ⟨S_, .f32⟩
  | 10 => ⟨S8x1x750, .f32⟩
  | 11 => ⟨S8x1x750, .f32⟩
  | 12 => ⟨S8x750, .f32⟩
  | 13 => ⟨S_, .f32⟩
  | 14 => ⟨S8x750, .i1⟩
  | 15 => ⟨S_, .i1⟩
  | 16 => ⟨S8, .i1⟩
  | 17 => ⟨S8x1, .i1⟩
  | 18 => ⟨S_, .f32⟩
  | 19 => ⟨S_, .f32⟩
  | 20 => ⟨S8x750, .i1⟩
  | 21 => ⟨S8x750, .f32⟩
  | 22 => ⟨S8x750, .f32⟩
  | 23 => ⟨S8x750, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .i32⟩
  | 44 => ⟨S_, .i32⟩
  | 45 => ⟨S1, .i32⟩
  | 46 => ⟨S8x1, .f32⟩
  | 47 => ⟨S1, .i32⟩
  | 48 => ⟨S8x1, .f32⟩
  | 49 => ⟨S8x1, .f32⟩
  | 50 => ⟨S_, .f32⟩
  | 51 => ⟨S8x1, .f32⟩
  | 52 => ⟨S8x1, .f32⟩
  | 53 => ⟨S8x750, .f32⟩
  | 54 => ⟨S8x750, .i1⟩
  | 55 => ⟨S_, .f32⟩
  | 56 => ⟨S_, .f32⟩
  | 57 => ⟨S8x750, .f32⟩
  | 58 => ⟨S8x750, .f32⟩
  | 59 => ⟨S8x750, .f32⟩
  | 60 => ⟨S_, .f32⟩
  | 61 => ⟨S8x750, .i1⟩
  | 62 => ⟨S_, .i1⟩
  | 63 => ⟨S8, .i1⟩
  | 64 => ⟨S8x1, .i1⟩
  | 65 => ⟨S_, .f32⟩
  | 66 => ⟨S_, .f32⟩
  | 67 => ⟨S8x750, .i1⟩
  | 68 => ⟨S8x750, .f32⟩
  | 69 => ⟨S8x750, .f32⟩
  | 70 => ⟨S8x750, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .i32⟩
  | 91 => ⟨S_, .i32⟩
  | 92 => ⟨S1, .i32⟩
  | 93 => ⟨S8x1, .f32⟩
  | 94 => ⟨S1, .i32⟩
  | 95 => ⟨S8x1, .f32⟩
  | 96 => ⟨S8x1, .f32⟩
  | 97 => ⟨S_, .f32⟩
  | 98 => ⟨S8x1, .f32⟩
  | 99 => ⟨S8x1, .f32⟩
  | 100 => ⟨S8x750, .f32⟩
  | 101 => ⟨S8x750, .i1⟩
  | 102 => ⟨S_, .f32⟩
  | 103 => ⟨S_, .f32⟩
  | 104 => ⟨S8x750, .f32⟩
  | 105 => ⟨S8x750, .f32⟩
  | 106 => ⟨S8x750, .f32⟩
  | 107 => ⟨S8x750, .f32⟩
  | 108 => ⟨S_, .f32⟩
  | 109 => ⟨S8x750, .f32⟩
  | 110 => ⟨S8x750, .i1⟩
  | 111 => ⟨S_, .f32⟩
  | 112 => ⟨S_, .f32⟩
  | 113 => ⟨S8x750, .f32⟩
  | 114 => ⟨S8x750, .f32⟩
  | 115 => ⟨S8x750, .f32⟩
  | 116 => ⟨S_, .f32⟩
  | 117 => ⟨S8x750, .f32⟩
  | 118 => ⟨S8x750, .i1⟩
  | 119 => ⟨S_, .f32⟩
  | 120 => ⟨S_, .f32⟩
  | 121 => ⟨S8x750, .f32⟩
  | 122 => ⟨S8x750, .f32⟩
  | 123 => ⟨S8x750, .f32⟩
  | 124 => ⟨S_, .f32⟩
  | 125 => ⟨S8x750, .f32⟩
  | 126 => ⟨S8x750, .i1⟩
  | 127 => ⟨S_, .f32⟩
  | _ => ⟨S8x750x2048, .f32⟩

abbrev hbmTy0_2 (i : Nat) : BufTy := match i % 128 with
  | 0 => ⟨S_, .f32⟩
  | 1 => ⟨S8x750, .f32⟩
  | 2 => ⟨S8x750, .f32⟩
  | 3 => ⟨S8x750, .f32⟩
  | 4 => ⟨S_, .f32⟩
  | 5 => ⟨S8, .f32⟩
  | 6 => ⟨S8x1, .f32⟩
  | 7 => ⟨S8x750, .f32⟩
  | 8 => ⟨S8x750, .f32⟩
  | 9 => ⟨S8x750, .f32⟩
  | 10 => ⟨S8x750, .f32⟩
  | 11 => ⟨S8x750, .f32⟩
  | 12 => ⟨S8x750, .i32⟩
  | 13 => ⟨S8x750, .f32⟩
  | 14 => ⟨S8x750, .i32⟩
  | 15 => ⟨S8x37, .i32⟩
  | 16 => ⟨S8x750, .f32⟩
  | 17 => ⟨S8x750, .f32⟩
  | 18 => ⟨S8x750, .f32⟩
  | 19 => ⟨S8x750, .i32⟩
  | 20 => ⟨S8x750, .f32⟩
  | 21 => ⟨S8x750, .i32⟩
  | 22 => ⟨S8x37, .i32⟩
  | 23 => ⟨S8x750, .f32⟩
  | 24 => ⟨S8x750, .f32⟩
  | 25 => ⟨S8x750, .f32⟩
  | 26 => ⟨S8x750, .i32⟩
  | 27 => ⟨S8x750, .f32⟩
  | 28 => ⟨S8x750, .i32⟩
  | 29 => ⟨S8x37, .i32⟩
  | 30 => ⟨S8x750, .f32⟩
  | 31 => ⟨S8x750, .f32⟩
  | 32 => ⟨S8x750, .f32⟩
  | 33 => ⟨S8x750, .i32⟩
  | 34 => ⟨S8x750, .f32⟩
  | 35 => ⟨S8x750, .i32⟩
  | 36 => ⟨S8x37, .i32⟩
  | 37 => ⟨S8x37x1, .i32⟩
  | 38 => ⟨S8x37x512, .i32⟩
  | 39 => ⟨S_, .i32⟩
  | 40 => ⟨S8x37x512, .i32⟩
  | 41 => ⟨S8x37x512, .i1⟩
  | 42 => ⟨S_, .i32⟩
  | 43 => ⟨S8x37x512, .i32⟩
  | 44 => ⟨S8x37x512, .i32⟩
  | 45 => ⟨S8x37x512, .i32⟩
  | 46 => ⟨S8x37x512x1, .i32⟩
  | 47 => ⟨S1, .i32⟩
  | 48 => ⟨S_, .i32⟩
  | 49 => ⟨S8x37x512x1, .i32⟩
  | 50 => ⟨S8x37x512x1, .i1⟩
  | 51 => ⟨S1x1x1x1, .i32⟩
  | 52 => ⟨S8x37x512x1, .i32⟩
  | 53 => ⟨S8x37x512x1, .i1⟩
  | 54 => ⟨S8x37x512x1, .i1⟩
  | 55 => ⟨S_, .i1⟩
  | 56 => ⟨S8x37x512, .i1⟩
  | 57 => ⟨S8x37x512, .f32⟩
  | 58 => ⟨S_, .f32⟩
  | 59 => ⟨S8x37x512, .f32⟩
  | 60 => ⟨S8x37x512, .f32⟩
  | 61 => ⟨S8x37x1, .i32⟩
  | 62 => ⟨S8x37x512, .i32⟩
  | 63 => ⟨S_, .i32⟩
  | 64 => ⟨S8x37x512, .i32⟩
  | 65 => ⟨S8x37x512, .i1⟩
  | 66 => ⟨S_, .i32⟩
  | 67 => ⟨S8x37x512, .i32⟩
  | 68 => ⟨S8x37x512, .i32⟩
  | 69 => ⟨S8x37x512, .i32⟩
  | 70 => ⟨S8x37x512x1, .i32⟩
  | 71 => ⟨S1, .i32⟩
  | 72 => ⟨S_, .i32⟩
  | 73 => ⟨S8x37x512x1, .i32⟩
  | 74 => ⟨S8x37x512x1, .i1⟩
  | 75 => ⟨S1x1x1x1, .i32⟩
  | 76 => ⟨S8x37x512x1, .i32⟩
  | 77 => ⟨S8x37x512x1, .i1⟩
  | 78 => ⟨S8x37x512x1, .i1⟩
  | 79 => ⟨S_, .i1⟩
  | 80 => ⟨S8x37x512, .i1⟩
  | 81 => ⟨S8x37x512, .f32⟩
  | 82 => ⟨S_, .f32⟩
  | 83 => ⟨S8x37x512, .f32⟩
  | 84 => ⟨S8x37x512, .f32⟩
  | 85 => ⟨S8x37x1, .i32⟩
  | 86 => ⟨S8x37x512, .i32⟩
  | 87 => ⟨S_, .i32⟩
  | 88 => ⟨S8x37x512, .i32⟩
  | 89 => ⟨S8x37x512, .i1⟩
  | 90 => ⟨S_, .i32⟩
  | 91 => ⟨S8x37x512, .i32⟩
  | 92 => ⟨S8x37x512, .i32⟩
  | 93 => ⟨S8x37x512, .i32⟩
  | 94 => ⟨S8x37x512x1, .i32⟩
  | 95 => ⟨S1, .i32⟩
  | 96 => ⟨S_, .i32⟩
  | 97 => ⟨S8x37x512x1, .i32⟩
  | 98 => ⟨S8x37x512x1, .i1⟩
  | 99 => ⟨S1x1x1x1, .i32⟩
  | 100 => ⟨S8x37x512x1, .i32⟩
  | 101 => ⟨S8x37x512x1, .i1⟩
  | 102 => ⟨S8x37x512x1, .i1⟩
  | 103 => ⟨S_, .i1⟩
  | 104 => ⟨S8x37x512, .i1⟩
  | 105 => ⟨S8x37x512, .f32⟩
  | 106 => ⟨S_, .f32⟩
  | 107 => ⟨S8x37x512, .f32⟩
  | 108 => ⟨S8x37x512, .f32⟩
  | 109 => ⟨S8x37x1, .i32⟩
  | 110 => ⟨S8x37x512, .i32⟩
  | 111 => ⟨S_, .i32⟩
  | 112 => ⟨S8x37x512, .i32⟩
  | 113 => ⟨S8x37x512, .i1⟩
  | 114 => ⟨S_, .i32⟩
  | 115 => ⟨S8x37x512, .i32⟩
  | 116 => ⟨S8x37x512, .i32⟩
  | 117 => ⟨S8x37x512, .i32⟩
  | 118 => ⟨S8x37x512x1, .i32⟩
  | 119 => ⟨S1, .i32⟩
  | 120 => ⟨S_, .i32⟩
  | 121 => ⟨S8x37x512x1, .i32⟩
  | 122 => ⟨S8x37x512x1, .i1⟩
  | 123 => ⟨S1x1x1x1, .i32⟩
  | 124 => ⟨S8x37x512x1, .i32⟩
  | 125 => ⟨S8x37x512x1, .i1⟩
  | 126 => ⟨S8x37x512x1, .i1⟩
  | 127 => ⟨S_, .i1⟩
  | _ => ⟨S8x750x2048, .f32⟩

abbrev hbmTy0_3 (i : Nat) : BufTy := match i % 128 with
  | 0 => ⟨S8x37x512, .i1⟩
  | 1 => ⟨S8x37x512, .f32⟩
  | 2 => ⟨S_, .f32⟩
  | 3 => ⟨S8x37x512, .f32⟩
  | 4 => ⟨S8x37x512, .f32⟩
  | 5 => ⟨S8x37x1, .i32⟩
  | 6 => ⟨S8x37x512, .i32⟩
  | 7 => ⟨S_, .i32⟩
  | 8 => ⟨S8x37x512, .i32⟩
  | 9 => ⟨S8x37x512, .i1⟩
  | 10 => ⟨S_, .i32⟩
  | 11 => ⟨S8x37x512, .i32⟩
  | 12 => ⟨S8x37x512, .i32⟩
  | 13 => ⟨S8x37x512, .i32⟩
  | 14 => ⟨S8x37x512x1, .i32⟩
  | 15 => ⟨S1, .i32⟩
  | 16 => ⟨S_, .i32⟩
  | 17 => ⟨S8x37x512x1, .i32⟩
  | 18 => ⟨S8x37x512x1, .i1⟩
  | 19 => ⟨S1x1x1x1, .i32⟩
  | 20 => ⟨S8x37x512x1, .i32⟩
  | 21 => ⟨S8x37x512x1, .i1⟩
  | 22 => ⟨S8x37x512x1, .i1⟩
  | 23 => ⟨S_, .i1⟩
  | 24 => ⟨S8x37x512, .i1⟩
  | 25 => ⟨S8x37x512, .f32⟩
  | 26 => ⟨S_, .f32⟩
  | 27 => ⟨S8x37x512, .f32⟩
  | 28 => ⟨S8x37x512, .f32⟩
  | 29 => ⟨S8x37x1, .i32⟩
  | 30 => ⟨S8x37x512, .i32⟩
  | 31 => ⟨S_, .i32⟩
  | 32 => ⟨S8x37x512, .i32⟩
  | 33 => ⟨S8x37x512, .i1⟩
  | 34 => ⟨S_, .i32⟩
  | 35 => ⟨S8x37x512, .i32⟩
  | 36 => ⟨S8x37x512, .i32⟩
  | 37 => ⟨S8x37x512, .i32⟩
  | 38 => ⟨S8x37x512x1, .i32⟩
  | 39 => ⟨S1, .i32⟩
  | 40 => ⟨S_, .i32⟩
  | 41 => ⟨S8x37x512x1, .i32⟩
  | 42 => ⟨S8x37x512x1, .i1⟩
  | 43 => ⟨S1x1x1x1, .i32⟩
  | 44 => ⟨S8x37x512x1, .i32⟩
  | 45 => ⟨S8x37x512x1, .i1⟩
  | 46 => ⟨S8x37x512x1, .i1⟩
  | 47 => ⟨S_, .i1⟩
  | 48 => ⟨S8x37x512, .i1⟩
  | 49 => ⟨S8x37x512, .f32⟩
  | 50 => ⟨S_, .f32⟩
  | 51 => ⟨S8x37x512, .f32⟩
  | 52 => ⟨S8x37x512, .f32⟩
  | 53 => ⟨S8x37x1, .i32⟩
  | 54 => ⟨S8x37x512, .i32⟩
  | 55 => ⟨S_, .i32⟩
  | 56 => ⟨S8x37x512, .i32⟩
  | 57 => ⟨S8x37x512, .i1⟩
  | 58 => ⟨S_, .i32⟩
  | 59 => ⟨S8x37x512, .i32⟩
  | 60 => ⟨S8x37x512, .i32⟩
  | 61 => ⟨S8x37x512, .i32⟩
  | 62 => ⟨S8x37x512x1, .i32⟩
  | 63 => ⟨S1, .i32⟩
  | 64 => ⟨S_, .i32⟩
  | 65 => ⟨S8x37x512x1, .i32⟩
  | 66 => ⟨S8x37x512x1, .i1⟩
  | 67 => ⟨S1x1x1x1, .i32⟩
  | 68 => ⟨S8x37x512x1, .i32⟩
  | 69 => ⟨S8x37x512x1, .i1⟩
  | 70 => ⟨S8x37x512x1, .i1⟩
  | 71 => ⟨S_, .i1⟩
  | 72 => ⟨S8x37x512, .i1⟩
  | 73 => ⟨S8x37x512, .f32⟩
  | 74 => ⟨S_, .f32⟩
  | 75 => ⟨S8x37x512, .f32⟩
  | 76 => ⟨S8x37x512, .f32⟩
  | 77 => ⟨S8x37x1, .i32⟩
  | 78 => ⟨S8x37x512, .i32⟩
  | 79 => ⟨S_, .i32⟩
  | 80 => ⟨S8x37x512, .i32⟩
  | 81 => ⟨S8x37x512, .i1⟩
  | 82 => ⟨S_, .i32⟩
  | 83 => ⟨S8x37x512, .i32⟩
  | 84 => ⟨S8x37x512, .i32⟩
  | 85 => ⟨S8x37x512, .i32⟩
  | 86 => ⟨S8x37x512x1, .i32⟩
  | 87 => ⟨S1, .i32⟩
  | 88 => ⟨S_, .i32⟩
  | 89 => ⟨S8x37x512x1, .i32⟩
  | 90 => ⟨S8x37x512x1, .i1⟩
  | 91 => ⟨S1x1x1x1, .i32⟩
  | 92 => ⟨S8x37x512x1, .i32⟩
  | 93 => ⟨S8x37x512x1, .i1⟩
  | 94 => ⟨S8x37x512x1, .i1⟩
  | 95 => ⟨S_, .i1⟩
  | 96 => ⟨S8x37x512, .i1⟩
  | 97 => ⟨S8x37x512, .f32⟩
  | 98 => ⟨S_, .f32⟩
  | 99 => ⟨S8x37x512, .f32⟩
  | 100 => ⟨S8x37x512, .f32⟩
  | 101 => ⟨S8x37x1, .i32⟩
  | 102 => ⟨S8x37x512, .i32⟩
  | 103 => ⟨S_, .i32⟩
  | 104 => ⟨S8x37x512, .i32⟩
  | 105 => ⟨S8x37x512, .i1⟩
  | 106 => ⟨S_, .i32⟩
  | 107 => ⟨S8x37x512, .i32⟩
  | 108 => ⟨S8x37x512, .i32⟩
  | 109 => ⟨S8x37x512, .i32⟩
  | 110 => ⟨S8x37x512x1, .i32⟩
  | 111 => ⟨S1, .i32⟩
  | 112 => ⟨S_, .i32⟩
  | 113 => ⟨S8x37x512x1, .i32⟩
  | 114 => ⟨S8x37x512x1, .i1⟩
  | 115 => ⟨S1x1x1x1, .i32⟩
  | 116 => ⟨S8x37x512x1, .i32⟩
  | 117 => ⟨S8x37x512x1, .i1⟩
  | 118 => ⟨S8x37x512x1, .i1⟩
  | 119 => ⟨S_, .i1⟩
  | 120 => ⟨S8x37x512, .i1⟩
  | 121 => ⟨S8x37x512, .f32⟩
  | 122 => ⟨S_, .f32⟩
  | 123 => ⟨S8x37x512, .f32⟩
  | 124 => ⟨S8x37x512, .f32⟩
  | 125 => ⟨S8x37x1, .i32⟩
  | 126 => ⟨S8x37x512, .i32⟩
  | 127 => ⟨S_, .i32⟩
  | _ => ⟨S8x750x2048, .f32⟩

abbrev hbmTy0_4 (i : Nat) : BufTy := match i % 128 with
  | 0 => ⟨S8x37x512, .i32⟩
  | 1 => ⟨S8x37x512, .i1⟩
  | 2 => ⟨S_, .i32⟩
  | 3 => ⟨S8x37x512, .i32⟩
  | 4 => ⟨S8x37x512, .i32⟩
  | 5 => ⟨S8x37x512, .i32⟩
  | 6 => ⟨S8x37x512x1, .i32⟩
  | 7 => ⟨S1, .i32⟩
  | 8 => ⟨S_, .i32⟩
  | 9 => ⟨S8x37x512x1, .i32⟩
  | 10 => ⟨S8x37x512x1, .i1⟩
  | 11 => ⟨S1x1x1x1, .i32⟩
  | 12 => ⟨S8x37x512x1, .i32⟩
  | 13 => ⟨S8x37x512x1, .i1⟩
  | 14 => ⟨S8x37x512x1, .i1⟩
  | 15 => ⟨S_, .i1⟩
  | 16 => ⟨S8x37x512, .i1⟩
  | 17 => ⟨S8x37x512, .f32⟩
  | 18 => ⟨S_, .f32⟩
  | 19 => ⟨S8x37x512, .f32⟩
  | 20 => ⟨S8x37x512, .f32⟩
  | 21 => ⟨S8x37x1, .i32⟩
  | 22 => ⟨S8x37x512, .i32⟩
  | 23 => ⟨S_, .i32⟩
  | 24 => ⟨S8x37x512, .i32⟩
  | 25 => ⟨S8x37x512, .i1⟩
  | 26 => ⟨S_, .i32⟩
  | 27 => ⟨S8x37x512, .i32⟩
  | 28 => ⟨S8x37x512, .i32⟩
  | 29 => ⟨S8x37x512, .i32⟩
  | 30 => ⟨S8x37x512x1, .i32⟩
  | 31 => ⟨S1, .i32⟩
  | 32 => ⟨S_, .i32⟩
  | 33 => ⟨S8x37x512x1, .i32⟩
  | 34 => ⟨S8x37x512x1, .i1⟩
  | 35 => ⟨S1x1x1x1, .i32⟩
  | 36 => ⟨S8x37x512x1, .i32⟩
  | 37 => ⟨S8x37x512x1, .i1⟩
  | 38 => ⟨S8x37x512x1, .i1⟩
  | 39 => ⟨S_, .i1⟩
  | 40 => ⟨S8x37x512, .i1⟩
  | 41 => ⟨S8x37x512, .f32⟩
  | 42 => ⟨S_, .f32⟩
  | 43 => ⟨S8x37x512, .f32⟩
  | 44 => ⟨S8x37x512, .f32⟩
  | 45 => ⟨S8x37x1, .i32⟩
  | 46 => ⟨S8x37x512, .i32⟩
  | 47 => ⟨S_, .i32⟩
  | 48 => ⟨S8x37x512, .i32⟩
  | 49 => ⟨S8x37x512, .i1⟩
  | 50 => ⟨S_, .i32⟩
  | 51 => ⟨S8x37x512, .i32⟩
  | 52 => ⟨S8x37x512, .i32⟩
  | 53 => ⟨S8x37x512, .i32⟩
  | 54 => ⟨S8x37x512x1, .i32⟩
  | 55 => ⟨S1, .i32⟩
  | 56 => ⟨S_, .i32⟩
  | 57 => ⟨S8x37x512x1, .i32⟩
  | 58 => ⟨S8x37x512x1, .i1⟩
  | 59 => ⟨S1x1x1x1, .i32⟩
  | 60 => ⟨S8x37x512x1, .i32⟩
  | 61 => ⟨S8x37x512x1, .i1⟩
  | 62 => ⟨S8x37x512x1, .i1⟩
  | 63 => ⟨S_, .i1⟩
  | 64 => ⟨S8x37x512, .i1⟩
  | 65 => ⟨S8x37x512, .f32⟩
  | 66 => ⟨S_, .f32⟩
  | 67 => ⟨S8x37x512, .f32⟩
  | 68 => ⟨S8x37x512, .f32⟩
  | _ => ⟨S8x750x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x750x2048, .f32⟩

abbrev bufTy : (tb : Table) → Fin (tcTables nBuf tb) → BufTy
  | .hbm, ⟨i, _⟩ => hbmTy i
  | _, _ => ⟨S8x750x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call1_cst : Ref sig .tc := ⟨.hbm, 37, rfl⟩
abbrev main_call1_v0 : Ref sig .tc := ⟨.hbm, 38, rfl⟩
abbrev main_v21 : Ref sig .tc := ⟨.hbm, 39, rfl⟩
abbrev main_v22 : Ref sig .tc := ⟨.hbm, 40, rfl⟩
abbrev main_c_0 : Ref sig .tc := ⟨.hbm, 41, rfl⟩
abbrev main_call2_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call3_cst : Ref sig .tc := ⟨.hbm, 64, rfl⟩
abbrev main_call3_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_2 : Ref sig .tc := ⟨.hbm, 74, rfl⟩
abbrev main_v51 : Ref sig .tc := ⟨.hbm, 75, rfl⟩
abbrev main_v52 : Ref sig .tc := ⟨.hbm, 76, rfl⟩
abbrev main_cst_3 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_4 : Ref sig .tc := ⟨.hbm, 88, rfl⟩
abbrev main_v63 : Ref sig .tc := ⟨.hbm, 89, rfl⟩
abbrev main_v64 : Ref sig .tc := ⟨.hbm, 90, rfl⟩
abbrev main_cst_5 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_6 : Ref sig .tc := ⟨.hbm, 95, rfl⟩
abbrev main_call4_v0 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_7 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_call5_cst : Ref sig .tc := ⟨.hbm, 118, rfl⟩
abbrev main_call5_v0 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_8 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_9 : Ref sig .tc := ⟨.hbm, 130, rfl⟩
abbrev main_v97 : Ref sig .tc := ⟨.hbm, 131, rfl⟩
abbrev main_v98 : Ref sig .tc := ⟨.hbm, 132, rfl⟩
abbrev main_cst_10 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_11 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_call6_cst : Ref sig .tc := ⟨.hbm, 141, rfl⟩
abbrev main_call6_call0_v0 : Ref sig .tc := ⟨.hbm, 142, rfl⟩
abbrev main_call6_call0_c : Ref sig .tc := ⟨.hbm, 143, rfl⟩
abbrev main_call6_call0_v1 : Ref sig .tc := ⟨.hbm, 144, rfl⟩
abbrev main_call6_call0_v2 : Ref sig .tc := ⟨.hbm, 145, rfl⟩
abbrev main_call6_call0_cst : Ref sig .tc := ⟨.hbm, 146, rfl⟩
abbrev main_call6_call0_call0_v0 : Ref sig .tc := ⟨.hbm, 147, rfl⟩
abbrev main_call6_call0_call0_v1 : Ref sig .tc := ⟨.hbm, 148, rfl⟩
abbrev main_call6_call0_call0_v2 : Ref sig .tc := ⟨.hbm, 149, rfl⟩
abbrev main_call6_call0_v3 : Ref sig .tc := ⟨.hbm, 150, rfl⟩
abbrev main_call6_call0_v4 : Ref sig .tc := ⟨.hbm, 151, rfl⟩
abbrev main_call6_call0_cst_0 : Ref sig .tc := ⟨.hbm, 152, rfl⟩
abbrev main_call6_call0_cst_1 : Ref sig .tc := ⟨.hbm, 153, rfl⟩
abbrev main_call6_call0_v5 : Ref sig .tc := ⟨.hbm, 154, rfl⟩
abbrev main_call6_call0_v6 : Ref sig .tc := ⟨.hbm, 155, rfl⟩
abbrev main_call6_call0_v7 : Ref sig .tc := ⟨.hbm, 156, rfl⟩
abbrev main_call6_call0_v8 : Ref sig .tc := ⟨.hbm, 157, rfl⟩
abbrev main_call6_call0_v9 : Ref sig .tc := ⟨.hbm, 158, rfl⟩
abbrev main_call6_call0_cst_2 : Ref sig .tc := ⟨.hbm, 159, rfl⟩
abbrev main_call6_call0_v10 : Ref sig .tc := ⟨.hbm, 160, rfl⟩
abbrev main_call6_call0_cst_3 : Ref sig .tc := ⟨.hbm, 161, rfl⟩
abbrev main_call6_call0_cst_4 : Ref sig .tc := ⟨.hbm, 162, rfl⟩
abbrev main_call6_call0_v11 : Ref sig .tc := ⟨.hbm, 163, rfl⟩
abbrev main_call6_call0_cst_5 : Ref sig .tc := ⟨.hbm, 164, rfl⟩
abbrev main_call6_call0_v12 : Ref sig .tc := ⟨.hbm, 165, rfl⟩
abbrev main_call6_call0_cst_6 : Ref sig .tc := ⟨.hbm, 166, rfl⟩
abbrev main_call6_call0_cst_7 : Ref sig .tc := ⟨.hbm, 167, rfl⟩
abbrev main_call6_call0_v13 : Ref sig .tc := ⟨.hbm, 168, rfl⟩
abbrev main_call6_call0_cst_8 : Ref sig .tc := ⟨.hbm, 169, rfl⟩
abbrev main_call6_call0_v14 : Ref sig .tc := ⟨.hbm, 170, rfl⟩
abbrev main_call6_call0_v15 : Ref sig .tc := ⟨.hbm, 171, rfl⟩
abbrev main_call6_call0_v16 : Ref sig .tc := ⟨.hbm, 172, rfl⟩
abbrev main_call6_call0_v17 : Ref sig .tc := ⟨.hbm, 173, rfl⟩
abbrev main_call6_call0_v18 : Ref sig .tc := ⟨.hbm, 174, rfl⟩
abbrev main_call6_call0_v19 : Ref sig .tc := ⟨.hbm, 175, rfl⟩
abbrev main_call6_call0_v20 : Ref sig .tc := ⟨.hbm, 176, rfl⟩
abbrev main_call6_call0_v21 : Ref sig .tc := ⟨.hbm, 177, rfl⟩
abbrev main_call6_call0_cst_9 : Ref sig .tc := ⟨.hbm, 178, rfl⟩
abbrev main_call6_call0_v22 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_cst_12 : Ref sig .tc := ⟨.hbm, 183, rfl⟩
abbrev main_cst_13 : Ref sig .tc := ⟨.hbm, 184, rfl⟩
abbrev main_call7_v0 : Ref sig .tc := ⟨.hbm, 185, rfl⟩
abbrev main_call7_v1 : Ref sig .tc := ⟨.hbm, 186, rfl⟩
abbrev main_v108 : Ref sig .tc := ⟨.hbm, 187, rfl⟩
abbrev main_call8_cst : Ref sig .tc := ⟨.hbm, 188, rfl⟩
abbrev main_call8_call0_v0 : Ref sig .tc := ⟨.hbm, 189, rfl⟩
abbrev main_call8_call0_c : Ref sig .tc := ⟨.hbm, 190, rfl⟩
abbrev main_call8_call0_v1 : Ref sig .tc := ⟨.hbm, 191, rfl⟩
abbrev main_call8_call0_v2 : Ref sig .tc := ⟨.hbm, 192, rfl⟩
abbrev main_call8_call0_cst : Ref sig .tc := ⟨.hbm, 193, rfl⟩
abbrev main_call8_call0_call0_v0 : Ref sig .tc := ⟨.hbm, 194, rfl⟩
abbrev main_call8_call0_call0_v1 : Ref sig .tc := ⟨.hbm, 195, rfl⟩
abbrev main_call8_call0_call0_v2 : Ref sig .tc := ⟨.hbm, 196, rfl⟩
abbrev main_call8_call0_v3 : Ref sig .tc := ⟨.hbm, 197, rfl⟩
abbrev main_call8_call0_v4 : Ref sig .tc := ⟨.hbm, 198, rfl⟩
abbrev main_call8_call0_cst_0 : Ref sig .tc := ⟨.hbm, 199, rfl⟩
abbrev main_call8_call0_cst_1 : Ref sig .tc := ⟨.hbm, 200, rfl⟩
abbrev main_call8_call0_v5 : Ref sig .tc := ⟨.hbm, 201, rfl⟩
abbrev main_call8_call0_v6 : Ref sig .tc := ⟨.hbm, 202, rfl⟩
abbrev main_call8_call0_v7 : Ref sig .tc := ⟨.hbm, 203, rfl⟩
abbrev main_call8_call0_v8 : Ref sig .tc := ⟨.hbm, 204, rfl⟩
abbrev main_call8_call0_v9 : Ref sig .tc := ⟨.hbm, 205, rfl⟩
abbrev main_call8_call0_cst_2 : Ref sig .tc := ⟨.hbm, 206, rfl⟩
abbrev main_call8_call0_v10 : Ref sig .tc := ⟨.hbm, 207, rfl⟩
abbrev main_call8_call0_cst_3 : Ref sig .tc := ⟨.hbm, 208, rfl⟩
abbrev main_call8_call0_cst_4 : Ref sig .tc := ⟨.hbm, 209, rfl⟩
abbrev main_call8_call0_v11 : Ref sig .tc := ⟨.hbm, 210, rfl⟩
abbrev main_call8_call0_cst_5 : Ref sig .tc := ⟨.hbm, 211, rfl⟩
abbrev main_call8_call0_v12 : Ref sig .tc := ⟨.hbm, 212, rfl⟩
abbrev main_call8_call0_cst_6 : Ref sig .tc := ⟨.hbm, 213, rfl⟩
abbrev main_call8_call0_cst_7 : Ref sig .tc := ⟨.hbm, 214, rfl⟩
abbrev main_call8_call0_v13 : Ref sig .tc := ⟨.hbm, 215, rfl⟩
abbrev main_call8_call0_cst_8 : Ref sig .tc := ⟨.hbm, 216, rfl⟩
abbrev main_call8_call0_v14 : Ref sig .tc := ⟨.hbm, 217, rfl⟩
abbrev main_call8_call0_v15 : Ref sig .tc := ⟨.hbm, 218, rfl⟩
abbrev main_call8_call0_v16 : Ref sig .tc := ⟨.hbm, 219, rfl⟩
abbrev main_call8_call0_v17 : Ref sig .tc := ⟨.hbm, 220, rfl⟩
abbrev main_call8_call0_v18 : Ref sig .tc := ⟨.hbm, 221, rfl⟩
abbrev main_call8_call0_v19 : Ref sig .tc := ⟨.hbm, 222, rfl⟩
abbrev main_call8_call0_v20 : Ref sig .tc := ⟨.hbm, 223, rfl⟩
abbrev main_call8_call0_v21 : Ref sig .tc := ⟨.hbm, 224, rfl⟩
abbrev main_call8_call0_cst_9 : Ref sig .tc := ⟨.hbm, 225, rfl⟩
abbrev main_call8_call0_v22 : Ref sig .tc := ⟨.hbm, 226, rfl⟩
abbrev main_v109 : Ref sig .tc := ⟨.hbm, 227, rfl⟩
abbrev main_v110 : Ref sig .tc := ⟨.hbm, 228, rfl⟩
abbrev main_v111 : Ref sig .tc := ⟨.hbm, 229, rfl⟩
abbrev main_cst_14 : Ref sig .tc := ⟨.hbm, 230, rfl⟩
abbrev main_cst_15 : Ref sig .tc := ⟨.hbm, 231, rfl⟩
abbrev main_call9_v0 : Ref sig .tc := ⟨.hbm, 232, rfl⟩
abbrev main_call9_v1 : Ref sig .tc := ⟨.hbm, 233, rfl⟩
abbrev main_v112 : Ref sig .tc := ⟨.hbm, 234, rfl⟩
abbrev main_v113 : Ref sig .tc := ⟨.hbm, 235, rfl⟩
abbrev main_cst_16 : Ref sig .tc := ⟨.hbm, 236, rfl⟩
abbrev main_v114 : Ref sig .tc := ⟨.hbm, 237, rfl⟩
abbrev main_v115 : Ref sig .tc := ⟨.hbm, 238, rfl⟩
abbrev main_cst_17 : Ref sig .tc := ⟨.hbm, 239, rfl⟩
abbrev main_cst_18 : Ref sig .tc := ⟨.hbm, 240, rfl⟩
abbrev main_call10_v0 : Ref sig .tc := ⟨.hbm, 241, rfl⟩
abbrev main_call10_v1 : Ref sig .tc := ⟨.hbm, 242, rfl⟩
abbrev main_v116 : Ref sig .tc := ⟨.hbm, 243, rfl⟩
abbrev main_cst_19 : Ref sig .tc := ⟨.hbm, 244, rfl⟩
abbrev main_v117 : Ref sig .tc := ⟨.hbm, 245, rfl⟩
abbrev main_v118 : Ref sig .tc := ⟨.hbm, 246, rfl⟩
abbrev main_cst_20 : Ref sig .tc := ⟨.hbm, 247, rfl⟩
abbrev main_cst_21 : Ref sig .tc := ⟨.hbm, 248, rfl⟩
abbrev main_call11_v0 : Ref sig .tc := ⟨.hbm, 249, rfl⟩
abbrev main_call11_v1 : Ref sig .tc := ⟨.hbm, 250, rfl⟩
abbrev main_v119 : Ref sig .tc := ⟨.hbm, 251, rfl⟩
abbrev main_cst_22 : Ref sig .tc := ⟨.hbm, 252, rfl⟩
abbrev main_v120 : Ref sig .tc := ⟨.hbm, 253, rfl⟩
abbrev main_v121 : Ref sig .tc := ⟨.hbm, 254, rfl⟩
abbrev main_cst_23 : Ref sig .tc := ⟨.hbm, 255, rfl⟩
abbrev main_cst_24 : Ref sig .tc := ⟨.hbm, 256, rfl⟩
abbrev main_call12_v0 : Ref sig .tc := ⟨.hbm, 257, rfl⟩
abbrev main_call12_v1 : Ref sig .tc := ⟨.hbm, 258, rfl⟩
abbrev main_v122 : Ref sig .tc := ⟨.hbm, 259, rfl⟩
abbrev main_cst_25 : Ref sig .tc := ⟨.hbm, 260, rfl⟩
abbrev main_v123 : Ref sig .tc := ⟨.hbm, 261, rfl⟩
abbrev main_v124 : Ref sig .tc := ⟨.hbm, 262, rfl⟩
abbrev main_v125 : Ref sig .tc := ⟨.hbm, 263, rfl⟩
abbrev main_v126 : Ref sig .tc := ⟨.hbm, 264, rfl⟩
abbrev main_v127 : Ref sig .tc := ⟨.hbm, 265, rfl⟩
abbrev main_v128 : Ref sig .tc := ⟨.hbm, 266, rfl⟩
abbrev main_v129 : Ref sig .tc := ⟨.hbm, 267, rfl⟩
abbrev main_call13_v0 : Ref sig .tc := ⟨.hbm, 268, rfl⟩
abbrev main_call13_v1_0 : Ref sig .tc := ⟨.hbm, 269, rfl⟩
abbrev main_v130 : Ref sig .tc := ⟨.hbm, 270, rfl⟩
abbrev main_v131 : Ref sig .tc := ⟨.hbm, 271, rfl⟩
abbrev main_v132 : Ref sig .tc := ⟨.hbm, 272, rfl⟩
abbrev main_v133 : Ref sig .tc := ⟨.hbm, 273, rfl⟩
abbrev main_v134 : Ref sig .tc := ⟨.hbm, 274, rfl⟩
abbrev main_call14_v0 : Ref sig .tc := ⟨.hbm, 275, rfl⟩
abbrev main_call14_v1_0 : Ref sig .tc := ⟨.hbm, 276, rfl⟩
abbrev main_v135 : Ref sig .tc := ⟨.hbm, 277, rfl⟩
abbrev main_v136 : Ref sig .tc := ⟨.hbm, 278, rfl⟩
abbrev main_v137 : Ref sig .tc := ⟨.hbm, 279, rfl⟩
abbrev main_v138 : Ref sig .tc := ⟨.hbm, 280, rfl⟩
abbrev main_v139 : Ref sig .tc := ⟨.hbm, 281, rfl⟩
abbrev main_call15_v0 : Ref sig .tc := ⟨.hbm, 282, rfl⟩
abbrev main_call15_v1_0 : Ref sig .tc := ⟨.hbm, 283, rfl⟩
abbrev main_v140 : Ref sig .tc := ⟨.hbm, 284, rfl⟩
abbrev main_v141 : Ref sig .tc := ⟨.hbm, 285, rfl⟩
abbrev main_v142 : Ref sig .tc := ⟨.hbm, 286, rfl⟩
abbrev main_v143 : Ref sig .tc := ⟨.hbm, 287, rfl⟩
abbrev main_v144 : Ref sig .tc := ⟨.hbm, 288, rfl⟩
abbrev main_call16_v0 : Ref sig .tc := ⟨.hbm, 289, rfl⟩
abbrev main_call16_v1_0 : Ref sig .tc := ⟨.hbm, 290, rfl⟩
abbrev main_v145 : Ref sig .tc := ⟨.hbm, 291, rfl⟩
abbrev main_v146 : Ref sig .tc := ⟨.hbm, 292, rfl⟩
abbrev main_v147 : Ref sig .tc := ⟨.hbm, 293, rfl⟩
abbrev main_v148 : Ref sig .tc := ⟨.hbm, 294, rfl⟩
abbrev main_call17_c : Ref sig .tc := ⟨.hbm, 295, rfl⟩
abbrev main_call17_v0 : Ref sig .tc := ⟨.hbm, 296, rfl⟩
abbrev main_call17_v1 : Ref sig .tc := ⟨.hbm, 297, rfl⟩
abbrev main_call17_c_0 : Ref sig .tc := ⟨.hbm, 298, rfl⟩
abbrev main_call17_v2 : Ref sig .tc := ⟨.hbm, 299, rfl⟩
abbrev main_call17_v3 : Ref sig .tc := ⟨.hbm, 300, rfl⟩
abbrev main_call17_v4 : Ref sig .tc := ⟨.hbm, 301, rfl⟩
abbrev main_call17_v5 : Ref sig .tc := ⟨.hbm, 302, rfl⟩
abbrev main_call17_c_1 : Ref sig .tc := ⟨.hbm, 303, rfl⟩
abbrev main_call17_c_2 : Ref sig .tc := ⟨.hbm, 304, rfl⟩
abbrev main_call17_v6 : Ref sig .tc := ⟨.hbm, 305, rfl⟩
abbrev main_call17_v7 : Ref sig .tc := ⟨.hbm, 306, rfl⟩
abbrev main_call17_v8 : Ref sig .tc := ⟨.hbm, 307, rfl⟩
abbrev main_call17_v9 : Ref sig .tc := ⟨.hbm, 308, rfl⟩
abbrev main_call17_v10 : Ref sig .tc := ⟨.hbm, 309, rfl⟩
abbrev main_call17_v11 : Ref sig .tc := ⟨.hbm, 310, rfl⟩
abbrev main_call17_c_3 : Ref sig .tc := ⟨.hbm, 311, rfl⟩
abbrev main_call17_v12 : Ref sig .tc := ⟨.hbm, 312, rfl⟩
abbrev main_call17_v13 : Ref sig .tc := ⟨.hbm, 313, rfl⟩
abbrev main_call17_cst : Ref sig .tc := ⟨.hbm, 314, rfl⟩
abbrev main_call17_v14 : Ref sig .tc := ⟨.hbm, 315, rfl⟩
abbrev main_v149 : Ref sig .tc := ⟨.hbm, 316, rfl⟩
abbrev main_v150 : Ref sig .tc := ⟨.hbm, 317, rfl⟩
abbrev main_v151 : Ref sig .tc := ⟨.hbm, 318, rfl⟩
abbrev main_call18_c : Ref sig .tc := ⟨.hbm, 319, rfl⟩
abbrev main_call18_v0 : Ref sig .tc := ⟨.hbm, 320, rfl⟩
abbrev main_call18_v1 : Ref sig .tc := ⟨.hbm, 321, rfl⟩
abbrev main_call18_c_0 : Ref sig .tc := ⟨.hbm, 322, rfl⟩
abbrev main_call18_v2 : Ref sig .tc := ⟨.hbm, 323, rfl⟩
abbrev main_call18_v3 : Ref sig .tc := ⟨.hbm, 324, rfl⟩
abbrev main_call18_v4 : Ref sig .tc := ⟨.hbm, 325, rfl⟩
abbrev main_call18_v5 : Ref sig .tc := ⟨.hbm, 326, rfl⟩
abbrev main_call18_c_1 : Ref sig .tc := ⟨.hbm, 327, rfl⟩
abbrev main_call18_c_2 : Ref sig .tc := ⟨.hbm, 328, rfl⟩
abbrev main_call18_v6 : Ref sig .tc := ⟨.hbm, 329, rfl⟩
abbrev main_call18_v7 : Ref sig .tc := ⟨.hbm, 330, rfl⟩
abbrev main_call18_v8 : Ref sig .tc := ⟨.hbm, 331, rfl⟩
abbrev main_call18_v9 : Ref sig .tc := ⟨.hbm, 332, rfl⟩
abbrev main_call18_v10 : Ref sig .tc := ⟨.hbm, 333, rfl⟩
abbrev main_call18_v11 : Ref sig .tc := ⟨.hbm, 334, rfl⟩
abbrev main_call18_c_3 : Ref sig .tc := ⟨.hbm, 335, rfl⟩
abbrev main_call18_v12 : Ref sig .tc := ⟨.hbm, 336, rfl⟩
abbrev main_call18_v13 : Ref sig .tc := ⟨.hbm, 337, rfl⟩
abbrev main_call18_cst : Ref sig .tc := ⟨.hbm, 338, rfl⟩
abbrev main_call18_v14 : Ref sig .tc := ⟨.hbm, 339, rfl⟩
abbrev main_v152 : Ref sig .tc := ⟨.hbm, 340, rfl⟩
abbrev main_v153 : Ref sig .tc := ⟨.hbm, 341, rfl⟩
abbrev main_v154 : Ref sig .tc := ⟨.hbm, 342, rfl⟩
abbrev main_call19_c : Ref sig .tc := ⟨.hbm, 343, rfl⟩
abbrev main_call19_v0 : Ref sig .tc := ⟨.hbm, 344, rfl⟩
abbrev main_call19_v1 : Ref sig .tc := ⟨.hbm, 345, rfl⟩
abbrev main_call19_c_0 : Ref sig .tc := ⟨.hbm, 346, rfl⟩
abbrev main_call19_v2 : Ref sig .tc := ⟨.hbm, 347, rfl⟩
abbrev main_call19_v3 : Ref sig .tc := ⟨.hbm, 348, rfl⟩
abbrev main_call19_v4 : Ref sig .tc := ⟨.hbm, 349, rfl⟩
abbrev main_call19_v5 : Ref sig .tc := ⟨.hbm, 350, rfl⟩
abbrev main_call19_c_1 : Ref sig .tc := ⟨.hbm, 351, rfl⟩
abbrev main_call19_c_2 : Ref sig .tc := ⟨.hbm, 352, rfl⟩
abbrev main_call19_v6 : Ref sig .tc := ⟨.hbm, 353, rfl⟩
abbrev main_call19_v7 : Ref sig .tc := ⟨.hbm, 354, rfl⟩
abbrev main_call19_v8 : Ref sig .tc := ⟨.hbm, 355, rfl⟩
abbrev main_call19_v9 : Ref sig .tc := ⟨.hbm, 356, rfl⟩
abbrev main_call19_v10 : Ref sig .tc := ⟨.hbm, 357, rfl⟩
abbrev main_call19_v11 : Ref sig .tc := ⟨.hbm, 358, rfl⟩
abbrev main_call19_c_3 : Ref sig .tc := ⟨.hbm, 359, rfl⟩
abbrev main_call19_v12 : Ref sig .tc := ⟨.hbm, 360, rfl⟩
abbrev main_call19_v13 : Ref sig .tc := ⟨.hbm, 361, rfl⟩
abbrev main_call19_cst : Ref sig .tc := ⟨.hbm, 362, rfl⟩
abbrev main_call19_v14 : Ref sig .tc := ⟨.hbm, 363, rfl⟩
abbrev main_v155 : Ref sig .tc := ⟨.hbm, 364, rfl⟩
abbrev main_v156 : Ref sig .tc := ⟨.hbm, 365, rfl⟩
abbrev main_v157 : Ref sig .tc := ⟨.hbm, 366, rfl⟩
abbrev main_call20_c : Ref sig .tc := ⟨.hbm, 367, rfl⟩
abbrev main_call20_v0 : Ref sig .tc := ⟨.hbm, 368, rfl⟩
abbrev main_call20_v1 : Ref sig .tc := ⟨.hbm, 369, rfl⟩
abbrev main_call20_c_0 : Ref sig .tc := ⟨.hbm, 370, rfl⟩
abbrev main_call20_v2 : Ref sig .tc := ⟨.hbm, 371, rfl⟩
abbrev main_call20_v3 : Ref sig .tc := ⟨.hbm, 372, rfl⟩
abbrev main_call20_v4 : Ref sig .tc := ⟨.hbm, 373, rfl⟩
abbrev main_call20_v5 : Ref sig .tc := ⟨.hbm, 374, rfl⟩
abbrev main_call20_c_1 : Ref sig .tc := ⟨.hbm, 375, rfl⟩
abbrev main_call20_c_2 : Ref sig .tc := ⟨.hbm, 376, rfl⟩
abbrev main_call20_v6 : Ref sig .tc := ⟨.hbm, 377, rfl⟩
abbrev main_call20_v7 : Ref sig .tc := ⟨.hbm, 378, rfl⟩
abbrev main_call20_v8 : Ref sig .tc := ⟨.hbm, 379, rfl⟩
abbrev main_call20_v9 : Ref sig .tc := ⟨.hbm, 380, rfl⟩
abbrev main_call20_v10 : Ref sig .tc := ⟨.hbm, 381, rfl⟩
abbrev main_call20_v11 : Ref sig .tc := ⟨.hbm, 382, rfl⟩
abbrev main_call20_c_3 : Ref sig .tc := ⟨.hbm, 383, rfl⟩
abbrev main_call20_v12 : Ref sig .tc := ⟨.hbm, 384, rfl⟩
abbrev main_call20_v13 : Ref sig .tc := ⟨.hbm, 385, rfl⟩
abbrev main_call20_cst : Ref sig .tc := ⟨.hbm, 386, rfl⟩
abbrev main_call20_v14 : Ref sig .tc := ⟨.hbm, 387, rfl⟩
abbrev main_v158 : Ref sig .tc := ⟨.hbm, 388, rfl⟩
abbrev main_v159 : Ref sig .tc := ⟨.hbm, 389, rfl⟩
abbrev main_v160 : Ref sig .tc := ⟨.hbm, 390, rfl⟩
abbrev main_call21_c : Ref sig .tc := ⟨.hbm, 391, rfl⟩
abbrev main_call21_v0 : Ref sig .tc := ⟨.hbm, 392, rfl⟩
abbrev main_call21_v1 : Ref sig .tc := ⟨.hbm, 393, rfl⟩
abbrev main_call21_c_0 : Ref sig .tc := ⟨.hbm, 394, rfl⟩
abbrev main_call21_v2 : Ref sig .tc := ⟨.hbm, 395, rfl⟩
abbrev main_call21_v3 : Ref sig .tc := ⟨.hbm, 396, rfl⟩
abbrev main_call21_v4 : Ref sig .tc := ⟨.hbm, 397, rfl⟩
abbrev main_call21_v5 : Ref sig .tc := ⟨.hbm, 398, rfl⟩
abbrev main_call21_c_1 : Ref sig .tc := ⟨.hbm, 399, rfl⟩
abbrev main_call21_c_2 : Ref sig .tc := ⟨.hbm, 400, rfl⟩
abbrev main_call21_v6 : Ref sig .tc := ⟨.hbm, 401, rfl⟩
abbrev main_call21_v7 : Ref sig .tc := ⟨.hbm, 402, rfl⟩
abbrev main_call21_v8 : Ref sig .tc := ⟨.hbm, 403, rfl⟩
abbrev main_call21_v9 : Ref sig .tc := ⟨.hbm, 404, rfl⟩
abbrev main_call21_v10 : Ref sig .tc := ⟨.hbm, 405, rfl⟩
abbrev main_call21_v11 : Ref sig .tc := ⟨.hbm, 406, rfl⟩
abbrev main_call21_c_3 : Ref sig .tc := ⟨.hbm, 407, rfl⟩
abbrev main_call21_v12 : Ref sig .tc := ⟨.hbm, 408, rfl⟩
abbrev main_call21_v13 : Ref sig .tc := ⟨.hbm, 409, rfl⟩
abbrev main_call21_cst : Ref sig .tc := ⟨.hbm, 410, rfl⟩
abbrev main_call21_v14 : Ref sig .tc := ⟨.hbm, 411, rfl⟩
abbrev main_v161 : Ref sig .tc := ⟨.hbm, 412, rfl⟩
abbrev main_v162 : Ref sig .tc := ⟨.hbm, 413, rfl⟩
abbrev main_v163 : Ref sig .tc := ⟨.hbm, 414, rfl⟩
abbrev main_call22_c : Ref sig .tc := ⟨.hbm, 415, rfl⟩
abbrev main_call22_v0 : Ref sig .tc := ⟨.hbm, 416, rfl⟩
abbrev main_call22_v1 : Ref sig .tc := ⟨.hbm, 417, rfl⟩
abbrev main_call22_c_0 : Ref sig .tc := ⟨.hbm, 418, rfl⟩
abbrev main_call22_v2 : Ref sig .tc := ⟨.hbm, 419, rfl⟩
abbrev main_call22_v3 : Ref sig .tc := ⟨.hbm, 420, rfl⟩
abbrev main_call22_v4 : Ref sig .tc := ⟨.hbm, 421, rfl⟩
abbrev main_call22_v5 : Ref sig .tc := ⟨.hbm, 422, rfl⟩
abbrev main_call22_c_1 : Ref sig .tc := ⟨.hbm, 423, rfl⟩
abbrev main_call22_c_2 : Ref sig .tc := ⟨.hbm, 424, rfl⟩
abbrev main_call22_v6 : Ref sig .tc := ⟨.hbm, 425, rfl⟩
abbrev main_call22_v7 : Ref sig .tc := ⟨.hbm, 426, rfl⟩
abbrev main_call22_v8 : Ref sig .tc := ⟨.hbm, 427, rfl⟩
abbrev main_call22_v9 : Ref sig .tc := ⟨.hbm, 428, rfl⟩
abbrev main_call22_v10 : Ref sig .tc := ⟨.hbm, 429, rfl⟩
abbrev main_call22_v11 : Ref sig .tc := ⟨.hbm, 430, rfl⟩
abbrev main_call22_c_3 : Ref sig .tc := ⟨.hbm, 431, rfl⟩
abbrev main_call22_v12 : Ref sig .tc := ⟨.hbm, 432, rfl⟩
abbrev main_call22_v13 : Ref sig .tc := ⟨.hbm, 433, rfl⟩
abbrev main_call22_cst : Ref sig .tc := ⟨.hbm, 434, rfl⟩
abbrev main_call22_v14 : Ref sig .tc := ⟨.hbm, 435, rfl⟩
abbrev main_v164 : Ref sig .tc := ⟨.hbm, 436, rfl⟩
abbrev main_v165 : Ref sig .tc := ⟨.hbm, 437, rfl⟩
abbrev main_v166 : Ref sig .tc := ⟨.hbm, 438, rfl⟩
abbrev main_call23_c : Ref sig .tc := ⟨.hbm, 439, rfl⟩
abbrev main_call23_v0 : Ref sig .tc := ⟨.hbm, 440, rfl⟩
abbrev main_call23_v1 : Ref sig .tc := ⟨.hbm, 441, rfl⟩
abbrev main_call23_c_0 : Ref sig .tc := ⟨.hbm, 442, rfl⟩
abbrev main_call23_v2 : Ref sig .tc := ⟨.hbm, 443, rfl⟩
abbrev main_call23_v3 : Ref sig .tc := ⟨.hbm, 444, rfl⟩
abbrev main_call23_v4 : Ref sig .tc := ⟨.hbm, 445, rfl⟩
abbrev main_call23_v5 : Ref sig .tc := ⟨.hbm, 446, rfl⟩
abbrev main_call23_c_1 : Ref sig .tc := ⟨.hbm, 447, rfl⟩
abbrev main_call23_c_2 : Ref sig .tc := ⟨.hbm, 448, rfl⟩
abbrev main_call23_v6 : Ref sig .tc := ⟨.hbm, 449, rfl⟩
abbrev main_call23_v7 : Ref sig .tc := ⟨.hbm, 450, rfl⟩
abbrev main_call23_v8 : Ref sig .tc := ⟨.hbm, 451, rfl⟩
abbrev main_call23_v9 : Ref sig .tc := ⟨.hbm, 452, rfl⟩
abbrev main_call23_v10 : Ref sig .tc := ⟨.hbm, 453, rfl⟩
abbrev main_call23_v11 : Ref sig .tc := ⟨.hbm, 454, rfl⟩
abbrev main_call23_c_3 : Ref sig .tc := ⟨.hbm, 455, rfl⟩
abbrev main_call23_v12 : Ref sig .tc := ⟨.hbm, 456, rfl⟩
abbrev main_call23_v13 : Ref sig .tc := ⟨.hbm, 457, rfl⟩
abbrev main_call23_cst : Ref sig .tc := ⟨.hbm, 458, rfl⟩
abbrev main_call23_v14 : Ref sig .tc := ⟨.hbm, 459, rfl⟩
abbrev main_v167 : Ref sig .tc := ⟨.hbm, 460, rfl⟩
abbrev main_v168 : Ref sig .tc := ⟨.hbm, 461, rfl⟩
abbrev main_v169 : Ref sig .tc := ⟨.hbm, 462, rfl⟩
abbrev main_call24_c : Ref sig .tc := ⟨.hbm, 463, rfl⟩
abbrev main_call24_v0 : Ref sig .tc := ⟨.hbm, 464, rfl⟩
abbrev main_call24_v1 : Ref sig .tc := ⟨.hbm, 465, rfl⟩
abbrev main_call24_c_0 : Ref sig .tc := ⟨.hbm, 466, rfl⟩
abbrev main_call24_v2 : Ref sig .tc := ⟨.hbm, 467, rfl⟩
abbrev main_call24_v3 : Ref sig .tc := ⟨.hbm, 468, rfl⟩
abbrev main_call24_v4 : Ref sig .tc := ⟨.hbm, 469, rfl⟩
abbrev main_call24_v5 : Ref sig .tc := ⟨.hbm, 470, rfl⟩
abbrev main_call24_c_1 : Ref sig .tc := ⟨.hbm, 471, rfl⟩
abbrev main_call24_c_2 : Ref sig .tc := ⟨.hbm, 472, rfl⟩
abbrev main_call24_v6 : Ref sig .tc := ⟨.hbm, 473, rfl⟩
abbrev main_call24_v7 : Ref sig .tc := ⟨.hbm, 474, rfl⟩
abbrev main_call24_v8 : Ref sig .tc := ⟨.hbm, 475, rfl⟩
abbrev main_call24_v9 : Ref sig .tc := ⟨.hbm, 476, rfl⟩
abbrev main_call24_v10 : Ref sig .tc := ⟨.hbm, 477, rfl⟩
abbrev main_call24_v11 : Ref sig .tc := ⟨.hbm, 478, rfl⟩
abbrev main_call24_c_3 : Ref sig .tc := ⟨.hbm, 479, rfl⟩
abbrev main_call24_v12 : Ref sig .tc := ⟨.hbm, 480, rfl⟩
abbrev main_call24_v13 : Ref sig .tc := ⟨.hbm, 481, rfl⟩
abbrev main_call24_cst : Ref sig .tc := ⟨.hbm, 482, rfl⟩
abbrev main_call24_v14 : Ref sig .tc := ⟨.hbm, 483, rfl⟩
abbrev main_v170 : Ref sig .tc := ⟨.hbm, 484, rfl⟩
abbrev main_v171 : Ref sig .tc := ⟨.hbm, 485, rfl⟩
abbrev main_v172 : Ref sig .tc := ⟨.hbm, 486, rfl⟩
abbrev main_call25_c : Ref sig .tc := ⟨.hbm, 487, rfl⟩
abbrev main_call25_v0 : Ref sig .tc := ⟨.hbm, 488, rfl⟩
abbrev main_call25_v1 : Ref sig .tc := ⟨.hbm, 489, rfl⟩
abbrev main_call25_c_0 : Ref sig .tc := ⟨.hbm, 490, rfl⟩
abbrev main_call25_v2 : Ref sig .tc := ⟨.hbm, 491, rfl⟩
abbrev main_call25_v3 : Ref sig .tc := ⟨.hbm, 492, rfl⟩
abbrev main_call25_v4 : Ref sig .tc := ⟨.hbm, 493, rfl⟩
abbrev main_call25_v5 : Ref sig .tc := ⟨.hbm, 494, rfl⟩
abbrev main_call25_c_1 : Ref sig .tc := ⟨.hbm, 495, rfl⟩
abbrev main_call25_c_2 : Ref sig .tc := ⟨.hbm, 496, rfl⟩
abbrev main_call25_v6 : Ref sig .tc := ⟨.hbm, 497, rfl⟩
abbrev main_call25_v7 : Ref sig .tc := ⟨.hbm, 498, rfl⟩
abbrev main_call25_v8 : Ref sig .tc := ⟨.hbm, 499, rfl⟩
abbrev main_call25_v9 : Ref sig .tc := ⟨.hbm, 500, rfl⟩
abbrev main_call25_v10 : Ref sig .tc := ⟨.hbm, 501, rfl⟩
abbrev main_call25_v11 : Ref sig .tc := ⟨.hbm, 502, rfl⟩
abbrev main_call25_c_3 : Ref sig .tc := ⟨.hbm, 503, rfl⟩
abbrev main_call25_v12 : Ref sig .tc := ⟨.hbm, 504, rfl⟩
abbrev main_call25_v13 : Ref sig .tc := ⟨.hbm, 505, rfl⟩
abbrev main_call25_cst : Ref sig .tc := ⟨.hbm, 506, rfl⟩
abbrev main_call25_v14 : Ref sig .tc := ⟨.hbm, 507, rfl⟩
abbrev main_v173 : Ref sig .tc := ⟨.hbm, 508, rfl⟩
abbrev main_v174 : Ref sig .tc := ⟨.hbm, 509, rfl⟩
abbrev main_v175 : Ref sig .tc := ⟨.hbm, 510, rfl⟩
abbrev main_call26_c : Ref sig .tc := ⟨.hbm, 511, rfl⟩
abbrev main_call26_v0 : Ref sig .tc := ⟨.hbm, 512, rfl⟩
abbrev main_call26_v1 : Ref sig .tc := ⟨.hbm, 513, rfl⟩
abbrev main_call26_c_0 : Ref sig .tc := ⟨.hbm, 514, rfl⟩
abbrev main_call26_v2 : Ref sig .tc := ⟨.hbm, 515, rfl⟩
abbrev main_call26_v3 : Ref sig .tc := ⟨.hbm, 516, rfl⟩
abbrev main_call26_v4 : Ref sig .tc := ⟨.hbm, 517, rfl⟩
abbrev main_call26_v5 : Ref sig .tc := ⟨.hbm, 518, rfl⟩
abbrev main_call26_c_1 : Ref sig .tc := ⟨.hbm, 519, rfl⟩
abbrev main_call26_c_2 : Ref sig .tc := ⟨.hbm, 520, rfl⟩
abbrev main_call26_v6 : Ref sig .tc := ⟨.hbm, 521, rfl⟩
abbrev main_call26_v7 : Ref sig .tc := ⟨.hbm, 522, rfl⟩
abbrev main_call26_v8 : Ref sig .tc := ⟨.hbm, 523, rfl⟩
abbrev main_call26_v9 : Ref sig .tc := ⟨.hbm, 524, rfl⟩
abbrev main_call26_v10 : Ref sig .tc := ⟨.hbm, 525, rfl⟩
abbrev main_call26_v11 : Ref sig .tc := ⟨.hbm, 526, rfl⟩
abbrev main_call26_c_3 : Ref sig .tc := ⟨.hbm, 527, rfl⟩
abbrev main_call26_v12 : Ref sig .tc := ⟨.hbm, 528, rfl⟩
abbrev main_call26_v13 : Ref sig .tc := ⟨.hbm, 529, rfl⟩
abbrev main_call26_cst : Ref sig .tc := ⟨.hbm, 530, rfl⟩
abbrev main_call26_v14 : Ref sig .tc := ⟨.hbm, 531, rfl⟩
abbrev main_v176 : Ref sig .tc := ⟨.hbm, 532, rfl⟩
abbrev main_v177 : Ref sig .tc := ⟨.hbm, 533, rfl⟩
abbrev main_v178 : Ref sig .tc := ⟨.hbm, 534, rfl⟩
abbrev main_call27_c : Ref sig .tc := ⟨.hbm, 535, rfl⟩
abbrev main_call27_v0 : Ref sig .tc := ⟨.hbm, 536, rfl⟩
abbrev main_call27_v1 : Ref sig .tc := ⟨.hbm, 537, rfl⟩
abbrev main_call27_c_0 : Ref sig .tc := ⟨.hbm, 538, rfl⟩
abbrev main_call27_v2 : Ref sig .tc := ⟨.hbm, 539, rfl⟩
abbrev main_call27_v3 : Ref sig .tc := ⟨.hbm, 540, rfl⟩
abbrev main_call27_v4 : Ref sig .tc := ⟨.hbm, 541, rfl⟩
abbrev main_call27_v5 : Ref sig .tc := ⟨.hbm, 542, rfl⟩
abbrev main_call27_c_1 : Ref sig .tc := ⟨.hbm, 543, rfl⟩
abbrev main_call27_c_2 : Ref sig .tc := ⟨.hbm, 544, rfl⟩
abbrev main_call27_v6 : Ref sig .tc := ⟨.hbm, 545, rfl⟩
abbrev main_call27_v7 : Ref sig .tc := ⟨.hbm, 546, rfl⟩
abbrev main_call27_v8 : Ref sig .tc := ⟨.hbm, 547, rfl⟩
abbrev main_call27_v9 : Ref sig .tc := ⟨.hbm, 548, rfl⟩
abbrev main_call27_v10 : Ref sig .tc := ⟨.hbm, 549, rfl⟩
abbrev main_call27_v11 : Ref sig .tc := ⟨.hbm, 550, rfl⟩
abbrev main_call27_c_3 : Ref sig .tc := ⟨.hbm, 551, rfl⟩
abbrev main_call27_v12 : Ref sig .tc := ⟨.hbm, 552, rfl⟩
abbrev main_call27_v13 : Ref sig .tc := ⟨.hbm, 553, rfl⟩
abbrev main_call27_cst : Ref sig .tc := ⟨.hbm, 554, rfl⟩
abbrev main_call27_v14 : Ref sig .tc := ⟨.hbm, 555, rfl⟩
abbrev main_v179 : Ref sig .tc := ⟨.hbm, 556, rfl⟩
abbrev main_v180 : Ref sig .tc := ⟨.hbm, 557, rfl⟩
abbrev main_v181 : Ref sig .tc := ⟨.hbm, 558, rfl⟩
abbrev main_call28_c : Ref sig .tc := ⟨.hbm, 559, rfl⟩
abbrev main_call28_v0 : Ref sig .tc := ⟨.hbm, 560, rfl⟩
abbrev main_call28_v1 : Ref sig .tc := ⟨.hbm, 561, rfl⟩
abbrev main_call28_c_0 : Ref sig .tc := ⟨.hbm, 562, rfl⟩
abbrev main_call28_v2 : Ref sig .tc := ⟨.hbm, 563, rfl⟩
abbrev main_call28_v3 : Ref sig .tc := ⟨.hbm, 564, rfl⟩
abbrev main_call28_v4 : Ref sig .tc := ⟨.hbm, 565, rfl⟩
abbrev main_call28_v5 : Ref sig .tc := ⟨.hbm, 566, rfl⟩
abbrev main_call28_c_1 : Ref sig .tc := ⟨.hbm, 567, rfl⟩
abbrev main_call28_c_2 : Ref sig .tc := ⟨.hbm, 568, rfl⟩
abbrev main_call28_v6 : Ref sig .tc := ⟨.hbm, 569, rfl⟩
abbrev main_call28_v7 : Ref sig .tc := ⟨.hbm, 570, rfl⟩
abbrev main_call28_v8 : Ref sig .tc := ⟨.hbm, 571, rfl⟩
abbrev main_call28_v9 : Ref sig .tc := ⟨.hbm, 572, rfl⟩
abbrev main_call28_v10 : Ref sig .tc := ⟨.hbm, 573, rfl⟩
abbrev main_call28_v11 : Ref sig .tc := ⟨.hbm, 574, rfl⟩
abbrev main_call28_c_3 : Ref sig .tc := ⟨.hbm, 575, rfl⟩
abbrev main_call28_v12 : Ref sig .tc := ⟨.hbm, 576, rfl⟩
abbrev main_call28_v13 : Ref sig .tc := ⟨.hbm, 577, rfl⟩
abbrev main_call28_cst : Ref sig .tc := ⟨.hbm, 578, rfl⟩
abbrev main_call28_v14 : Ref sig .tc := ⟨.hbm, 579, rfl⟩
abbrev main_v182 : Ref sig .tc := ⟨.hbm, 580, rfl⟩

abbrev nD : Nat := 1
abbrev τ : Topo := Topo.v7x

variable {F : FTy → Type} [FloatOps F]
-- ==== Proof.IdealBase.lean ====
/- The first call: the convolution with its class scores, and the sum of the class scores. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.WritesUnit
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input block of a grid point, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of an input holds its block when the body starts. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The staging buffer of an input holds its block when the body starts. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The staging buffer of an input holds its block when the body starts. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The staging buffer of an input holds its block when the body starts. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- The staging buffer of an input holds its block when the body starts. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x752x2048 := Rect.unit (s := S1x752x2048) ![0, 0, 0] S1x752x2048.size inb_S1x752x2048_S1x752x2048_0_0_0
abbrev r0_1 : Rect S6144x512 := Rect.unit (s := S6144x512) ![0, 0] S6144x512.size inb_S6144x512_S6144x512_0_0
abbrev r0_2 : Rect S1x512 := Rect.unit (s := S1x512) ![0, 0] S1x512.size inb_S1x512_S1x512_0_0
abbrev r0_3 : Rect S1x750x512 := Rect.unit (s := S1x750x512) ![0, 0, 0] S1x750x512.size inb_S1x750x512_S1x750x512_0_0_0
abbrev r0_4 : Rect S1x512x20 := Rect.unit (s := S1x512x20) ![0, 0, 0] S1x512x20.size inb_S1x512x20_S1x512x20_0_0_0
abbrev r0_5 : Rect S1x20 := Rect.unit (s := S1x20) ![0, 0] S1x20.size inb_S1x20_S1x20_0_0
abbrev r0_6 : Rect S1x750x20 := Rect.unit (s := S1x750x20) ![0, 0, 0] S1x750x20.size inb_S1x750x20_S1x750x20_0_0_0
abbrev r0_7 : Rect S1x1x750 := Rect.unit (s := S1x1x750) ![0, 0, 0] S1x1x750.size inb_S1x1x750_S1x1x750_0_0_0

/-- What the body leaves in this output buffer, from the input blocks. -/
def out0_5 (x0 : Vec F S1x752x2048 .bf16) (x1 : Vec F S6144x512 .bf16) (x2 : Vec F S1x512 .f32) (x3 : Vec F S1x512x20 .bf16) (x4 : Vec F S1x20 .f32) : Vec F S1x750x512 .f32 :=
  View.canon [⟨r0_3, k0_pay3 (View.ld x0 r0_0) (View.ld x1 r0_1) (View.ld x2 r0_2)⟩]

/-- The stores cover the whole buffer. -/
theorem cover0_5 (p0 : Vec F S1x750x512 .f32) (y : S1x750x512.Idx) :
    ∃ pc ∈ ([⟨r0_3, p0⟩] : List (View.Piece (Elt F) S1x750x512 .f32)), y ∈ pc.1.set :=
  View.cover_of_tiled [⟨r0_3, p0⟩] S1x750x512.size (by rfl) y

/-- What the body leaves in this output buffer, from the input blocks. -/
def out0_6 (x0 : Vec F S1x752x2048 .bf16) (x1 : Vec F S6144x512 .bf16) (x2 : Vec F S1x512 .f32) (x3 : Vec F S1x512x20 .bf16) (x4 : Vec F S1x20 .f32) : Vec F S1x750x20 .f32 :=
  View.canon [⟨r0_6, k0_pay5 (View.ld x0 r0_0) (View.ld x1 r0_1) (View.ld x2 r0_2) (View.ld x3 r0_4) (View.ld x4 r0_5)⟩]

/-- The stores cover the whole buffer. -/
theorem cover0_6 (p0 : Vec F S1x750x20 .f32) (y : S1x750x20.Idx) :
    ∃ pc ∈ ([⟨r0_6, p0⟩] : List (View.Piece (Elt F) S1x750x20 .f32)), y ∈ pc.1.set :=
  View.cover_of_tiled [⟨r0_6, p0⟩] S1x750x20.size (by rfl) y

/-- What the body leaves in this output buffer, from the input blocks. -/
def out0_7 (x0 : Vec F S1x752x2048 .bf16) (x1 : Vec F S6144x512 .bf16) (x2 : Vec F S1x512 .f32) (x3 : Vec F S1x512x20 .bf16) (x4 : Vec F S1x20 .f32) : Vec F S1x1x750 .f32 :=
  View.canon [⟨r0_7, k0_pay1 (k0_pay6 (View.ld x0 r0_0) (View.ld x1 r0_1) (View.ld x2 r0_2) (View.ld x3 r0_4) (View.ld x4 r0_5))⟩]

/-- The stores cover the whole buffer. -/
theorem cover0_7 (p0 : Vec F S1x1x750 .f32) (y : S1x1x750.Idx) :
    ∃ pc ∈ ([⟨r0_7, p0⟩] : List (View.Piece (Elt F) S1x1x750 .f32)), y ∈ pc.1.set :=
  View.cover_of_tiled [⟨r0_7, p0⟩] S1x1x750.size (by rfl) y

set_option maxHeartbeats 1000000 in
/-- The body, run on whole buffers, leaves every output at its stated value and the inputs as they were. -/
theorem sound_kernel0 (c : Dev nD) (E : Set ℕ) (i : grid0.Coords) (arg1 : Memref sig .tc .vmem S1x752x2048 .bf16) (harg1 : arg1.IsWhole) (arg2 : Memref sig .tc .vmem S6144x512 .bf16) (harg2 : arg2.IsWhole) (arg3 : Memref sig .tc .vmem S1x512 .f32) (harg3 : arg3.IsWhole) (arg4 : Memref sig .tc .vmem S1x512x20 .bf16) (harg4 : arg4.IsWhole) (arg5 : Memref sig .tc .vmem S1x20 .f32) (harg5 : arg5.IsWhole) (arg6 : Memref sig .tc .vmem S1x750x512 .f32) (harg6 : arg6.IsWhole) (arg7 : Memref sig .tc .vmem S1x750x20 .f32) (harg7 : arg7.IsWhole) (arg8 : Memref sig .tc .vmem S1x1x750 .f32) (harg8 : arg8.IsWhole)
    (x0 : Vec F S1x752x2048 .bf16) (x1 : Vec F S6144x512 .bf16) (x2 : Vec F S1x512 .f32) (x3 : Vec F S1x512x20 .bf16) (x4 : Vec F S1x20 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4)) -∗ K ⟨⟩))
      ⊢ wp frame (wpE (defs₀ (F := F)) Variants.none c none) E (cc0__base_body i arg1 harg1 arg2 harg2 arg3 harg3 arg4 harg4 arg5 harg5 arg6 harg6 arg7 harg7 arg8 harg8) K := by
  simp only [cc0__base_body_eq_skeleton]; unfold cc0__base_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-- What each buffer holds before and after the body at every grid point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

/-- The arrays are the contents the call is entered with. -/
theorem A_eq0 (c : Dev nD) (w : Fin cfg0.W) : (dat0 V c).A w = V c (Pipeline.arrRef spec0 w) := by
  dsimp only [dat0]

/-- What the body leaves in each window. -/
theorem after0_0 (c : Dev nD) (t : Fin cfg0.N) : (dat0 V c).after 0 t = iblk0 V c 0 t := by dsimp only [dat0]
/-- What the body leaves in each window. -/
theorem after0_1 (c : Dev nD) (t : Fin cfg0.N) : (dat0 V c).after 1 t = iblk0 V c 1 t := by dsimp only [dat0]
/-- What the body leaves in each window. -/
theorem after0_2 (c : Dev nD) (t : Fin cfg0.N) : (dat0 V c).after 2 t = iblk0 V c 2 t := by dsimp only [dat0]
/-- What the body leaves in each window. -/
theorem after0_3 (c : Dev nD) (t : Fin cfg0.N) : (dat0 V c).after 3 t = iblk0 V c 3 t := by dsimp only [dat0]
/-- What the body leaves in each window. -/
theorem after0_4 (c : Dev nD) (t : Fin cfg0.N) : (dat0 V c).after 4 t = iblk0 V c 4 t := by dsimp only [dat0]
/-- What the body leaves in each window. -/
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
/-- What the body leaves in each window. -/
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
/-- What the body leaves in each window. -/
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-- The staging buffer of an input holds its block when the body starts. -/
theorem before0_0 (c : Dev nD) (t : Fin cfg0.N) (d) : (dat0 V c).before 0 t d = iblk0 V c 0 t :=
  before0_0_of V (dat0 V c) (A_eq0 V c 0) (after0_0 V c) t d
/-- The staging buffer of an input holds its block when the body starts. -/
theorem before0_1 (c : Dev nD) (t : Fin cfg0.N) (d) : (dat0 V c).before 1 t d = iblk0 V c 1 t :=
  before0_1_of V (dat0 V c) (A_eq0 V c 1) (after0_1 V c) t d
/-- The staging buffer of an input holds its block when the body starts. -/
theorem before0_2 (c : Dev nD) (t : Fin cfg0.N) (d) : (dat0 V c).before 2 t d = iblk0 V c 2 t :=
  before0_2_of V (dat0 V c) (A_eq0 V c 2) (after0_2 V c) t d
/-- The staging buffer of an input holds its block when the body starts. -/
theorem before0_3 (c : Dev nD) (t : Fin cfg0.N) (d) : (dat0 V c).before 3 t d = iblk0 V c 3 t :=
  before0_3_of V (dat0 V c) (A_eq0 V c 3) (after0_3 V c) t d
/-- The staging buffer of an input holds its block when the body starts. -/
theorem before0_4 (c : Dev nD) (t : Fin cfg0.N) (d) : (dat0 V c).before 4 t d = iblk0 V c 4 t :=
  before0_4_of V (dat0 V c) (A_eq0 V c 4) (after0_4 V c) t d

/-- What the body is called with. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What the body returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any grid point, from the buffers it is handed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body of the call is the printed one. -/
theorem defs₀_row0 (t : Fin cfg0.N) :
    defs₀ (F := F) .tc cfg0.body (cfg0.bodyArgs t (cfg0.slots t)) = bodyAt0 t := by
  unfold defs₀; rw [Defs.onTc_tc]

/-- The body keeps its promise at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.IdealStream.lean ====
/- The second call: the two stream convolutions and their class scores. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.WritesUnit
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input block of a grid point, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of an input holds its block when the body starts. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of an input holds its block when the body starts. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of an input holds its block when the body starts. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of an input holds its block when the body starts. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x752x1024 := Rect.unit (s := S1x752x1024) ![0, 0, 0] S1x752x1024.size inb_S1x752x1024_S1x752x1024_0_0_0
abbrev r1_1 : Rect S1x3072x512 := Rect.unit (s := S1x3072x512) ![0, 0, 0] S1x3072x512.size inb_S1x3072x512_S1x3072x512_0_0_0
abbrev r1_2 : Rect S1x2x512 := Rect.unit (s := S1x2x512) ![0, 0, 0] S1x1x512.size inb_S1x2x512_S1x1x512_0_0_0
abbrev r1_3 : Rect S1x1x750x512 := Rect.unit (s := S1x1x750x512) ![0, 0, 0, 0] S1x1x750x512.size inb_S1x1x750x512_S1x1x750x512_0_0_0_0
abbrev r1_4 : Rect S1x512x128 := Rect.unit (s := S1x512x128) ![0, 0, 0] S1x512x128.size inb_S1x512x128_S1x512x128_0_0_0
abbrev r1_5 : Rect S1x2x512 := Rect.unit (s := S1x2x512) ![0, 1, 0] S1x1x1.size inb_S1x2x512_S1x1x1_0_1_0
abbrev r1_6 : Rect S1x1x1x750 := Rect.unit (s := S1x1x1x750) ![0, 0, 0, 0] S1x1x1x750.size inb_S1x1x1x750_S1x1x1x750_0_0_0_0

/-- What the body leaves in this output buffer, from the input blocks. -/
def out1_4 (x0 : Vec F S1x752x1024 .bf16) (x1 : Vec F S1x3072x512 .bf16) (x2 : Vec F S1x512x128 .bf16) (x3 : Vec F S1x2x512 .f32) : Vec F S1x1x750x512 .f32 :=
  View.canon [⟨r1_3, k1_pay3 (View.ld x0 r1_0) (View.ld x1 r1_1) (View.ld x3 r1_2)⟩]

/-- The stores cover the whole buffer. -/
theorem cover1_4 (p0 : Vec F S1x1x750x512 .f32) (y : S1x1x750x512.Idx) :
    ∃ pc ∈ ([⟨r1_3, p0⟩] : List (View.Piece (Elt F) S1x1x750x512 .f32)), y ∈ pc.1.set :=
  View.cover_of_tiled [⟨r1_3, p0⟩] S1x1x750x512.size (by rfl) y

/-- What the body leaves in this output buffer, from the input blocks. -/
def out1_5 (x0 : Vec F S1x752x1024 .bf16) (x1 : Vec F S1x3072x512 .bf16) (x2 : Vec F S1x512x128 .bf16) (x3 : Vec F S1x2x512 .f32) : Vec F S1x1x1x750 .f32 :=
  View.canon [⟨r1_6, k1_pay1 (k1_pay4 (View.ld x0 r1_0) (View.ld x1 r1_1) (View.ld x3 r1_2) (View.ld x2 r1_4) (View.ld x3 r1_5))⟩]

/-- The stores cover the whole buffer. -/
theorem cover1_5 (p0 : Vec F S1x1x1x750 .f32) (y : S1x1x1x750.Idx) :
    ∃ pc ∈ ([⟨r1_6, p0⟩] : List (View.Piece (Elt F) S1x1x1x750 .f32)), y ∈ pc.1.set :=
  View.cover_of_tiled [⟨r1_6, p0⟩] S1x1x1x750.size (by rfl) y

set_option maxHeartbeats 1000000 in
/-- The body, run on whole buffers, leaves every output at its stated value and the inputs as they were. -/
theorem sound_kernel1 (c : Dev nD) (E : Set ℕ) (i : grid1.Coords) (arg2 : Memref sig .tc .vmem S1x752x1024 .bf16) (harg2 : arg2.IsWhole) (arg3 : Memref sig .tc .vmem S1x3072x512 .bf16) (harg3 : arg3.IsWhole) (arg4 : Memref sig .tc .vmem S1x512x128 .bf16) (harg4 : arg4.IsWhole) (arg5 : Memref sig .tc .vmem S1x2x512 .f32) (harg5 : arg5.IsWhole) (arg6 : Memref sig .tc .vmem S1x1x750x512 .f32) (harg6 : arg6.IsWhole) (arg7 : Memref sig .tc .vmem S1x1x1x750 .f32) (harg7 : arg7.IsWhole)
    (x0 : Vec F S1x752x1024 .bf16) (x1 : Vec F S1x3072x512 .bf16) (x2 : Vec F S1x512x128 .bf16) (x3 : Vec F S1x2x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3) ∗ owns (c : Thread nD τ) arg7 fullShare (out1_5 x0 x1 x2 x3)) -∗ K ⟨⟩))
      ⊢ wp frame (wpE (defs₀ (F := F)) Variants.none c none) E (cc1__stream_body i arg2 harg2 arg3 harg3 arg4 harg4 arg5 harg5 arg6 harg6 arg7 harg7) K := by
  simp only [cc1__stream_body_eq_skeleton]; unfold cc1__stream_body_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-- What each buffer holds before and after the body at every grid point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

/-- The arrays are the contents the call is entered with. -/
theorem A_eq1 (c : Dev nD) (w : Fin cfg1.W) : (dat1 V c).A w = V c (Pipeline.arrRef spec1 w) := by
  dsimp only [dat1]

/-- What the body leaves in each window. -/
theorem after1_0 (c : Dev nD) (t : Fin cfg1.N) : (dat1 V c).after 0 t = iblk1 V c 0 t := by dsimp only [dat1]
/-- What the body leaves in each window. -/
theorem after1_1 (c : Dev nD) (t : Fin cfg1.N) : (dat1 V c).after 1 t = iblk1 V c 1 t := by dsimp only [dat1]
/-- What the body leaves in each window. -/
theorem after1_2 (c : Dev nD) (t : Fin cfg1.N) : (dat1 V c).after 2 t = iblk1 V c 2 t := by dsimp only [dat1]
/-- What the body leaves in each window. -/
theorem after1_3 (c : Dev nD) (t : Fin cfg1.N) : (dat1 V c).after 3 t = iblk1 V c 3 t := by dsimp only [dat1]
/-- What the body leaves in each window. -/
theorem after1_4 (c : Dev nD) (t : Fin cfg1.N) : (dat1 V c).after 4 t = out1_4 (iblk1 V c 0 t) (iblk1 V c 1 t) (iblk1 V c 2 t) (iblk1 V c 3 t) := by dsimp only [dat1]
/-- What the body leaves in each window. -/
theorem after1_5 (c : Dev nD) (t : Fin cfg1.N) : (dat1 V c).after 5 t = out1_5 (iblk1 V c 0 t) (iblk1 V c 1 t) (iblk1 V c 2 t) (iblk1 V c 3 t) := by dsimp only [dat1]

/-- The staging buffer of an input holds its block when the body starts. -/
theorem before1_0 (c : Dev nD) (t : Fin cfg1.N) (d) : (dat1 V c).before 0 t d = iblk1 V c 0 t :=
  before1_0_of V (dat1 V c) (A_eq1 V c 0) (after1_0 V c) t d
/-- The staging buffer of an input holds its block when the body starts. -/
theorem before1_1 (c : Dev nD) (t : Fin cfg1.N) (d) : (dat1 V c).before 1 t d = iblk1 V c 1 t :=
  before1_1_of V (dat1 V c) (A_eq1 V c 1) (after1_1 V c) t d
/-- The staging buffer of an input holds its block when the body starts. -/
theorem before1_2 (c : Dev nD) (t : Fin cfg1.N) (d) : (dat1 V c).before 2 t d = iblk1 V c 2 t :=
  before1_2_of V (dat1 V c) (A_eq1 V c 2) (after1_2 V c) t d
/-- The staging buffer of an input holds its block when the body starts. -/
theorem before1_3 (c : Dev nD) (t : Fin cfg1.N) (d) : (dat1 V c).before 3 t d = iblk1 V c 3 t :=
  before1_3_of V (dat1 V c) (A_eq1 V c 3) (after1_3 V c) t d

/-- What the body is called with. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point, from the buffers it is handed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body of the call is the printed one. -/
theorem defs₀_row1 (t : Fin cfg1.N) :
    defs₀ (F := F) .tc cfg1.body (cfg1.bodyArgs t (cfg1.slots t)) = bodyAt1 t := by
  unfold defs₀; rw [Defs.onTc_tc]

/-- The body keeps its promise at every grid point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.IdealSelect.lean ====
/- The third call: the medians, the masked scores and the four picks. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.WritesUnit
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r2_0 : Rect S1x750x512 := Rect.unit (s := S1x750x512) ![0, 0, 0] S1x750x512.size inb_S1x750x512_S1x750x512_0_0_0
abbrev r2_1 : Rect S1x2x750x512 := Rect.unit (s := S1x2x750x512) ![0, 0, 0, 0] S1x1x750x512.size inb_S1x2x750x512_S1x1x750x512_0_0_0_0
abbrev r2_2 : Rect S1x2x750x512 := Rect.unit (s := S1x2x750x512) ![0, 1, 0, 0] S1x1x750x512.size inb_S1x2x750x512_S1x1x750x512_0_1_0_0
abbrev r2_3 : Rect S1x37x512 := Rect.unit (s := S1x37x512) ![0, 0, 0] S1x37x512.size inb_S1x37x512_S1x37x512_0_0_0
abbrev r2_4 : Rect S1x1x750 := Rect.unit (s := S1x1x750) ![0, 0, 0] S1x1x750.size inb_S1x1x750_S1x1x750_0_0_0
abbrev r2_5 : Rect S1x2x1x750 := Rect.unit (s := S1x2x1x750) ![0, 0, 0, 0] S1x1x1x750.size inb_S1x2x1x750_S1x1x1x750_0_0_0_0
abbrev r2_6 : Rect S1x2x1x750 := Rect.unit (s := S1x2x1x750) ![0, 1, 0, 0] S1x1x1x750.size inb_S1x2x1x750_S1x1x1x750_0_1_0_0

/-- The first call's class sum, as the body reads it. -/
def sumA (x2 : Vec F S1x1x750 .f32) : FVec F S1x750 .f32 := k2_pay5 (View.ld x2 r2_4)
/-- The mean of the two streams' class sums. -/
def sumB (x3 : Vec F S1x2x1x750 .f32) : FVec F S1x750 .f32 := k2_pay6 (View.ld x3 r2_5) (View.ld x3 r2_6)
/-- The counts the median of the first sum is made of, part by part. -/
def cntA1 (x2 : Vec F S1x1x750 .f32) : FVec F S750x1 .f32 :=
  k2_pay16 (sumA x2) (k2_pay8 (View.ld x2 r2_4)) (k2_pay11 (View.ld x2 r2_4)) (k2_pay12 (View.ld x2 r2_4))
def cntA2 (x2 : Vec F S1x1x750 .f32) : FVec F S750x1 .f32 :=
  k2_pay18 (sumA x2) (k2_pay8 (View.ld x2 r2_4)) (k2_pay10 (View.ld x2 r2_4)) (k2_pay13 (View.ld x2 r2_4))
/-- The median of the first sum. -/
def medA (x2 : Vec F S1x1x750 .f32) : F .f32 :=
  k2_pay24 (k2_pay22 (sumA x2) (k2_pay8 (View.ld x2 r2_4)) (cntA1 x2) (k2_pay17 (sumA x2)) (cntA2 x2))
    (k2_pay23 (sumA x2) (k2_pay8 (View.ld x2 r2_4)) (cntA1 x2) (k2_pay17 (sumA x2)) (cntA2 x2))
/-- Where the first sum exceeds its median. -/
def binA (x2 : Vec F S1x1x750 .f32) : FVec F S1x750 .f32 := k2_pay38 (sumA x2) (medA x2)
/-- Where the second sum exceeds its median. -/
def binB (x3 : Vec F S1x2x1x750 .f32) : FVec F S1x750 .f32 :=
  k2_pay39 (sumB x3) (k2_pay25 (sumB x3)) (k2_pay34 (sumB x3) (k2_pay25 (sumB x3)) (k2_pay28 (sumB x3)) (k2_pay31 (sumB x3)))
    (k2_pay36 (sumB x3) (k2_pay25 (sumB x3)) (k2_pay30 (sumB x3))) (k2_pay37 (sumB x3) (k2_pay25 (sumB x3)))

/-- The scores left after `k` picks. -/
abbrev after (nx : FVec F S1x750 .f32 → FVec F S1x750 .f32) (x : FVec F S1x750 .f32) (k : ℕ) : FVec F S1x750 .f32 :=
  Nat.rec (motive := fun _ => FVec F S1x750 .f32) x (fun _ a => nx a) k

/-- The place in one picked row of a place in the stack of picked rows. -/
def rowIx (y : S40x4x750.Idx) : S1x1x750.Idx := fun a => match a with
  | ⟨0, _⟩ => (⟨0, Nat.one_pos⟩ : Fin 1)
  | ⟨1, _⟩ => (⟨0, Nat.one_pos⟩ : Fin 1)
  | ⟨2, _⟩ => (y 2 : Fin 750)

/-- The rows the trips before `k` store, the last one first. -/
def rows {n : ℕ} (off : Fin n → Fin S40x4x750.rank → ℕ) (inb : ∀ k a, off k a + S1x1x750.size a ≤ S40x4x750.size a)
    (pay : FVec F S1x750 .f32 → FVec F S1x1x750 .f32) (nx : FVec F S1x750 .f32 → FVec F S1x750 .f32) (x : FVec F S1x750 .f32) :
    ℕ → List (View.Piece (Elt F) S40x4x750 .f32)
  | 0 => []
  | k + 1 => if h : k < n then (⟨Rect.unit (off ⟨k, h⟩) S1x1x750.size (inb ⟨k, h⟩), pay (after nx x k)⟩ : View.Piece (Elt F) S40x4x750 .f32)
      :: rows off inb pay nx x k else rows off inb pay nx x k

/-- One more trip puts one more row in front of the list. -/
theorem rows_succ {n : ℕ} (off : Fin n → Fin S40x4x750.rank → ℕ) (inb : ∀ k a, off k a + S1x1x750.size a ≤ S40x4x750.size a)
    (pay : FVec F S1x750 .f32 → FVec F S1x1x750 .f32) (nx : FVec F S1x750 .f32 → FVec F S1x750 .f32) (x : FVec F S1x750 .f32) (k : Fin n) :
    rows off inb pay nx x (k.val + 1) = (⟨Rect.unit (off k) S1x1x750.size (inb k), pay (after nx x k.val)⟩ : View.Piece (Elt F) S40x4x750 .f32)
      :: rows off inb pay nx x k.val := dif_pos k.isLt

section Rows
variable {n : ℕ} (off : Fin n → Fin S40x4x750.rank → ℕ) (inb : ∀ k a, off k a + S1x1x750.size a ≤ S40x4x750.size a)
  (pay : FVec F S1x750 .f32 → FVec F S1x1x750 .f32) (nx : FVec F S1x750 .f32 → FVec F S1x750 .f32) (x : FVec F S1x750 .f32)
  (s : ℕ) (hoff : ∀ k, off k = ![k.val, s, 0])
  (v : View sig .tc .vmem S40x4x750 .f32) (f : v.ty.Contents (Elt F))
include hoff

/-- A place of another channel is not touched by one channel's rows. -/
theorem read_rows_other (y : S40x4x750.Idx) (hy : (y 1).val ≠ s) (K : ℕ) :
    v.read (Elt F) (v.writes (Elt F) f (rows off inb pay nx x K)) y = v.read (Elt F) f y := by
  induction K with
  | zero => rfl
  | succ K ih =>
    by_cases h : K < n
    · rw [rows_succ off inb pay nx x ⟨K, h⟩, View.read_writes_cons_unit_of_not_mem v f _ _ _ y (hoff _) 1 ?_]
      · exact ih
      · show (y 1).val < s ∨ s + 1 ≤ (y 1).val
        omega
    · rw [rows, dif_neg h]; exact ih

/-- A place of the channel's own, in a row already stored, holds that row. -/
theorem read_rows_own (y : S40x4x750.Idx) (hy : (y 1).val = s) (K : ℕ) (hK : (y 0).val < K) (hn : K ≤ n) :
    v.read (Elt F) (v.writes (Elt F) f (rows off inb pay nx x K)) y = pay (after nx x (y 0).val) (rowIx y) := by
  induction K with
  | zero => omega
  | succ K ih =>
    rw [rows_succ off inb pay nx x ⟨K, hn⟩]
    by_cases hq : (y 0).val = K
    · refine (View.read_writes_cons_unit_of_mem v f _ _ _ y (rowIx y) (hoff _) ?_).trans (by rw [hq])
      intro a
      match a with
      | ⟨0, _⟩ => show (y 0).val = K + 0; omega
      | ⟨1, _⟩ => show (y 1).val = s + 0; omega
      | ⟨2, _⟩ => show (y 2).val = 0 + (y 2).val; omega
    · rw [View.read_writes_cons_unit_of_not_mem v f _ _ _ y (hoff _) 0 ?_]
      · exact ih (by omega) (by omega)
      · show (y 0).val < K ∨ K + 1 ≤ (y 0).val
        omega
end Rows

/-- The place in the scratch buffer of a place in the stack of one channel's rows. -/
def stackIx (s : Fin 4) (j : S37x1x750.Idx) : S40x4x750.Idx := fun a => match a with
  | ⟨0, _⟩ => (⟨(j 0).val, Nat.lt_of_lt_of_le (j 0).isLt (by decide)⟩ : Fin 40)
  | ⟨1, _⟩ => s
  | ⟨2, _⟩ => (j 2 : Fin 750)

/-- The stack of one channel's picked rows. -/
def stack (pay : FVec F S1x750 .f32 → FVec F S1x1x750 .f32) (nx : FVec F S1x750 .f32 → FVec F S1x750 .f32) (x : FVec F S1x750 .f32) :
    Vec F S37x1x750 .f32 := fun j => pay (after nx x (j 0).val) (rowIx (stackIx 0 j))

/-- The four stacks of picked rows. -/
def hot0 (x2 : Vec F S1x1x750 .f32) (x3 : Vec F S1x2x1x750 .f32) : Vec F S37x1x750 .f32 :=
  stack k2_pay51 k2_pay52 (k2_pay45 (sumA x2) (binA x2) (binB x3))
def hot1 (x2 : Vec F S1x1x750 .f32) (x3 : Vec F S1x2x1x750 .f32) : Vec F S37x1x750 .f32 :=
  stack k2_pay54 k2_pay55 (k2_pay46 (sumA x2) (binA x2) (binB x3))
def hot2 (x2 : Vec F S1x1x750 .f32) (x3 : Vec F S1x2x1x750 .f32) : Vec F S37x1x750 .f32 :=
  stack k2_pay57 k2_pay58 (k2_pay47 (sumA x2) (binA x2) (binB x3))
def hot3 (x2 : Vec F S1x1x750 .f32) (x3 : Vec F S1x2x1x750 .f32) : Vec F S37x1x750 .f32 :=
  stack (k2_pay60 k2_pay49) (k2_pay61 k2_pay49) (k2_pay48 (sumA x2) (binA x2) (binB x3))

/-- What the body leaves in this output buffer, from the input blocks. -/
def out2_4 (x0 : Vec F S1x750x512 .f32) (x1 : Vec F S1x2x750x512 .f32) (x2 : Vec F S1x1x750 .f32) (x3 : Vec F S1x2x1x750 .f32) : Vec F S1x37x512 .f32 :=
  View.canon [⟨r2_3, k2_pay66 (View.ld x0 r2_0) (hot0 x2 x3)⟩]

/-- What the body leaves in this output buffer, from the input blocks. -/
def out2_5 (x0 : Vec F S1x750x512 .f32) (x1 : Vec F S1x2x750x512 .f32) (x2 : Vec F S1x1x750 .f32) (x3 : Vec F S1x2x1x750 .f32) : Vec F S1x37x512 .f32 :=
  View.canon [⟨r2_3, k2_pay70 (k2_pay62 (View.ld x0 r2_0)) (hot1 x2 x3)⟩]

/-- What the body leaves in this output buffer, from the input blocks. -/
def out2_6 (x0 : Vec F S1x750x512 .f32) (x1 : Vec F S1x2x750x512 .f32) (x2 : Vec F S1x1x750 .f32) (x3 : Vec F S1x2x1x750 .f32) : Vec F S1x37x512 .f32 :=
  View.canon [⟨r2_3, k2_pay74 (k2_pay62 (View.ld x0 r2_0)) (hot2 x2 x3)⟩]

/-- What the body leaves in this output buffer, from the input blocks. -/
def out2_7 (x0 : Vec F S1x750x512 .f32) (x1 : Vec F S1x2x750x512 .f32) (x2 : Vec F S1x1x750 .f32) (x3 : Vec F S1x2x1x750 .f32) : Vec F S1x37x512 .f32 :=
  View.canon [⟨r2_3, k2_pay2 (k2_pay62 (View.ld x0 r2_0)) (hot3 x2 x3)⟩]

/-- What the body leaves in this output buffer, from the input blocks. -/
def out2_8 (x0 : Vec F S1x750x512 .f32) (x1 : Vec F S1x2x750x512 .f32) (x2 : Vec F S1x1x750 .f32) (x3 : Vec F S1x2x1x750 .f32) : Vec F S1x37x512 .f32 :=
  View.canon [⟨r2_3, k2_pay67 (View.ld x1 r2_1) (hot0 x2 x3)⟩]

/-- What the body leaves in this output buffer, from the input blocks. -/
def out2_9 (x0 : Vec F S1x750x512 .f32) (x1 : Vec F S1x2x750x512 .f32) (x2 : Vec F S1x1x750 .f32) (x3 : Vec F S1x2x1x750 .f32) : Vec F S1x37x512 .f32 :=
  View.canon [⟨r2_3, k2_pay71 (k2_pay63 (View.ld x1 r2_1)) (hot1 x2 x3)⟩]

/-- What the body leaves in this output buffer, from the input blocks. -/
def out2_10 (x0 : Vec F S1x750x512 .f32) (x1 : Vec F S1x2x750x512 .f32) (x2 : Vec F S1x1x750 .f32) (x3 : Vec F S1x2x1x750 .f32) : Vec F S1x37x512 .f32 :=
  View.canon [⟨r2_3, k2_pay75 (k2_pay63 (View.ld x1 r2_1)) (hot2 x2 x3)⟩]

/-- What the body leaves in this output buffer, from the input blocks. -/
def out2_11 (x0 : Vec F S1x750x512 .f32) (x1 : Vec F S1x2x750x512 .f32) (x2 : Vec F S1x1x750 .f32) (x3 : Vec F S1x2x1x750 .f32) : Vec F S1x37x512 .f32 :=
  View.canon [⟨r2_3, k2_pay3 (k2_pay63 (View.ld x1 r2_1)) (hot3 x2 x3)⟩]

/-- What the body leaves in this output buffer, from the input blocks. -/
def out2_12 (x0 : Vec F S1x750x512 .f32) (x1 : Vec F S1x2x750x512 .f32) (x2 : Vec F S1x1x750 .f32) (x3 : Vec F S1x2x1x750 .f32) : Vec F S1x37x512 .f32 :=
  View.canon [⟨r2_3, k2_pay68 (View.ld x1 r2_2) (hot0 x2 x3)⟩]

/-- What the body leaves in this output buffer, from the input blocks. -/
def out2_13 (x0 : Vec F S1x750x512 .f32) (x1 : Vec F S1x2x750x512 .f32) (x2 : Vec F S1x1x750 .f32) (x3 : Vec F S1x2x1x750 .f32) : Vec F S1x37x512 .f32 :=
  View.canon [⟨r2_3, k2_pay72 (k2_pay64 (View.ld x1 r2_2)) (hot1 x2 x3)⟩]

/-- What the body leaves in this output buffer, from the input blocks. -/
def out2_14 (x0 : Vec F S1x750x512 .f32) (x1 : Vec F S1x2x750x512 .f32) (x2 : Vec F S1x1x750 .f32) (x3 : Vec F S1x2x1x750 .f32) : Vec F S1x37x512 .f32 :=
  View.canon [⟨r2_3, k2_pay76 (k2_pay64 (View.ld x1 r2_2)) (hot2 x2 x3)⟩]

/-- What the body leaves in this output buffer, from the input blocks. -/
def out2_15 (x0 : Vec F S1x750x512 .f32) (x1 : Vec F S1x2x750x512 .f32) (x2 : Vec F S1x1x750 .f32) (x3 : Vec F S1x2x1x750 .f32) : Vec F S1x37x512 .f32 :=
  View.canon [⟨r2_3, k2_pay4 (k2_pay64 (View.ld x1 r2_2)) (hot3 x2 x3)⟩]

/-- What the body leaves in this output buffer, from the input blocks. -/
def out2_16 (x0 : Vec F S1x750x512 .f32) (x1 : Vec F S1x2x750x512 .f32) (x2 : Vec F S1x1x750 .f32) (x3 : Vec F S1x2x1x750 .f32) : Vec F S1x1x750 .f32 :=
  View.canon [⟨r2_4, k2_pay7 (View.ld x3 r2_5) (View.ld x3 r2_6)⟩]

/-- What the body leaves in this output buffer, from the input blocks. -/
def out2_17 (x0 : Vec F S1x750x512 .f32) (x1 : Vec F S1x2x750x512 .f32) (x2 : Vec F S1x1x750 .f32) (x3 : Vec F S1x2x1x750 .f32) : Vec F S1x1x750 .f32 :=
  View.canon [⟨r2_4, k2_pay40 (sumA x2) (medA x2)⟩]

/-- What the body leaves in this output buffer, from the input blocks. -/
def out2_18 (x0 : Vec F S1x750x512 .f32) (x1 : Vec F S1x2x750x512 .f32) (x2 : Vec F S1x1x750 .f32) (x3 : Vec F S1x2x1x750 .f32) : Vec F S1x1x750 .f32 :=
  View.canon [⟨r2_4, k2_pay41 (binB x3)⟩]
set_option warn.classDefReducibility false in
/-- The counted loop by its invariant: before trip `k` the scratch holds the rows of the trips before it, and the carried
    scores are those left after `k` picks. -/
@[sl_loop] def pick1 (𝒱 : Variants) (c : Dev nD) (bd : Option 𝒱.V) (E : Set ℕ) (i : grid2.Coords) (arg1 : Memref sig .tc .vmem S1x750x512 .f32) (harg1 : arg1.IsWhole) (arg2 : Memref sig .tc .vmem S1x2x750x512 .f32) (harg2 : arg2.IsWhole) (arg3 : Memref sig .tc .vmem S1x1x750 .f32) (harg3 : arg3.IsWhole) (arg4 : Memref sig .tc .vmem S1x2x1x750 .f32) (harg4 : arg4.IsWhole) (arg5 : Memref sig .tc .vmem S1x37x512 .f32) (harg5 : arg5.IsWhole) (arg6 : Memref sig .tc .vmem S1x37x512 .f32) (harg6 : arg6.IsWhole) (arg7 : Memref sig .tc .vmem S1x37x512 .f32) (harg7 : arg7.IsWhole) (arg8 : Memref sig .tc .vmem S1x37x512 .f32) (harg8 : arg8.IsWhole) (arg9 : Memref sig .tc .vmem S1x37x512 .f32) (harg9 : arg9.IsWhole) (arg10 : Memref sig .tc .vmem S1x37x512 .f32) (harg10 : arg10.IsWhole) (arg11 : Memref sig .tc .vmem S1x37x512 .f32) (harg11 : arg11.IsWhole) (arg12 : Memref sig .tc .vmem S1x37x512 .f32) (harg12 : arg12.IsWhole) (arg13 : Memref sig .tc .vmem S1x37x512 .f32) (harg13 : arg13.IsWhole) (arg14 : Memref sig .tc .vmem S1x37x512 .f32) (harg14 : arg14.IsWhole) (arg15 : Memref sig .tc .vmem S1x37x512 .f32) (harg15 : arg15.IsWhole) (arg16 : Memref sig .tc .vmem S1x37x512 .f32) (harg16 : arg16.IsWhole) (arg17 : Memref sig .tc .vmem S1x1x750 .f32) (harg17 : arg17.IsWhole) (arg18 : Memref sig .tc .vmem S1x1x750 .f32) (harg18 : arg18.IsWhole) (arg19 : Memref sig .tc .vmem S1x1x750 .f32) (harg19 : arg19.IsWhole) (arg20 : Memref sig .tc .vmem S40x4x750 .f32) (harg20 : arg20.IsWhole) (v1 : FVec F S1x750 .f32) (v276 : FVec F S1x750 .f32) (v281 : FVec F S1x750 .f32) (G : BufTy.Contents (Elt F) arg20.view.ty) (init : FVec F S1x750 .f32) :
    LoopInvTy_k2_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 v276 v281 init where
  inv k acc := iprop((∃ f, (arg20.view.loc (c : Thread nD τ) ↦[arg20.view.set]{fullShare} f)
      ∗ ⌜f = arg20.view.writes (Elt F) G (rows k2_off1 k2_off1_inb k2_pay51 k2_pay52 init k)⌝) ∗ ⌜acc = after k2_pay52 init k⌝)
  step k acc := by
    iintro ⟨⟨%f, HW, %hf⟩, %hacc⟩
    subst hacc
    unfold k2_t1_body
    sl_exec
    sl_step
    isplitl [HW]
    · iexists _; isplitl [HW]; · iexact HW
      ipureintro; rw [hf, rows_succ]; rfl
    ipureintro; rfl

set_option warn.classDefReducibility false in
/-- The counted loop by its invariant: before trip `k` the scratch holds the rows of the trips before it, and the carried
    scores are those left after `k` picks. -/
@[sl_loop] def pick2 (𝒱 : Variants) (c : Dev nD) (bd : Option 𝒱.V) (E : Set ℕ) (i : grid2.Coords) (arg1 : Memref sig .tc .vmem S1x750x512 .f32) (harg1 : arg1.IsWhole) (arg2 : Memref sig .tc .vmem S1x2x750x512 .f32) (harg2 : arg2.IsWhole) (arg3 : Memref sig .tc .vmem S1x1x750 .f32) (harg3 : arg3.IsWhole) (arg4 : Memref sig .tc .vmem S1x2x1x750 .f32) (harg4 : arg4.IsWhole) (arg5 : Memref sig .tc .vmem S1x37x512 .f32) (harg5 : arg5.IsWhole) (arg6 : Memref sig .tc .vmem S1x37x512 .f32) (harg6 : arg6.IsWhole) (arg7 : Memref sig .tc .vmem S1x37x512 .f32) (harg7 : arg7.IsWhole) (arg8 : Memref sig .tc .vmem S1x37x512 .f32) (harg8 : arg8.IsWhole) (arg9 : Memref sig .tc .vmem S1x37x512 .f32) (harg9 : arg9.IsWhole) (arg10 : Memref sig .tc .vmem S1x37x512 .f32) (harg10 : arg10.IsWhole) (arg11 : Memref sig .tc .vmem S1x37x512 .f32) (harg11 : arg11.IsWhole) (arg12 : Memref sig .tc .vmem S1x37x512 .f32) (harg12 : arg12.IsWhole) (arg13 : Memref sig .tc .vmem S1x37x512 .f32) (harg13 : arg13.IsWhole) (arg14 : Memref sig .tc .vmem S1x37x512 .f32) (harg14 : arg14.IsWhole) (arg15 : Memref sig .tc .vmem S1x37x512 .f32) (harg15 : arg15.IsWhole) (arg16 : Memref sig .tc .vmem S1x37x512 .f32) (harg16 : arg16.IsWhole) (arg17 : Memref sig .tc .vmem S1x1x750 .f32) (harg17 : arg17.IsWhole) (arg18 : Memref sig .tc .vmem S1x1x750 .f32) (harg18 : arg18.IsWhole) (arg19 : Memref sig .tc .vmem S1x1x750 .f32) (harg19 : arg19.IsWhole) (arg20 : Memref sig .tc .vmem S40x4x750 .f32) (harg20 : arg20.IsWhole) (v1 : FVec F S1x750 .f32) (v276 : FVec F S1x750 .f32) (v281 : FVec F S1x750 .f32) (G : BufTy.Contents (Elt F) arg20.view.ty) (init : FVec F S1x750 .f32) :
    LoopInvTy_k2_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 v276 v281 init where
  inv k acc := iprop((∃ f, (arg20.view.loc (c : Thread nD τ) ↦[arg20.view.set]{fullShare} f)
      ∗ ⌜f = arg20.view.writes (Elt F) G (rows k2_off2 k2_off2_inb k2_pay54 k2_pay55 init k)⌝) ∗ ⌜acc = after k2_pay55 init k⌝)
  step k acc := by
    iintro ⟨⟨%f, HW, %hf⟩, %hacc⟩
    subst hacc
    unfold k2_t2_body
    sl_exec
    sl_step
    isplitl [HW]
    · iexists _; isplitl [HW]; · iexact HW
      ipureintro; rw [hf, rows_succ]; rfl
    ipureintro; rfl

set_option warn.classDefReducibility false in
/-- The counted loop by its invariant: before trip `k` the scratch holds the rows of the trips before it, and the carried
    scores are those left after `k` picks. -/
@[sl_loop] def pick3 (𝒱 : Variants) (c : Dev nD) (bd : Option 𝒱.V) (E : Set ℕ) (i : grid2.Coords) (arg1 : Memref sig .tc .vmem S1x750x512 .f32) (harg1 : arg1.IsWhole) (arg2 : Memref sig .tc .vmem S1x2x750x512 .f32) (harg2 : arg2.IsWhole) (arg3 : Memref sig .tc .vmem S1x1x750 .f32) (harg3 : arg3.IsWhole) (arg4 : Memref sig .tc .vmem S1x2x1x750 .f32) (harg4 : arg4.IsWhole) (arg5 : Memref sig .tc .vmem S1x37x512 .f32) (harg5 : arg5.IsWhole) (arg6 : Memref sig .tc .vmem S1x37x512 .f32) (harg6 : arg6.IsWhole) (arg7 : Memref sig .tc .vmem S1x37x512 .f32) (harg7 : arg7.IsWhole) (arg8 : Memref sig .tc .vmem S1x37x512 .f32) (harg8 : arg8.IsWhole) (arg9 : Memref sig .tc .vmem S1x37x512 .f32) (harg9 : arg9.IsWhole) (arg10 : Memref sig .tc .vmem S1x37x512 .f32) (harg10 : arg10.IsWhole) (arg11 : Memref sig .tc .vmem S1x37x512 .f32) (harg11 : arg11.IsWhole) (arg12 : Memref sig .tc .vmem S1x37x512 .f32) (harg12 : arg12.IsWhole) (arg13 : Memref sig .tc .vmem S1x37x512 .f32) (harg13 : arg13.IsWhole) (arg14 : Memref sig .tc .vmem S1x37x512 .f32) (harg14 : arg14.IsWhole) (arg15 : Memref sig .tc .vmem S1x37x512 .f32) (harg15 : arg15.IsWhole) (arg16 : Memref sig .tc .vmem S1x37x512 .f32) (harg16 : arg16.IsWhole) (arg17 : Memref sig .tc .vmem S1x1x750 .f32) (harg17 : arg17.IsWhole) (arg18 : Memref sig .tc .vmem S1x1x750 .f32) (harg18 : arg18.IsWhole) (arg19 : Memref sig .tc .vmem S1x1x750 .f32) (harg19 : arg19.IsWhole) (arg20 : Memref sig .tc .vmem S40x4x750 .f32) (harg20 : arg20.IsWhole) (v1 : FVec F S1x750 .f32) (v276 : FVec F S1x750 .f32) (v281 : FVec F S1x750 .f32) (G : BufTy.Contents (Elt F) arg20.view.ty) (init : FVec F S1x750 .f32) :
    LoopInvTy_k2_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 v276 v281 init where
  inv k acc := iprop((∃ f, (arg20.view.loc (c : Thread nD τ) ↦[arg20.view.set]{fullShare} f)
      ∗ ⌜f = arg20.view.writes (Elt F) G (rows k2_off3 k2_off3_inb k2_pay57 k2_pay58 init k)⌝) ∗ ⌜acc = after k2_pay58 init k⌝)
  step k acc := by
    iintro ⟨⟨%f, HW, %hf⟩, %hacc⟩
    subst hacc
    unfold k2_t3_body
    sl_exec
    sl_step
    isplitl [HW]
    · iexists _; isplitl [HW]; · iexact HW
      ipureintro; rw [hf, rows_succ]; rfl
    ipureintro; rfl

set_option warn.classDefReducibility false in
/-- The counted loop by its invariant: before trip `k` the scratch holds the rows of the trips before it, and the carried
    scores are those left after `k` picks. -/
@[sl_loop] def pick4 (𝒱 : Variants) (c : Dev nD) (bd : Option 𝒱.V) (E : Set ℕ) (i : grid2.Coords) (arg1 : Memref sig .tc .vmem S1x750x512 .f32) (harg1 : arg1.IsWhole) (arg2 : Memref sig .tc .vmem S1x2x750x512 .f32) (harg2 : arg2.IsWhole) (arg3 : Memref sig .tc .vmem S1x1x750 .f32) (harg3 : arg3.IsWhole) (arg4 : Memref sig .tc .vmem S1x2x1x750 .f32) (harg4 : arg4.IsWhole) (arg5 : Memref sig .tc .vmem S1x37x512 .f32) (harg5 : arg5.IsWhole) (arg6 : Memref sig .tc .vmem S1x37x512 .f32) (harg6 : arg6.IsWhole) (arg7 : Memref sig .tc .vmem S1x37x512 .f32) (harg7 : arg7.IsWhole) (arg8 : Memref sig .tc .vmem S1x37x512 .f32) (harg8 : arg8.IsWhole) (arg9 : Memref sig .tc .vmem S1x37x512 .f32) (harg9 : arg9.IsWhole) (arg10 : Memref sig .tc .vmem S1x37x512 .f32) (harg10 : arg10.IsWhole) (arg11 : Memref sig .tc .vmem S1x37x512 .f32) (harg11 : arg11.IsWhole) (arg12 : Memref sig .tc .vmem S1x37x512 .f32) (harg12 : arg12.IsWhole) (arg13 : Memref sig .tc .vmem S1x37x512 .f32) (harg13 : arg13.IsWhole) (arg14 : Memref sig .tc .vmem S1x37x512 .f32) (harg14 : arg14.IsWhole) (arg15 : Memref sig .tc .vmem S1x37x512 .f32) (harg15 : arg15.IsWhole) (arg16 : Memref sig .tc .vmem S1x37x512 .f32) (harg16 : arg16.IsWhole) (arg17 : Memref sig .tc .vmem S1x1x750 .f32) (harg17 : arg17.IsWhole) (arg18 : Memref sig .tc .vmem S1x1x750 .f32) (harg18 : arg18.IsWhole) (arg19 : Memref sig .tc .vmem S1x1x750 .f32) (harg19 : arg19.IsWhole) (arg20 : Memref sig .tc .vmem S40x4x750 .f32) (harg20 : arg20.IsWhole) (v313 : FVec F S1x750 .f32) (v315 : FVec F S1x750 .f32) (G : BufTy.Contents (Elt F) arg20.view.ty) (init : FVec F S1x750 .f32) :
    LoopInvTy_k2_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v313 v315 init where
  inv k acc := iprop((∃ f, (arg20.view.loc (c : Thread nD τ) ↦[arg20.view.set]{fullShare} f)
      ∗ ⌜f = arg20.view.writes (Elt F) G (rows k2_off4 k2_off4_inb (k2_pay60 v315) (k2_pay61 v315) init k)⌝) ∗ ⌜acc = after (k2_pay61 v315) init k⌝)
  step k acc := by
    iintro ⟨⟨%f, HW, %hf⟩, %hacc⟩
    subst hacc
    unfold k2_t4_body
    sl_exec
    sl_step
    isplitl [HW]
    · iexists _; isplitl [HW]; · iexact HW
      ipureintro; rw [hf, rows_succ]; rfl
    ipureintro; rfl

/-- The first loop makes 37 trips. -/
theorem trips1 : k2_t1_loop.trips = 37 := by decide
/-- The second loop makes 37 trips. -/
theorem trips2 : k2_t2_loop.trips = 37 := by decide
/-- The third loop makes 37 trips. -/
theorem trips3 : k2_t3_loop.trips = 37 := by decide
/-- The fourth loop makes 37 trips. -/
theorem trips4 : k2_t4_loop.trips = 37 := by decide
/-- Trip `k` of the first loop stores row `k` of channel 0. -/
theorem at1 (k : Fin k2_t1_loop.trips) : k2_off1 k = ![k.val, 0, 0] := by rw [k2_off1_eq]
/-- Trip `k` of the second loop stores row `k` of channel 1. -/
theorem at2 (k : Fin k2_t2_loop.trips) : k2_off2 k = ![k.val, 1, 0] := by rw [k2_off2_eq]
/-- Trip `k` of the third loop stores row `k` of channel 2. -/
theorem at3 (k : Fin k2_t3_loop.trips) : k2_off3 k = ![k.val, 2, 0] := by rw [k2_off3_eq]
/-- Trip `k` of the fourth loop stores row `k` of channel 3. -/
theorem at4 (k : Fin k2_t4_loop.trips) : k2_off4 k = ![k.val, 3, 0] := by rw [k2_off4_eq]

section Load
variable (v : View sig .tc .vmem S40x4x750 .f32) (p1 p2 p3 p4 : FVec F S1x750 .f32 → FVec F S1x1x750 .f32)
  (n1 n2 n3 n4 : FVec F S1x750 .f32 → FVec F S1x750 .f32) (z1 z2 z3 z4 : FVec F S1x750 .f32)

/-- Everything the four loops store, the last store first. -/
abbrev stored : List (View.Piece (Elt F) S40x4x750 .f32) :=
  rows k2_off4 k2_off4_inb p4 n4 z4 k2_t4_loop.trips ++ (rows k2_off3 k2_off3_inb p3 n3 z3 k2_t3_loop.trips
    ++ (rows k2_off2 k2_off2_inb p2 n2 z2 k2_t2_loop.trips ++ rows k2_off1 k2_off1_inb p1 n1 z1 k2_t1_loop.trips))

/-- A row of the stack is stored by one of the trips. -/
theorem row_lt (j : S37x1x750.Idx) (s : Fin 4) {n : ℕ} (hn : n = 37) : (stackIx s j 0).val < n := by
  rw [hn]; exact (j 0).isLt

/-- What is read of channel 0 after the loops is the stack of its rows. -/
theorem load1 (inb : ∀ a : Fin S40x4x750.rank, (![0, 0, 0] : Fin S40x4x750.rank → ℕ) a + S37x1x750.size a ≤ S40x4x750.size a) :
    v.readCov (stored p1 p2 p3 p4 n1 n2 n3 n4 z1 z2 z3 z4) (Rect.unit (s := S40x4x750) ![0, 0, 0] S37x1x750.size inb).toLoadRect = stack p1 n1 z1 := by
  funext j
  have e : (Rect.unit (s := S40x4x750) ![0, 0, 0] S37x1x750.size inb).toLoadRect.idx j = stackIx 0 j := by
    funext a
    match a with
    | ⟨0, _⟩ => exact Fin.ext (by show 0 + 1 * (j 0).val = (j 0).val; omega)
    | ⟨1, _⟩ => exact Fin.ext (by have h : (j 1).val < 1 := (j 1).isLt; show 0 + 1 * (j 1).val = 0; omega)
    | ⟨2, _⟩ => exact Fin.ext (by show 0 + 1 * (j 2).val = (j 2).val; omega)
  change v.read (Elt F) (v.writes (Elt F) v.junk (stored p1 p2 p3 p4 n1 n2 n3 n4 z1 z2 z3 z4)) _ = _
  rw [e, stored]
  simp only [View.writes_append]
  rw [read_rows_other _ _ _ _ _ 3 at4 _ _ _ (by decide : 0 ≠ 3), read_rows_other _ _ _ _ _ 2 at3 _ _ _ (by decide : 0 ≠ 2), read_rows_other _ _ _ _ _ 1 at2 _ _ _ (by decide : 0 ≠ 1)]
  exact read_rows_own _ _ _ _ _ 0 at1 _ _ _ rfl _ (row_lt j 0 trips1) le_rfl

/-- What is read of channel 1 after the loops is the stack of its rows. -/
theorem load2 (inb : ∀ a : Fin S40x4x750.rank, (![0, 1, 0] : Fin S40x4x750.rank → ℕ) a + S37x1x750.size a ≤ S40x4x750.size a) :
    v.readCov (stored p1 p2 p3 p4 n1 n2 n3 n4 z1 z2 z3 z4) (Rect.unit (s := S40x4x750) ![0, 1, 0] S37x1x750.size inb).toLoadRect = stack p2 n2 z2 := by
  funext j
  have e : (Rect.unit (s := S40x4x750) ![0, 1, 0] S37x1x750.size inb).toLoadRect.idx j = stackIx 1 j := by
    funext a
    match a with
    | ⟨0, _⟩ => exact Fin.ext (by show 0 + 1 * (j 0).val = (j 0).val; omega)
    | ⟨1, _⟩ => exact Fin.ext (by have h : (j 1).val < 1 := (j 1).isLt; show 1 + 1 * (j 1).val = 1; omega)
    | ⟨2, _⟩ => exact Fin.ext (by show 0 + 1 * (j 2).val = (j 2).val; omega)
  change v.read (Elt F) (v.writes (Elt F) v.junk (stored p1 p2 p3 p4 n1 n2 n3 n4 z1 z2 z3 z4)) _ = _
  rw [e, stored]
  simp only [View.writes_append]
  rw [read_rows_other _ _ _ _ _ 3 at4 _ _ _ (by decide : 1 ≠ 3), read_rows_other _ _ _ _ _ 2 at3 _ _ _ (by decide : 1 ≠ 2)]
  exact read_rows_own _ _ _ _ _ 1 at2 _ _ _ rfl _ (row_lt j 1 trips2) le_rfl

/-- What is read of channel 2 after the loops is the stack of its rows. -/
theorem load3 (inb : ∀ a : Fin S40x4x750.rank, (![0, 2, 0] : Fin S40x4x750.rank → ℕ) a + S37x1x750.size a ≤ S40x4x750.size a) :
    v.readCov (stored p1 p2 p3 p4 n1 n2 n3 n4 z1 z2 z3 z4) (Rect.unit (s := S40x4x750) ![0, 2, 0] S37x1x750.size inb).toLoadRect = stack p3 n3 z3 := by
  funext j
  have e : (Rect.unit (s := S40x4x750) ![0, 2, 0] S37x1x750.size inb).toLoadRect.idx j = stackIx 2 j := by
    funext a
    match a with
    | ⟨0, _⟩ => exact Fin.ext (by show 0 + 1 * (j 0).val = (j 0).val; omega)
    | ⟨1, _⟩ => exact Fin.ext (by have h : (j 1).val < 1 := (j 1).isLt; show 2 + 1 * (j 1).val = 2; omega)
    | ⟨2, _⟩ => exact Fin.ext (by show 0 + 1 * (j 2).val = (j 2).val; omega)
  change v.read (Elt F) (v.writes (Elt F) v.junk (stored p1 p2 p3 p4 n1 n2 n3 n4 z1 z2 z3 z4)) _ = _
  rw [e, stored]
  simp only [View.writes_append]
  rw [read_rows_other _ _ _ _ _ 3 at4 _ _ _ (by decide : 2 ≠ 3)]
  exact read_rows_own _ _ _ _ _ 2 at3 _ _ _ rfl _ (row_lt j 2 trips3) le_rfl

/-- What is read of channel 3 after the loops is the stack of its rows. -/
theorem load4 (inb : ∀ a : Fin S40x4x750.rank, (![0, 3, 0] : Fin S40x4x750.rank → ℕ) a + S37x1x750.size a ≤ S40x4x750.size a) :
    v.readCov (stored p1 p2 p3 p4 n1 n2 n3 n4 z1 z2 z3 z4) (Rect.unit (s := S40x4x750) ![0, 3, 0] S37x1x750.size inb).toLoadRect = stack p4 n4 z4 := by
  funext j
  have e : (Rect.unit (s := S40x4x750) ![0, 3, 0] S37x1x750.size inb).toLoadRect.idx j = stackIx 3 j := by
    funext a
    match a with
    | ⟨0, _⟩ => exact Fin.ext (by show 0 + 1 * (j 0).val = (j 0).val; omega)
    | ⟨1, _⟩ => exact Fin.ext (by have h : (j 1).val < 1 := (j 1).isLt; show 3 + 1 * (j 1).val = 3; omega)
    | ⟨2, _⟩ => exact Fin.ext (by show 0 + 1 * (j 2).val = (j 2).val; omega)
  change v.read (Elt F) (v.writes (Elt F) v.junk (stored p1 p2 p3 p4 n1 n2 n3 n4 z1 z2 z3 z4)) _ = _
  rw [e, stored]
  simp only [View.writes_append]
  exact read_rows_own _ _ _ _ _ 3 at4 _ _ _ rfl _ (row_lt j 3 trips4) le_rfl

end Load

set_option maxHeartbeats 4000000 in
/-- The body, run on whole buffers, leaves every output at its stated value and the inputs as they were. -/
theorem sound_kernel2 (c : Dev nD) (E : Set ℕ) (i : grid2.Coords) (arg1 : Memref sig .tc .vmem S1x750x512 .f32) (harg1 : arg1.IsWhole) (arg2 : Memref sig .tc .vmem S1x2x750x512 .f32) (harg2 : arg2.IsWhole) (arg3 : Memref sig .tc .vmem S1x1x750 .f32) (harg3 : arg3.IsWhole) (arg4 : Memref sig .tc .vmem S1x2x1x750 .f32) (harg4 : arg4.IsWhole) (arg5 : Memref sig .tc .vmem S1x37x512 .f32) (harg5 : arg5.IsWhole) (arg6 : Memref sig .tc .vmem S1x37x512 .f32) (harg6 : arg6.IsWhole) (arg7 : Memref sig .tc .vmem S1x37x512 .f32) (harg7 : arg7.IsWhole) (arg8 : Memref sig .tc .vmem S1x37x512 .f32) (harg8 : arg8.IsWhole) (arg9 : Memref sig .tc .vmem S1x37x512 .f32) (harg9 : arg9.IsWhole) (arg10 : Memref sig .tc .vmem S1x37x512 .f32) (harg10 : arg10.IsWhole) (arg11 : Memref sig .tc .vmem S1x37x512 .f32) (harg11 : arg11.IsWhole) (arg12 : Memref sig .tc .vmem S1x37x512 .f32) (harg12 : arg12.IsWhole) (arg13 : Memref sig .tc .vmem S1x37x512 .f32) (harg13 : arg13.IsWhole) (arg14 : Memref sig .tc .vmem S1x37x512 .f32) (harg14 : arg14.IsWhole) (arg15 : Memref sig .tc .vmem S1x37x512 .f32) (harg15 : arg15.IsWhole) (arg16 : Memref sig .tc .vmem S1x37x512 .f32) (harg16 : arg16.IsWhole) (arg17 : Memref sig .tc .vmem S1x1x750 .f32) (harg17 : arg17.IsWhole) (arg18 : Memref sig .tc .vmem S1x1x750 .f32) (harg18 : arg18.IsWhole) (arg19 : Memref sig .tc .vmem S1x1x750 .f32) (harg19 : arg19.IsWhole) (arg20 : Memref sig .tc .vmem S40x4x750 .f32) (harg20 : arg20.IsWhole)
    (x0 : Vec F S1x750x512 .f32) (x1 : Vec F S1x2x750x512 .f32) (x2 : Vec F S1x1x750 .f32) (x3 : Vec F S1x2x1x750 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3) ∗ owns (c : Thread nD τ) arg6 fullShare (out2_5 x0 x1 x2 x3) ∗ owns (c : Thread nD τ) arg7 fullShare (out2_6 x0 x1 x2 x3) ∗ owns (c : Thread nD τ) arg8 fullShare (out2_7 x0 x1 x2 x3) ∗ owns (c : Thread nD τ) arg9 fullShare (out2_8 x0 x1 x2 x3) ∗ owns (c : Thread nD τ) arg10 fullShare (out2_9 x0 x1 x2 x3) ∗ owns (c : Thread nD τ) arg11 fullShare (out2_10 x0 x1 x2 x3) ∗ owns (c : Thread nD τ) arg12 fullShare (out2_11 x0 x1 x2 x3) ∗ owns (c : Thread nD τ) arg13 fullShare (out2_12 x0 x1 x2 x3) ∗ owns (c : Thread nD τ) arg14 fullShare (out2_13 x0 x1 x2 x3) ∗ owns (c : Thread nD τ) arg15 fullShare (out2_14 x0 x1 x2 x3) ∗ owns (c : Thread nD τ) arg16 fullShare (out2_15 x0 x1 x2 x3) ∗ owns (c : Thread nD τ) arg17 fullShare (out2_16 x0 x1 x2 x3) ∗ owns (c : Thread nD τ) arg18 fullShare (out2_17 x0 x1 x2 x3) ∗ owns (c : Thread nD τ) arg19 fullShare (out2_18 x0 x1 x2 x3) ∗ (∃ d, owns (c : Thread nD τ) arg20 fullShare d)) -∗ K ⟨⟩))
      ⊢ wp frame (wpE (defs₀ (F := F)) Variants.none c none) E (cc2__select_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc2__select_body_eq_skeleton]; unfold cc2__select_body_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (View.cover_of_tiled [⟨_, _⟩] S1x37x512.size (by rfl))).trans ?_
    refine congrArg (fun z => View.canon [⟨r2_3, z⟩]) (congrArg _ ?_)
    exact load1 _ _ _ _ _ _ _ _ _ _ _ _ _ _
  isplitl [H5]
  · iexists _; isplitr
    swap; · iexact H5
    ipureintro
    refine (View.read_writes_eq_canon _ _ _ (View.cover_of_tiled [⟨_, _⟩] S1x37x512.size (by rfl))).trans ?_
    refine congrArg (fun z => View.canon [⟨r2_3, z⟩]) (congrArg _ ?_)
    exact load2 _ _ _ _ _ _ _ _ _ _ _ _ _ _
  isplitl [H6]
  · iexists _; isplitr
    swap; · iexact H6
    ipureintro
    refine (View.read_writes_eq_canon _ _ _ (View.cover_of_tiled [⟨_, _⟩] S1x37x512.size (by rfl))).trans ?_
    refine congrArg (fun z => View.canon [⟨r2_3, z⟩]) (congrArg _ ?_)
    exact load3 _ _ _ _ _ _ _ _ _ _ _ _ _ _
  isplitl [H7]
  · iexists _; isplitr
    swap; · iexact H7
    ipureintro
    refine (View.read_writes_eq_canon _ _ _ (View.cover_of_tiled [⟨_, _⟩] S1x37x512.size (by rfl))).trans ?_
    refine congrArg (fun z => View.canon [⟨r2_3, z⟩]) (congrArg _ ?_)
    exact load4 _ _ _ _ _ _ _ _ _ _ _ _ _ _
  isplitl [H8]
  · iexists _; isplitr
    swap; · iexact H8
    ipureintro
    refine (View.read_writes_eq_canon _ _ _ (View.cover_of_tiled [⟨_, _⟩] S1x37x512.size (by rfl))).trans ?_
    refine congrArg (fun z => View.canon [⟨r2_3, z⟩]) (congrArg _ ?_)
    exact load1 _ _ _ _ _ _ _ _ _ _ _ _ _ _
  isplitl [H9]
  · iexists _; isplitr
    swap; · iexact H9
    ipureintro
    refine (View.read_writes_eq_canon _ _ _ (View.cover_of_tiled [⟨_, _⟩] S1x37x512.size (by rfl))).trans ?_
    refine congrArg (fun z => View.canon [⟨r2_3, z⟩]) (congrArg _ ?_)
    exact load2 _ _ _ _ _ _ _ _ _ _ _ _ _ _
  isplitl [H10]
  · iexists _; isplitr
    swap; · iexact H10
    ipureintro
    refine (View.read_writes_eq_canon _ _ _ (View.cover_of_tiled [⟨_, _⟩] S1x37x512.size (by rfl))).trans ?_
    refine congrArg (fun z => View.canon [⟨r2_3, z⟩]) (congrArg _ ?_)
    exact load3 _ _ _ _ _ _ _ _ _ _ _ _ _ _
  isplitl [H11]
  · iexists _; isplitr
    swap; · iexact H11
    ipureintro
    refine (View.read_writes_eq_canon _ _ _ (View.cover_of_tiled [⟨_, _⟩] S1x37x512.size (by rfl))).trans ?_
    refine congrArg (fun z => View.canon [⟨r2_3, z⟩]) (congrArg _ ?_)
    exact load4 _ _ _ _ _ _ _ _ _ _ _ _ _ _
  isplitl [H12]
  · iexists _; isplitr
    swap; · iexact H12
    ipureintro
    refine (View.read_writes_eq_canon _ _ _ (View.cover_of_tiled [⟨_, _⟩] S1x37x512.size (by rfl))).trans ?_
    refine congrArg (fun z => View.canon [⟨r2_3, z⟩]) (congrArg _ ?_)
    exact load1 _ _ _ _ _ _ _ _ _ _ _ _ _ _
  isplitl [H13]
  · iexists _; isplitr
    swap; · iexact H13
    ipureintro
    refine (View.read_writes_eq_canon _ _ _ (View.cover_of_tiled [⟨_, _⟩] S1x37x512.size (by rfl))).trans ?_
    refine congrArg (fun z => View.canon [⟨r2_3, z⟩]) (congrArg _ ?_)
    exact load2 _ _ _ _ _ _ _ _ _ _ _ _ _ _
  isplitl [H14]
  · iexists _; isplitr
    swap; · iexact H14
    ipureintro
    refine (View.read_writes_eq_canon _ _ _ (View.cover_of_tiled [⟨_, _⟩] S1x37x512.size (by rfl))).trans ?_
    refine congrArg (fun z => View.canon [⟨r2_3, z⟩]) (congrArg _ ?_)
    exact load3 _ _ _ _ _ _ _ _ _ _ _ _ _ _
  isplitl [H15]
  · iexists _; isplitr
    swap; · iexact H15
    ipureintro
    refine (View.read_writes_eq_canon _ _ _ (View.cover_of_tiled [⟨_, _⟩] S1x37x512.size (by rfl))).trans ?_
    refine congrArg (fun z => View.canon [⟨r2_3, z⟩]) (congrArg _ ?_)
    exact load4 _ _ _ _ _ _ _ _ _ _ _ _ _ _
  isplitl [H16]
  · iexists _; isplitr
    swap; · iexact H16
    ipureintro
    refine (View.read_writes_eq_canon _ _ _ (View.cover_of_tiled [⟨_, _⟩] S1x1x750.size (by rfl))).trans ?_
    rfl
  isplitl [H17]
  · iexists _; isplitr
    swap; · iexact H17
    ipureintro
    refine (View.read_writes_eq_canon _ _ _ (View.cover_of_tiled [⟨_, _⟩] S1x1x750.size (by rfl))).trans ?_
    rfl
  isplitl [H18]
  · iexists _; isplitr
    swap; · iexact H18
    ipureintro
    refine (View.read_writes_eq_canon _ _ _ (View.cover_of_tiled [⟨_, _⟩] S1x1x750.size (by rfl))).trans ?_
    rfl
  iexists _; iexists _; isplitr
  swap; · iexact H19
  ipureintro; rfl

/-- The scratch buffer. -/
abbrev scM2_0 : Memref sig .tc .vmem S40x4x750 .f32 := Memref.whole cc2_scratch0
/-- The buffers that live through the call: the scratch, and the rest. -/
theorem scopedRest2_flat (c : Dev nD) : (Pipeline.scopedRest spec2 c : sProp 𝕄) = iprop((∃ f : Buf (Elt F) ((c : Thread nD τ).loc cc2_scratch0), ((c : Thread nD τ).loc cc2_scratch0) ↦{fullShare} f) ∗ Pipeline.scopedRestBut spec2 c [cc2_scratch0]) := by rw [scopedRest2_split]
/-- What rides through the call: the scratch at some contents, the rest, and the generator register. -/
theorem PhiA2_eq (c : Dev nD) : (Pipeline.ΦA spec2 c : sProp 𝕄) = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl

variable (V : (c : Dev nD) → (b : Ref sig .tc) → Buf (Elt F) ((c : Thread nD τ).loc b))

/-- An input block of a grid point, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of an input holds its block when the body starts. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of an input holds its block when the body starts. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of an input holds its block when the body starts. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of an input holds its block when the body starts. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- What each buffer holds before and after the body at every grid point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t)
    | ⟨7, _⟩ => out2_7 (iblk2 V c 0 t) (iblk2 V c 1 t) (iblk2 V c 2 t) (iblk2 V c 3 t)
    | ⟨8, _⟩ => out2_8 (iblk2 V c 0 t) (iblk2 V c 1 t) (iblk2 V c 2 t) (iblk2 V c 3 t)
    | ⟨9, _⟩ => out2_9 (iblk2 V c 0 t) (iblk2 V c 1 t) (iblk2 V c 2 t) (iblk2 V c 3 t)
    | ⟨10, _⟩ => out2_10 (iblk2 V c 0 t) (iblk2 V c 1 t) (iblk2 V c 2 t) (iblk2 V c 3 t)
    | ⟨11, _⟩ => out2_11 (iblk2 V c 0 t) (iblk2 V c 1 t) (iblk2 V c 2 t) (iblk2 V c 3 t)
    | ⟨12, _⟩ => out2_12 (iblk2 V c 0 t) (iblk2 V c 1 t) (iblk2 V c 2 t) (iblk2 V c 3 t)
    | ⟨13, _⟩ => out2_13 (iblk2 V c 0 t) (iblk2 V c 1 t) (iblk2 V c 2 t) (iblk2 V c 3 t)
    | ⟨14, _⟩ => out2_14 (iblk2 V c 0 t) (iblk2 V c 1 t) (iblk2 V c 2 t) (iblk2 V c 3 t)
    | ⟨15, _⟩ => out2_15 (iblk2 V c 0 t) (iblk2 V c 1 t) (iblk2 V c 2 t) (iblk2 V c 3 t)
    | ⟨16, _⟩ => out2_16 (iblk2 V c 0 t) (iblk2 V c 1 t) (iblk2 V c 2 t) (iblk2 V c 3 t)
    | ⟨17, _⟩ => out2_17 (iblk2 V c 0 t) (iblk2 V c 1 t) (iblk2 V c 2 t) (iblk2 V c 3 t)
    | ⟨18, _⟩ => out2_18 (iblk2 V c 0 t) (iblk2 V c 1 t) (iblk2 V c 2 t) (iblk2 V c 3 t)
    | ⟨_ + 19, h⟩ => absurd h (Nat.not_lt.2 (Nat.le_add_left _ _))
  Φ _ := Pipeline.ΦA spec2 c
  q _ := fullShare
  owed _ := 0

/-- The arrays are the contents the call is entered with. -/
theorem A_eq2 (c : Dev nD) (w : Fin cfg2.W) : (dat2 V c).A w = V c (Pipeline.arrRef spec2 w) := by
  dsimp only [dat2]

/-- What the body leaves in each window. -/
theorem after2_0 (c : Dev nD) (t : Fin cfg2.N) : (dat2 V c).after 0 t = iblk2 V c 0 t := by dsimp only [dat2]
/-- What the body leaves in each window. -/
theorem after2_1 (c : Dev nD) (t : Fin cfg2.N) : (dat2 V c).after 1 t = iblk2 V c 1 t := by dsimp only [dat2]
/-- What the body leaves in each window. -/
theorem after2_2 (c : Dev nD) (t : Fin cfg2.N) : (dat2 V c).after 2 t = iblk2 V c 2 t := by dsimp only [dat2]
/-- What the body leaves in each window. -/
theorem after2_3 (c : Dev nD) (t : Fin cfg2.N) : (dat2 V c).after 3 t = iblk2 V c 3 t := by dsimp only [dat2]
/-- What the body leaves in each window. -/
theorem after2_4 (c : Dev nD) (t : Fin cfg2.N) : (dat2 V c).after 4 t = out2_4 (iblk2 V c 0 t) (iblk2 V c 1 t) (iblk2 V c 2 t) (iblk2 V c 3 t) := by dsimp only [dat2]
/-- What the body leaves in each window. -/
theorem after2_5 (c : Dev nD) (t : Fin cfg2.N) : (dat2 V c).after 5 t = out2_5 (iblk2 V c 0 t) (iblk2 V c 1 t) (iblk2 V c 2 t) (iblk2 V c 3 t) := by dsimp only [dat2]
/-- What the body leaves in each window. -/
theorem after2_6 (c : Dev nD) (t : Fin cfg2.N) : (dat2 V c).after 6 t = out2_6 (iblk2 V c 0 t) (iblk2 V c 1 t) (iblk2 V c 2 t) (iblk2 V c 3 t) := by dsimp only [dat2]
/-- What the body leaves in each window. -/
theorem after2_7 (c : Dev nD) (t : Fin cfg2.N) : (dat2 V c).after 7 t = out2_7 (iblk2 V c 0 t) (iblk2 V c 1 t) (iblk2 V c 2 t) (iblk2 V c 3 t) := by dsimp only [dat2]
/-- What the body leaves in each window. -/
theorem after2_8 (c : Dev nD) (t : Fin cfg2.N) : (dat2 V c).after 8 t = out2_8 (iblk2 V c 0 t) (iblk2 V c 1 t) (iblk2 V c 2 t) (iblk2 V c 3 t) := by dsimp only [dat2]
/-- What the body leaves in each window. -/
theorem after2_9 (c : Dev nD) (t : Fin cfg2.N) : (dat2 V c).after 9 t = out2_9 (iblk2 V c 0 t) (iblk2 V c 1 t) (iblk2 V c 2 t) (iblk2 V c 3 t) := by dsimp only [dat2]
/-- What the body leaves in each window. -/
theorem after2_10 (c : Dev nD) (t : Fin cfg2.N) : (dat2 V c).after 10 t = out2_10 (iblk2 V c 0 t) (iblk2 V c 1 t) (iblk2 V c 2 t) (iblk2 V c 3 t) := by dsimp only [dat2]
/-- What the body leaves in each window. -/
theorem after2_11 (c : Dev nD) (t : Fin cfg2.N) : (dat2 V c).after 11 t = out2_11 (iblk2 V c 0 t) (iblk2 V c 1 t) (iblk2 V c 2 t) (iblk2 V c 3 t) := by dsimp only [dat2]
/-- What the body leaves in each window. -/
theorem after2_12 (c : Dev nD) (t : Fin cfg2.N) : (dat2 V c).after 12 t = out2_12 (iblk2 V c 0 t) (iblk2 V c 1 t) (iblk2 V c 2 t) (iblk2 V c 3 t) := by dsimp only [dat2]
/-- What the body leaves in each window. -/
theorem after2_13 (c : Dev nD) (t : Fin cfg2.N) : (dat2 V c).after 13 t = out2_13 (iblk2 V c 0 t) (iblk2 V c 1 t) (iblk2 V c 2 t) (iblk2 V c 3 t) := by dsimp only [dat2]
/-- What the body leaves in each window. -/
theorem after2_14 (c : Dev nD) (t : Fin cfg2.N) : (dat2 V c).after 14 t = out2_14 (iblk2 V c 0 t) (iblk2 V c 1 t) (iblk2 V c 2 t) (iblk2 V c 3 t) := by dsimp only [dat2]
/-- What the body leaves in each window. -/
theorem after2_15 (c : Dev nD) (t : Fin cfg2.N) : (dat2 V c).after 15 t = out2_15 (iblk2 V c 0 t) (iblk2 V c 1 t) (iblk2 V c 2 t) (iblk2 V c 3 t) := by dsimp only [dat2]
/-- What the body leaves in each window. -/
theorem after2_16 (c : Dev nD) (t : Fin cfg2.N) : (dat2 V c).after 16 t = out2_16 (iblk2 V c 0 t) (iblk2 V c 1 t) (iblk2 V c 2 t) (iblk2 V c 3 t) := by dsimp only [dat2]
/-- What the body leaves in each window. -/
theorem after2_17 (c : Dev nD) (t : Fin cfg2.N) : (dat2 V c).after 17 t = out2_17 (iblk2 V c 0 t) (iblk2 V c 1 t) (iblk2 V c 2 t) (iblk2 V c 3 t) := by dsimp only [dat2]
/-- What the body leaves in each window. -/
theorem after2_18 (c : Dev nD) (t : Fin cfg2.N) : (dat2 V c).after 18 t = out2_18 (iblk2 V c 0 t) (iblk2 V c 1 t) (iblk2 V c 2 t) (iblk2 V c 3 t) := by dsimp only [dat2]

/-- The staging buffer of an input holds its block when the body starts. -/
theorem before2_0 (c : Dev nD) (t : Fin cfg2.N) (d) : (dat2 V c).before 0 t d = iblk2 V c 0 t :=
  before2_0_of V (dat2 V c) (A_eq2 V c 0) (after2_0 V c) t d
/-- The staging buffer of an input holds its block when the body starts. -/
theorem before2_1 (c : Dev nD) (t : Fin cfg2.N) (d) : (dat2 V c).before 1 t d = iblk2 V c 1 t :=
  before2_1_of V (dat2 V c) (A_eq2 V c 1) (after2_1 V c) t d
/-- The staging buffer of an input holds its block when the body starts. -/
theorem before2_2 (c : Dev nD) (t : Fin cfg2.N) (d) : (dat2 V c).before 2 t d = iblk2 V c 2 t :=
  before2_2_of V (dat2 V c) (A_eq2 V c 2) (after2_2 V c) t d
/-- The staging buffer of an input holds its block when the body starts. -/
theorem before2_3 (c : Dev nD) (t : Fin cfg2.N) (d) : (dat2 V c).before 3 t d = iblk2 V c 3 t :=
  before2_3_of V (dat2 V c) (A_eq2 V c 3) (after2_3 V c) t d

/-- What the body is called with. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d))
    ∗ (∃ d, owns (c : Thread nD τ) (st2_18 t) fullShare ((dat2 V c).before 18 t d)))

/-- What the body returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t)
    ∗ owns (c : Thread nD τ) (st2_18 t) fullShare ((dat2 V c).after 18 t))

/-- The body at any grid point, from the buffers it is handed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17, after2_18]
  rw [show (dat2 V c).Φ t.castSucc = Pipeline.ΦA spec2 c from rfl, PhiA2_eq]
  iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel2 c Set.univ (grid2.coords t) _ _ _ _ _ _ _ _ _ _ _ _ _ _ _ _ _ _ _ _ _ _ _ _ _ _ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS]; · iexact HS
  iintro ⟨H0, H1, H2, H3, H4, H5, H6, H7, H8, H9, H10, H11, H12, H13, H14, H15, H16, H17, H18, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body of the call is the printed one. -/
theorem defs₀_row2 (t : Fin cfg2.N) :
    defs₀ (F := F) .tc cfg2.body (cfg2.bodyArgs t (cfg2.slots t)) = bodyAt2 t := by
  unfold defs₀; rw [Defs.onTc_tc]

/-- The body keeps its promise at every grid point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Hand

end
-- ==== Proof.IdealRun.lean ====
/- The whole run: what every buffer holds when the program returns. -/
module

public import proofs.«01_k».proof.Proof.IdealBase
public import proofs.«01_k».proof.Proof.IdealStream
public import proofs.«01_k».proof.Proof.IdealSelect
public import proofs.«01_k».proof.Proof.Gen.KernelIdeal.Launch
public import proofs.«01_k».proof.Proof.Gen.KernelIdeal.Skeleton
public import proofs.«01_k».proof.Proof.Gen.KernelIdeal.Points
public import Idealize.ShloMosaic.Lib.WritesUnit
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments. -/
abbrev argRefs : List (Ref sig .tc) := [main_arg0, main_arg1, main_arg2, main_arg3, main_arg4, main_arg5, main_arg6, main_arg7, main_arg8, main_arg9, main_arg10, main_arg11, main_arg12]

/-- A stretch of host operations allocates nothing and writes only the listed buffers. -/
theorem hostOps0_fresh : (hostOps0 : List (HloOp τ sig (Elt F))).Forall fun op => op.fresh = ∅ := by
  simp only [List.Forall]; repeat' constructor
/-- A stretch of host operations allocates nothing and writes only the listed buffers. -/
abbrev hostOps0_W : List (Ref sig .tc) := [main_c]
/-- A stretch of host operations allocates nothing and writes only the listed buffers. -/
theorem hostOps0_writes : (hostOps0 : List (HloOp τ sig (Elt F))).Forall fun op => op.writes ⊆ (hostOps0_W.map (Proc.devRef (τ := τ) .tc)).toFinset :=
  StableHlo.forall_writes_sub_of_map rfl
/-- A stretch of host operations allocates nothing and writes only the listed buffers. -/
theorem hostOps0_args : ∀ a ∈ argRefs, a ∉ hostOps0_W := ListAll.forall_mem_of_all_decide (by decide +kernel)

/-- A stretch of host operations allocates nothing and writes only the listed buffers. -/
theorem hostOps0_1_fresh : (hostOps0_1 : List (HloOp τ sig (Elt F))).Forall fun op => op.fresh = ∅ := by
  simp only [List.Forall]; repeat' constructor
/-- A stretch of host operations allocates nothing and writes only the listed buffers. -/
abbrev hostOps0_1_W : List (Ref sig .tc) := [main_call0_v0, main_v0]
/-- A stretch of host operations allocates nothing and writes only the listed buffers. -/
theorem hostOps0_1_writes : (hostOps0_1 : List (HloOp τ sig (Elt F))).Forall fun op => op.writes ⊆ (hostOps0_1_W.map (Proc.devRef (τ := τ) .tc)).toFinset :=
  StableHlo.forall_writes_sub_of_map rfl
/-- A stretch of host operations allocates nothing and writes only the listed buffers. -/
theorem hostOps0_1_args : ∀ a ∈ argRefs, a ∉ hostOps0_1_W := ListAll.forall_mem_of_all_decide (by decide +kernel)

/-- A stretch of host operations allocates nothing and writes only the listed buffers. -/
theorem hostOps0_2_fresh : (hostOps0_2 : List (HloOp τ sig (Elt F))).Forall fun op => op.fresh = ∅ := by
  simp only [List.Forall]; repeat' constructor
/-- A stretch of host operations allocates nothing and writes only the listed buffers. -/
abbrev hostOps0_2_W : List (Ref sig .tc) := [main_v1, main_v2, main_v3, main_v4, main_v5, main_v6, main_v7, main_v8, main_v9, main_v10, main_v11, main_v12, main_v13, main_v14, main_v15, main_v16, main_v17, main_v18, main_v19, main_v20, main_c_0]
/-- A stretch of host operations allocates nothing and writes only the listed buffers. -/
theorem hostOps0_2_writes : (hostOps0_2 : List (HloOp τ sig (Elt F))).Forall fun op => op.writes ⊆ (hostOps0_2_W.map (Proc.devRef (τ := τ) .tc)).toFinset :=
  StableHlo.forall_writes_sub_of_map rfl
/-- A stretch of host operations allocates nothing and writes only the listed buffers. -/
theorem hostOps0_2_args : ∀ a ∈ argRefs, a ∉ hostOps0_2_W := ListAll.forall_mem_of_all_decide (by decide +kernel)

/-- A stretch of host operations allocates nothing and writes only the listed buffers. -/
theorem hostOps0_3_fresh : (hostOps0_3 : List (HloOp τ sig (Elt F))).Forall fun op => op.fresh = ∅ := by
  simp only [List.Forall]; repeat' constructor
/-- A stretch of host operations allocates nothing and writes only the listed buffers. -/
abbrev hostOps0_3_W : List (Ref sig .tc) := [main_call1_v0, main_v21]
/-- A stretch of host operations allocates nothing and writes only the listed buffers. -/
theorem hostOps0_3_writes : (hostOps0_3 : List (HloOp τ sig (Elt F))).Forall fun op => op.writes ⊆ (hostOps0_3_W.map (Proc.devRef (τ := τ) .tc)).toFinset :=
  StableHlo.forall_writes_sub_of_map rfl
/-- A stretch of host operations allocates nothing and writes only the listed buffers. -/
theorem hostOps0_3_args : ∀ a ∈ argRefs, a ∉ hostOps0_3_W := ListAll.forall_mem_of_all_decide (by decide +kernel)

/-- A stretch of host operations allocates nothing and writes only the listed buffers. -/
theorem hostOps0_4_fresh : (hostOps0_4 : List (HloOp τ sig (Elt F))).Forall fun op => op.fresh = ∅ := by
  simp only [List.Forall]; repeat' constructor
/-- A stretch of host operations allocates nothing and writes only the listed buffers. -/
abbrev hostOps0_4_W : List (Ref sig .tc) := [main_v22, main_v23, main_v24, main_v25, main_v26, main_v27, main_v28, main_v29, main_v30, main_v31, main_v32, main_v33, main_v34, main_v35]
/-- A stretch of host operations allocates nothing and writes only the listed buffers. -/
theorem hostOps0_4_writes : (hostOps0_4 : List (HloOp τ sig (Elt F))).Forall fun op => op.writes ⊆ (hostOps0_4_W.map (Proc.devRef (τ := τ) .tc)).toFinset :=
  StableHlo.forall_writes_sub_of_map rfl
/-- A stretch of host operations allocates nothing and writes only the listed buffers. -/
theorem hostOps0_4_args : ∀ a ∈ argRefs, a ∉ hostOps0_4_W := ListAll.forall_mem_of_all_decide (by decide +kernel)

/-- A stretch of host operations allocates nothing and writes only the listed buffers. -/
theorem hostOps3_fresh : (hostOps3 : List (HloOp τ sig (Elt F))).Forall fun op => op.fresh = ∅ := by
  simp only [List.Forall]; repeat' constructor
/-- A stretch of host operations allocates nothing and writes only the listed buffers. -/
abbrev hostOps3_W : List (Ref sig .tc) := [main_v37, main_v38, main_v39, main_v40, main_v41, main_v42, main_v43, main_v44]
/-- A stretch of host operations allocates nothing and writes only the listed buffers. -/
theorem hostOps3_writes : (hostOps3 : List (HloOp τ sig (Elt F))).Forall fun op => op.writes ⊆ (hostOps3_W.map (Proc.devRef (τ := τ) .tc)).toFinset :=
  StableHlo.forall_writes_sub_of_map rfl
/-- A stretch of host operations allocates nothing and writes only the listed buffers. -/
theorem hostOps3_args : ∀ a ∈ argRefs, a ∉ hostOps3_W := ListAll.forall_mem_of_all_decide (by decide +kernel)

/-- What every buffer holds at this boundary of the run. -/
abbrev W0 : Dev nD → Valuation τ sig (Elt F) := fun c b => (s₀ m ρ).mem ((c : Dev nD), b)
/-- What every buffer holds at this boundary of the run. -/
theorem W0_args (c : Dev nD) : ∀ a ∈ argRefs, W0 m ρ c (Proc.devRef .tc a) = m ((c : Thread nD τ).loc a) := fun _ _ => rfl
/-- What every buffer holds at this boundary of the run. -/
abbrev W1 : Dev nD → Valuation τ sig (Elt F) := fun c => StableHlo.after hostOps0 (W0 m ρ c)
/-- What every buffer holds at this boundary of the run. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- What every buffer holds at this boundary of the run. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- What every buffer holds at this boundary of the run. -/
abbrev W2 : Dev nD → Valuation τ sig (Elt F) := fun c => StableHlo.after hostOps0_1 (W1 m ρ c)
/-- What every buffer holds at this boundary of the run. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- What every buffer holds at this boundary of the run. -/
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- What every buffer holds at this boundary of the run. -/
abbrev W3 : Dev nD → Valuation τ sig (Elt F) := fun c => StableHlo.after hostOps0_2 (W2 m ρ c)
/-- What every buffer holds at this boundary of the run. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- What every buffer holds at this boundary of the run. -/
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- What every buffer holds at this boundary of the run. -/
abbrev W4 : Dev nD → Valuation τ sig (Elt F) := fun c => StableHlo.after hostOps0_3 (W3 m ρ c)
/-- What every buffer holds at this boundary of the run. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
/-- What every buffer holds at this boundary of the run. -/
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- What every buffer holds at this boundary of the run. -/
abbrev W5 : Dev nD → Valuation τ sig (Elt F) := fun c => StableHlo.after hostOps0_4 (W4 m ρ c)
/-- What every buffer holds at this boundary of the run. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
/-- What every buffer holds at this boundary of the run. -/
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- The same, read at the references. -/
abbrev V5 : (c : Dev nD) → (b : Ref sig .tc) → Buf (Elt F) ((c : Thread nD τ).loc b) := fun c b => W5 m ρ c b
/-- What every buffer holds at this boundary of the run. -/
def W6 (c : Dev nD) : Valuation τ sig (Elt F) :=
  Pipeline.withArrays spec0 c (W5 m ρ c) fun w => (dat0 (V5 m ρ) c).arrAt w cfg0.N
/-- What every buffer holds at this boundary of the run. -/
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
/-- What every buffer holds at this boundary of the run. -/
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- What every buffer holds at this boundary of the run. -/
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat0 (V5 m ρ) c).arrAt_in w (h w rfl) _).trans (A_eq0 (V5 m ρ) c w))
  · exact W6_of_ne m ρ c r fun w e => hw ⟨w, e⟩
/-- An argument is never an output of this call. -/
theorem argsIn0 : ∀ a ∈ argRefs, ∀ w : Fin cfg0.W, Pipeline.arrRef spec0 w = a → (cfg0.win w).isOut = false :=
  ListAll.forall_mem_of_all_decide (by decide +kernel)
/-- What every buffer holds at this boundary of the run. -/
theorem W6_args (c : Dev nD) : ∀ a ∈ argRefs, W6 m ρ c (Proc.devRef .tc a) = m ((c : Thread nD τ).loc a) :=
  fun a ha => (W6_of m ρ c a (argsIn0 a ha)).trans (W5_args m ρ c a ha)
/-- The same, read at the references. -/
abbrev V6 : (c : Dev nD) → (b : Ref sig .tc) → Buf (Elt F) ((c : Thread nD τ).loc b) := fun c b => W6 m ρ c b
/-- At its end a call's arrays hold what its write-backs leave. -/
theorem hF0 (c : Dev nD) (w : Fin cfg0.W) : (dat0 (V5 m ρ) c).arrAt w cfg0.N = V6 m ρ c (Pipeline.arrRef spec0 w) :=
  (W6_arr m ρ c w).symm
/-- Every other buffer is as the call found it. -/
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- What every buffer holds at this boundary of the run. -/
def W7 (c : Dev nD) : Valuation τ sig (Elt F) :=
  Pipeline.withArrays spec1 c (W6 m ρ c) fun w => (dat1 (V6 m ρ) c).arrAt w cfg1.N
/-- What every buffer holds at this boundary of the run. -/
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
/-- What every buffer holds at this boundary of the run. -/
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- What every buffer holds at this boundary of the run. -/
theorem W7_of (c : Dev nD) (r : Ref sig .tc) (h : ∀ w : Fin cfg1.W, Pipeline.arrRef spec1 w = r → (cfg1.win w).isOut = false) :
    W7 m ρ c (Proc.devRef .tc r) = W6 m ρ c (Proc.devRef .tc r) := by
  by_cases hw : ∃ w : Fin cfg1.W, Pipeline.arrRef spec1 w = r
  · obtain ⟨w, rfl⟩ := hw
    exact (W7_arr m ρ c w).trans (((dat1 (V6 m ρ) c).arrAt_in w (h w rfl) _).trans (A_eq1 (V6 m ρ) c w))
  · exact W7_of_ne m ρ c r fun w e => hw ⟨w, e⟩
/-- An argument is never an output of this call. -/
theorem argsIn1 : ∀ a ∈ argRefs, ∀ w : Fin cfg1.W, Pipeline.arrRef spec1 w = a → (cfg1.win w).isOut = false :=
  ListAll.forall_mem_of_all_decide (by decide +kernel)
/-- What every buffer holds at this boundary of the run. -/
theorem W7_args (c : Dev nD) : ∀ a ∈ argRefs, W7 m ρ c (Proc.devRef .tc a) = m ((c : Thread nD τ).loc a) :=
  fun a ha => (W7_of m ρ c a (argsIn1 a ha)).trans (W6_args m ρ c a ha)
/-- The same, read at the references. -/
abbrev V7 : (c : Dev nD) → (b : Ref sig .tc) → Buf (Elt F) ((c : Thread nD τ).loc b) := fun c b => W7 m ρ c b
/-- At its end a call's arrays hold what its write-backs leave. -/
theorem hF1 (c : Dev nD) (w : Fin cfg1.W) : (dat1 (V6 m ρ) c).arrAt w cfg1.N = V7 m ρ c (Pipeline.arrRef spec1 w) :=
  (W7_arr m ρ c w).symm
/-- Every other buffer is as the call found it. -/
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- What every buffer holds at this boundary of the run. -/
def W8 (c : Dev nD) : Valuation τ sig (Elt F) :=
  Pipeline.withArrays spec2 c (W7 m ρ c) fun w => (dat2 (V7 m ρ) c).arrAt w cfg2.N
/-- What every buffer holds at this boundary of the run. -/
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
/-- What every buffer holds at this boundary of the run. -/
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- What every buffer holds at this boundary of the run. -/
theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) c).arrAt_in w (h w rfl) _).trans (A_eq2 (V7 m ρ) c w))
  · exact W8_of_ne m ρ c r fun w e => hw ⟨w, e⟩
/-- An argument is never an output of this call. -/
theorem argsIn2 : ∀ a ∈ argRefs, ∀ w : Fin cfg2.W, Pipeline.arrRef spec2 w = a → (cfg2.win w).isOut = false :=
  ListAll.forall_mem_of_all_decide (by decide +kernel)
/-- What every buffer holds at this boundary of the run. -/
theorem W8_args (c : Dev nD) : ∀ a ∈ argRefs, W8 m ρ c (Proc.devRef .tc a) = m ((c : Thread nD τ).loc a) :=
  fun a ha => (W8_of m ρ c a (argsIn2 a ha)).trans (W7_args m ρ c a ha)
/-- The same, read at the references. -/
abbrev V8 : (c : Dev nD) → (b : Ref sig .tc) → Buf (Elt F) ((c : Thread nD τ).loc b) := fun c b => W8 m ρ c b
/-- At its end a call's arrays hold what its write-backs leave. -/
theorem hF2 (c : Dev nD) (w : Fin cfg2.W) : (dat2 (V7 m ρ) c).arrAt w cfg2.N = V8 m ρ c (Pipeline.arrRef spec2 w) :=
  (W8_arr m ρ c w).symm
/-- Every other buffer is as the call found it. -/
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- What every buffer holds at this boundary of the run. -/
abbrev W9 : Dev nD → Valuation τ sig (Elt F) := fun c => StableHlo.after hostOps3 (W8 m ρ c)
/-- What every buffer holds at this boundary of the run. -/
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
/-- What every buffer holds at this boundary of the run. -/
theorem W9_args (c : Dev nD) : ∀ a ∈ argRefs, W9 m ρ c (Proc.devRef .tc a) = m ((c : Thread nD τ).loc a) :=
  fun a ha => (W9_of m ρ c a (hostOps3_args a ha)).trans (W8_args m ρ c a ha)

/-- What every buffer holds at this boundary of the run. -/
theorem W9_main_arg0 (c : Dev nD) : W9 m ρ c (Proc.devRef .tc main_arg0) = m ((c : Thread nD τ).loc main_arg0) :=
  W9_args m ρ c main_arg0 (by decide)
/-- What every buffer holds at this boundary of the run. -/
theorem W9_main_arg1 (c : Dev nD) : W9 m ρ c (Proc.devRef .tc main_arg1) = m ((c : Thread nD τ).loc main_arg1) :=
  W9_args m ρ c main_arg1 (by decide)
/-- What every buffer holds at this boundary of the run. -/
theorem W9_main_arg2 (c : Dev nD) : W9 m ρ c (Proc.devRef .tc main_arg2) = m ((c : Thread nD τ).loc main_arg2) :=
  W9_args m ρ c main_arg2 (by decide)
/-- What every buffer holds at this boundary of the run. -/
theorem W9_main_arg3 (c : Dev nD) : W9 m ρ c (Proc.devRef .tc main_arg3) = m ((c : Thread nD τ).loc main_arg3) :=
  W9_args m ρ c main_arg3 (by decide)
/-- What every buffer holds at this boundary of the run. -/
theorem W9_main_arg4 (c : Dev nD) : W9 m ρ c (Proc.devRef .tc main_arg4) = m ((c : Thread nD τ).loc main_arg4) :=
  W9_args m ρ c main_arg4 (by decide)
/-- What every buffer holds at this boundary of the run. -/
theorem W9_main_arg5 (c : Dev nD) : W9 m ρ c (Proc.devRef .tc main_arg5) = m ((c : Thread nD τ).loc main_arg5) :=
  W9_args m ρ c main_arg5 (by decide)
/-- What every buffer holds at this boundary of the run. -/
theorem W9_main_arg6 (c : Dev nD) : W9 m ρ c (Proc.devRef .tc main_arg6) = m ((c : Thread nD τ).loc main_arg6) :=
  W9_args m ρ c main_arg6 (by decide)
/-- What every buffer holds at this boundary of the run. -/
theorem W9_main_arg7 (c : Dev nD) : W9 m ρ c (Proc.devRef .tc main_arg7) = m ((c : Thread nD τ).loc main_arg7) :=
  W9_args m ρ c main_arg7 (by decide)
/-- What every buffer holds at this boundary of the run. -/
theorem W9_main_arg8 (c : Dev nD) : W9 m ρ c (Proc.devRef .tc main_arg8) = m ((c : Thread nD τ).loc main_arg8) :=
  W9_args m ρ c main_arg8 (by decide)
/-- What every buffer holds at this boundary of the run. -/
theorem W9_main_arg9 (c : Dev nD) : W9 m ρ c (Proc.devRef .tc main_arg9) = m ((c : Thread nD τ).loc main_arg9) :=
  W9_args m ρ c main_arg9 (by decide)
/-- What every buffer holds at this boundary of the run. -/
theorem W9_main_arg10 (c : Dev nD) : W9 m ρ c (Proc.devRef .tc main_arg10) = m ((c : Thread nD τ).loc main_arg10) :=
  W9_args m ρ c main_arg10 (by decide)
/-- What every buffer holds at this boundary of the run. -/
theorem W9_main_arg11 (c : Dev nD) : W9 m ρ c (Proc.devRef .tc main_arg11) = m ((c : Thread nD τ).loc main_arg11) :=
  W9_args m ρ c main_arg11 (by decide)
/-- What every buffer holds at this boundary of the run. -/
theorem W9_main_arg12 (c : Dev nD) : W9 m ρ c (Proc.devRef .tc main_arg12) = m ((c : Thread nD τ).loc main_arg12) :=
  W9_args m ρ c main_arg12 (by decide)

/-- No call has a table. -/
abbrev adm : (p : Fin 3) → (pcfgs (F := F) p).Adm := fun p => (cfgs p).toPCfg_adm
/-- The three calls' data. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
  | ⟨2, _⟩ => fun c => dat2 (V7 m ρ) c
abbrev 𝒱₀ : Variants := Variants.none
/-- No core owes anything. -/
abbrev L : GSem nD τ sig → Finset Unit := fun _ => ∅
/-- No level is assigned. -/
abbrev lv : GSem nD τ sig → Unit → ℕ := fun _ _ => 0
/-- What rides along. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer of the whole program is among those the run holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What holds at the end. -/
abbrev Tₙ (c : Dev nD) : sProp 𝕄 := iprop(StableHlo.held (c : Thread nD τ) (Pipeline.ucRefs τ sig) (W9 m ρ c) ∗ ∃ r, prngReg c r)

set_option backward.isDefEq.respectTransparency.types false in
/-- A call as a segment of the run. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- A call as a segment of the run. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) (A_eq1 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- A call as a segment of the run. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The run's segments. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ),
    .region (reg2 m ρ),
    .host (hseg hostOps3 hostOps3_sub hostOps3_fresh (W8 m ρ)) ]
/-- The program is its segments, one after another. -/
theorem main_run (c : Dev nD) : main (F := F) c = Pipeline.Seg.run (segs m ρ) := (main_chain c).trans (by chain_rfl)

/-- Every counter is a call's own. -/
theorem no_unscoped : ∀ sm : SemLoc sig, sm.isScoped .tc = true := by decide

set_option backward.isDefEq.respectTransparency.types false in
/-- The program ends with every buffer at the last boundary's contents and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun s h => ⟨fun c =>
      ⟨(h.1 c _ (mem_uc main_arg0 (by decide))).trans (W9_main_arg0 m ρ c),
       (h.1 c _ (mem_uc main_arg1 (by decide))).trans (W9_main_arg1 m ρ c),
       (h.1 c _ (mem_uc main_arg2 (by decide))).trans (W9_main_arg2 m ρ c),
       (h.1 c _ (mem_uc main_arg3 (by decide))).trans (W9_main_arg3 m ρ c),
       (h.1 c _ (mem_uc main_arg4 (by decide))).trans (W9_main_arg4 m ρ c),
       (h.1 c _ (mem_uc main_arg5 (by decide))).trans (W9_main_arg5 m ρ c),
       (h.1 c _ (mem_uc main_arg6 (by decide))).trans (W9_main_arg6 m ρ c),
       (h.1 c _ (mem_uc main_arg7 (by decide))).trans (W9_main_arg7 m ρ c),
       (h.1 c _ (mem_uc main_arg8 (by decide))).trans (W9_main_arg8 m ρ c),
       (h.1 c _ (mem_uc main_arg9 (by decide))).trans (W9_main_arg9 m ρ c),
       (h.1 c _ (mem_uc main_arg10 (by decide))).trans (W9_main_arg10 m ρ c),
       (h.1 c _ (mem_uc main_arg11 (by decide))).trans (W9_main_arg11 m ρ c),
       (h.1 c _ (mem_uc main_arg12 (by decide))).trans (W9_main_arg12 m ρ c)⟩, h.2⟩) (run m ρ)

end Cert.KernelIdeal.Hand

end
-- ==== Proof.Maths.lean ====
/- The mathematics that both programs compute, over extended reals: the convolutions, the class scores, the actionness. -/
module

public import Idealize.ShloMosaic.Init
public import Idealize.ShloMosaic.Lib.Pointwise

@[expose] public section

noncomputable section

namespace Cert.Maths

open Idealize.ShloMosaic

/-- A sum over three runs of equal length. -/
theorem sum_three {n N : ℕ} (hN : N = n + n + n) (f : Fin N → EReal) :
    ∑ x, f x = (∑ k : Fin n, f ⟨k.val, by omega⟩) + (∑ k : Fin n, f ⟨n + k.val, by omega⟩)
      + ∑ k : Fin n, f ⟨n + n + k.val, by omega⟩ := by
  subst hN
  rw [Fin.sum_univ_add, Fin.sum_univ_add]
  rfl

/-- The convolution of width 3 at a row, from the rows with their padding. -/
def conv {n : ℕ} (x : Fin 752 → Fin n → EReal) (w : Fin 3 → Fin n → EReal) (t : Fin 750) : EReal :=
  (∑ k, x ⟨t.val, by omega⟩ k * w 0 k) + (∑ k, x ⟨1 + t.val, by omega⟩ k * w 1 k) + ∑ k, x ⟨2 + t.val, by omega⟩ k * w 2 k

/-- A sum over the three shifted copies of the rows, laid side by side, is the convolution. -/
theorem conv_of_sum {n N : ℕ} (hN : N = n + n + n) (f : Fin N → EReal) (x : Fin 752 → Fin n → EReal) (w : Fin 3 → Fin n → EReal) (t : Fin 750)
    (h0 : ∀ k : Fin n, f ⟨k.val, by omega⟩ = x ⟨t.val, by omega⟩ k * w 0 k)
    (h1 : ∀ k : Fin n, f ⟨n + k.val, by omega⟩ = x ⟨1 + t.val, by omega⟩ k * w 1 k)
    (h2 : ∀ k : Fin n, f ⟨n + n + k.val, by omega⟩ = x ⟨2 + t.val, by omega⟩ k * w 2 k) :
    ∑ k, f k = conv x w t := by
  rw [sum_three hN]
  unfold conv
  rw [Finset.sum_congr rfl fun k _ => h0 k, Finset.sum_congr rfl fun k _ => h1 k, Finset.sum_congr rfl fun k _ => h2 k]

/-- The shapes of the arguments. -/
abbrev SX : Shape := ⟨3, ![8, 750, 2048]⟩
/-- The shape of an argument. -/
abbrev SW : Shape := ⟨3, ![512, 2048, 3]⟩
abbrev SWh : Shape := ⟨3, ![512, 1024, 3]⟩
abbrev SD : Shape := ⟨1, ![512]⟩
abbrev SWc : Shape := ⟨3, ![20, 512, 1]⟩
abbrev SC : Shape := ⟨1, ![20]⟩
abbrev SH : Shape := ⟨3, ![1, 512, 1]⟩
abbrev S1' : Shape := ⟨1, ![1]⟩

/-- A row of the input with one row of zeros before the first and one after the last. -/
def row (X : FVec Ideal SX .f32) (b : Fin 8) (r : Fin 752) (k : Fin 2048) : EReal :=
  if h : 1 ≤ r.val ∧ r.val ≤ 750 then X (ix3 b ⟨r.val - 1, by omega⟩ k) else 0

/-- The padded row, however its two bounds are written. -/
theorem row_eq (X : FVec Ideal SX .f32) (b : Fin 8) (r : Fin 752) (k : Fin 2048) :
    (if h : 1 ≤ r.val ∧ r.val - 1 < 750 then X (ix3 b ⟨r.val - 1, h.2⟩ k) else FloatOps.sitofp (F := Ideal) .f32 (0#32 : BitVec 32)) = row X b r k := by
  unfold row
  by_cases h : 1 ≤ r.val ∧ r.val ≤ 750
  · rw [dif_pos h, dif_pos ⟨h.1, by omega⟩]
  · rw [dif_neg h, dif_neg (by omega)]
    show (((0#32 : BitVec 32).toInt : ℝ) : EReal) = 0
    simp

/-- The embedding: the convolution over all channels, its bias, the positive part. -/
def emb (X : FVec Ideal SX .f32) (W : FVec Ideal SW .f32) (v : FVec Ideal SD .f32) (b : Fin 8) (t : Fin 750) (d : Fin 512) : EReal :=
  max (conv (row X b) (fun s k => W (ix3 d k s)) t + v (ix1 d)) 0

/-- The embedding of one stream: the convolution over the 1024 channels from the given one on. -/
def embHalf (o : Fin 2) (X : FVec Ideal SX .f32) (W : FVec Ideal SWh .f32) (v : FVec Ideal SD .f32) (b : Fin 8) (t : Fin 750) (d : Fin 512) : EReal :=
  max (conv (fun r (k : Fin 1024) => row X b r ⟨o.val * 1024 + k.val, by omega⟩) (fun s k => W (ix3 d k s)) t + v (ix1 d)) 0

/-- The class scores. -/
def cas (X : FVec Ideal SX .f32) (W : FVec Ideal SW .f32) (v : FVec Ideal SD .f32) (Wc : FVec Ideal SWc .f32) (vc : FVec Ideal SC .f32)
    (b : Fin 8) (t : Fin 750) (k : Fin 20) : EReal :=
  (∑ e : Fin 512, emb X W v b t e * Wc (ix3 k e 0)) + vc (ix1 k)

/-- The actionness from the class scores. -/
def act (X : FVec Ideal SX .f32) (W : FVec Ideal SW .f32) (v : FVec Ideal SD .f32) (Wc : FVec Ideal SWc .f32) (vc : FVec Ideal SC .f32)
    (b : Fin 8) (t : Fin 750) : EReal :=
  Ideal.logistic (∑ k : Fin 20, cas X W v Wc vc b t k)

/-- The actionness of one stream. -/
def actHalf (o : Fin 2) (X : FVec Ideal SX .f32) (W : FVec Ideal SWh .f32) (v : FVec Ideal SD .f32) (w : FVec Ideal SH .f32) (vh : FVec Ideal S1' .f32)
    (b : Fin 8) (t : Fin 750) : EReal :=
  Ideal.logistic ((∑ e : Fin 512, embHalf o X W v b t e * w (ix3 0 e 0)) + vh (ix1 0))

/-- The mean of the two streams' actionness. -/
def act2 (X : FVec Ideal SX .f32) (Wr : FVec Ideal SWh .f32) (vr : FVec Ideal SD .f32) (wr : FVec Ideal SH .f32) (ur : FVec Ideal S1' .f32)
    (Wf : FVec Ideal SWh .f32) (vf : FVec Ideal SD .f32) (wf : FVec Ideal SH .f32) (uf : FVec Ideal S1' .f32) (b : Fin 8) (t : Fin 750) : EReal :=
  (actHalf 1 X Wf vf wf uf b t + actHalf 0 X Wr vr wr ur b t) * Ideal.ofBits .f32 0x3F000000#32

end Cert.Maths

end
-- ==== Proof.ValueBase.lean ====
/- What the first call computes, element by element. -/
module

public import proofs.«01_k».proof.Proof.IdealRun
public import proofs.«01_k».proof.Proof.Maths
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Maths
open Idealize.ShloMosaic.Pipeline (Dat Cfg Window)

/-- The embedding of the first call, of its operand arrays. -/
def emb0 (xp : Vec Ideal S8x752x2048 .bf16) (w3 : Vec Ideal S6144x512 .bf16) (bb : Vec Ideal S1x512 .f32) (b : Fin 8) (t : Fin 750) (d : Fin 512) : EReal :=
  max (conv (fun r k => xp (ix3 b r k)) (fun s (k : Fin 2048) => w3 (ix2 ⟨s.val * 2048 + k.val, by omega⟩ d)) t + bb (ix2 0 d)) 0

/-- Its class scores. -/
def cas0 (xp : Vec Ideal S8x752x2048 .bf16) (w3 : Vec Ideal S6144x512 .bf16) (bb : Vec Ideal S1x512 .f32) (wc : Vec Ideal S1x512x20 .bf16) (bc : Vec Ideal S1x20 .f32)
    (b : Fin 8) (t : Fin 750) (k : Fin 20) : EReal :=
  (∑ e : Fin 512, emb0 xp w3 bb b t e * wc (ix3 0 e k)) + bc (ix2 0 k)

/-- Its actionness. -/
def act0 (xp : Vec Ideal S8x752x2048 .bf16) (w3 : Vec Ideal S6144x512 .bf16) (bb : Vec Ideal S1x512 .f32) (wc : Vec Ideal S1x512x20 .bf16) (bc : Vec Ideal S1x20 .f32)
    (b : Fin 8) (t : Fin 750) : EReal :=
  Ideal.logistic (∑ k : Fin 20, cas0 xp w3 bb wc bc b t k)

/-- The stored embedding of one block is the closed form, when the block is row b of the padded input. -/
theorem pay_emb (x0 : Vec Ideal S1x752x2048 .bf16) (x1 : Vec Ideal S6144x512 .bf16) (x2 : Vec Ideal S1x512 .f32)
    (xp : Vec Ideal S8x752x2048 .bf16) (b : Fin 8) (h0 : ∀ r k, x0 (ix3 0 r k) = xp (ix3 b r k)) (t : Fin 750) (d : Fin 512) :
    k0_pay2 x0 x1 x2 (ix2 t d) = emb0 xp x1 x2 b t d := by
  pointwise [k0_pay2]
  unfold emb0
  refine congrArg (max · 0) (congrArg (· + x2 (ix2 0 d)) (conv_of_sum (n := 2048) rfl _ _ _ t (fun k => ?_) (fun k => ?_) (fun k => ?_)))
  · rw [dif_pos k.isLt, h0]
    exact congrArg (_ * ·) (congrArg x1 (congrArg (ix2 · d) (Fin.ext (by show k.val = 0 * 2048 + k.val; omega))))
  · rw [dif_neg (by show ¬ 2048 + k.val < 2048; omega), dif_pos (by show 2048 + k.val - 2048 < 2048; omega), h0]
    exact congrArg₂ (· * ·) (congrArg xp (congrArg (ix3 b _) (Fin.ext (by show 2048 + k.val - 2048 = k.val; omega))))
      (congrArg x1 (congrArg (ix2 · d) (Fin.ext (by show 2048 + k.val = 1 * 2048 + k.val; omega))))
  · rw [dif_neg (by show ¬ 2048 + 2048 + k.val < 2048; omega), dif_neg (by show ¬ 2048 + 2048 + k.val - 2048 < 2048; omega), h0]
    exact congrArg₂ (· * ·) (congrArg xp (congrArg (ix3 b _) (Fin.ext (by show 2048 + 2048 + k.val - 2048 - 2048 = k.val; omega))))
      (congrArg x1 (congrArg (ix2 · d) (Fin.ext (by show 2048 + 2048 + k.val = 2 * 2048 + k.val; omega))))

/-- The stored class scores of one block. -/
theorem pay_cas (x0 : Vec Ideal S1x752x2048 .bf16) (x1 : Vec Ideal S6144x512 .bf16) (x2 : Vec Ideal S1x512 .f32) (x3 : Vec Ideal S1x512x20 .bf16) (x4 : Vec Ideal S1x20 .f32)
    (xp : Vec Ideal S8x752x2048 .bf16) (b : Fin 8) (h0 : ∀ r k, x0 (ix3 0 r k) = xp (ix3 b r k)) (t : Fin 750) (k : Fin 20) :
    k0_pay4 x0 x1 x2 x3 x4 (ix2 t k) = cas0 xp x1 x2 x3 x4 b t k := by
  pointwise [k0_pay4]
  unfold cas0
  congr 1
  refine Finset.sum_congr rfl fun e _ => ?_
  rw [pay_emb x0 x1 x2 xp b h0]

/-- The stored actionness of one block. -/
theorem pay_act (x0 : Vec Ideal S1x752x2048 .bf16) (x1 : Vec Ideal S6144x512 .bf16) (x2 : Vec Ideal S1x512 .f32) (x3 : Vec Ideal S1x512x20 .bf16) (x4 : Vec Ideal S1x20 .f32)
    (xp : Vec Ideal S8x752x2048 .bf16) (b : Fin 8) (h0 : ∀ r k, x0 (ix3 0 r k) = xp (ix3 b r k)) (t : Fin 750) :
    k0_pay1 (k0_pay6 x0 x1 x2 x3 x4) (ix3 0 0 t) = act0 xp x1 x2 x3 x4 b t := by
  pointwise [k0_pay6, k0_pay1]
  unfold act0
  congr 1
  refine Finset.sum_congr rfl fun e _ => ?_
  rw [pay_cas x0 x1 x2 x3 x4 xp b h0]

/-- One block of the embedding, at an element. -/
theorem pay_emb_block (x0 : Vec Ideal S1x752x2048 .bf16) (x1 : Vec Ideal S6144x512 .bf16) (x2 : Vec Ideal S1x512 .f32)
    (xp : Vec Ideal S8x752x2048 .bf16) (b : Fin 8) (h0 : ∀ r k, x0 (ix3 0 r k) = xp (ix3 b r k)) (y : S1x750x512.Idx) :
    k0_pay3 x0 x1 x2 y = emb0 xp x1 x2 b (y 1) (y 2) := by
  idx_vars y
  refine Eq.trans ?_ (pay_emb x0 x1 x2 xp b h0 _ _)
  pointwise [k0_pay3]

/-- One block of the class scores, at an element. -/
theorem pay_cas_block (x0 : Vec Ideal S1x752x2048 .bf16) (x1 : Vec Ideal S6144x512 .bf16) (x2 : Vec Ideal S1x512 .f32) (x3 : Vec Ideal S1x512x20 .bf16) (x4 : Vec Ideal S1x20 .f32)
    (xp : Vec Ideal S8x752x2048 .bf16) (b : Fin 8) (h0 : ∀ r k, x0 (ix3 0 r k) = xp (ix3 b r k)) (y : S1x750x20.Idx) :
    k0_pay5 x0 x1 x2 x3 x4 y = cas0 xp x1 x2 x3 x4 b (y 1) (y 2) := by
  idx_vars y
  refine Eq.trans ?_ (pay_cas x0 x1 x2 x3 x4 xp b h0 _ _)
  pointwise [k0_pay5]

/-- One block of the actionness, at an element. -/
theorem pay_act_block (x0 : Vec Ideal S1x752x2048 .bf16) (x1 : Vec Ideal S6144x512 .bf16) (x2 : Vec Ideal S1x512 .f32) (x3 : Vec Ideal S1x512x20 .bf16) (x4 : Vec Ideal S1x20 .f32)
    (xp : Vec Ideal S8x752x2048 .bf16) (b : Fin 8) (h0 : ∀ r k, x0 (ix3 0 r k) = xp (ix3 b r k)) (y : S1x1x750.Idx) :
    k0_pay1 (k0_pay6 x0 x1 x2 x3 x4) y = act0 xp x1 x2 x3 x4 b (y 2) := by
  idx_vars y
  refine Eq.trans ?_ (pay_act x0 x1 x2 x3 x4 xp b h0 _)
  pointwise [k0_pay1]

variable (V : (c : Dev nD) → (b : Ref sig .tc) → Buf (Elt Ideal) ((c : Thread nD τ).loc b))

/-- Which block of its array each window holds at a grid point. -/
theorem index0 : ∀ t : Fin grid0.N, win0_0.index t = ![t.val, 0, 0] ∧ win0_1.index t = ![0, 0] ∧ win0_2.index t = ![0, 0]
    ∧ win0_3.index t = ![0, 0, 0] ∧ win0_4.index t = ![0, 0] ∧ win0_5.index t = ![t.val, 0, 0] ∧ win0_6.index t = ![t.val, 0, 0]
    ∧ win0_7.index t = ![t.val, 0, 0] := by decide +kernel

/-- The block of the padded input at a point is its batch row. -/
theorem blk0_0 (c : Dev nD) (t : Fin cfg0.N) (b : Fin 8) (hb : b.val = t.val) (r : Fin 752) (k : Fin 2048) :
    iblk0 V c 0 t (ix3 0 r k) = V c main_v1 (ix3 b r k) := by
  blk_ext [iblk0, index0 t]

/-- This window holds its whole array at every point. -/
theorem blk0_1 (c : Dev nD) (t : Fin cfg0.N) : iblk0 V c 1 t = V c main_v4 := by
  funext y
  blk_ext [iblk0, index0 t]

/-- This window holds its whole array at every point. -/
theorem blk0_2 (c : Dev nD) (t : Fin cfg0.N) : iblk0 V c 2 t = V c main_v34 := by
  funext y
  blk_ext [iblk0, index0 t]

/-- This window holds its whole array at every point. -/
theorem blk0_3 (c : Dev nD) (t : Fin cfg0.N) : iblk0 V c 3 t = V c main_v14 := by
  funext y
  blk_ext [iblk0, index0 t]

/-- This window holds its whole array at every point. -/
theorem blk0_4 (c : Dev nD) (t : Fin cfg0.N) : iblk0 V c 4 t = V c main_v35 := by
  funext y
  blk_ext [iblk0, index0 t]

/-- The array of the embedding when the call has run. -/
theorem arr0_5 (c : Dev nD) : (dat0 V c).arrAt 5 cfg0.N = fun i => emb0 (V c main_v1) (V c main_v4) (V c main_v34) (i 0) (i 1) (i 2) := by
  refine (dat0 V c).arrAt_eq_of_covers 5 _ (by decide +kernel) fun t hf y => ?_
  blk_simp; rw [after0_5]
  unfold out0_5
  frame_out
  rw [blk0_1, blk0_2]
  have ht : t.val < 8 := t.isLt
  refine (pay_emb_block _ _ _ _ ⟨t.val, ht⟩ (blk0_0 V c t _ rfl) y).trans ?_
  refine congr (congr (congrArg (emb0 (V c main_v1) (V c main_v4) (V c main_v34)) (Fin.ext ?_)) (Fin.ext ?_)) (Fin.ext ?_)
  all_goals blk_simp [index0 t]

/-- The array of the class scores when the call has run. -/
theorem arr0_6 (c : Dev nD) : (dat0 V c).arrAt 6 cfg0.N = fun i => cas0 (V c main_v1) (V c main_v4) (V c main_v34) (V c main_v14) (V c main_v35) (i 0) (i 1) (i 2) := by
  refine (dat0 V c).arrAt_eq_of_covers 6 _ (by decide +kernel) fun t hf y => ?_
  blk_simp; rw [after0_6]
  unfold out0_6
  frame_out
  rw [blk0_1, blk0_2, blk0_3, blk0_4]
  have ht : t.val < 8 := t.isLt
  refine (pay_cas_block _ _ _ _ _ _ ⟨t.val, ht⟩ (blk0_0 V c t _ rfl) y).trans ?_
  refine congr (congr (congrArg (cas0 (V c main_v1) (V c main_v4) (V c main_v34) (V c main_v14) (V c main_v35)) (Fin.ext ?_)) (Fin.ext ?_)) (Fin.ext ?_)
  all_goals blk_simp [index0 t]

/-- The array of the actionness when the call has run. -/
theorem arr0_7 (c : Dev nD) : (dat0 V c).arrAt 7 cfg0.N = fun i => act0 (V c main_v1) (V c main_v4) (V c main_v34) (V c main_v14) (V c main_v35) (i 0) (i 2) := by
  refine (dat0 V c).arrAt_eq_of_covers 7 _ (by decide +kernel) fun t hf y => ?_
  blk_simp; rw [after0_7]
  unfold out0_7
  frame_out
  rw [blk0_1, blk0_2, blk0_3, blk0_4]
  have ht : t.val < 8 := t.isLt
  refine (pay_act_block _ _ _ _ _ _ ⟨t.val, ht⟩ (blk0_0 V c t _ rfl) y).trans ?_
  refine congr (congrArg (act0 (V c main_v1) (V c main_v4) (V c main_v34) (V c main_v14) (V c main_v35)) (Fin.ext ?_)) (Fin.ext ?_)
  all_goals blk_simp [index0 t]

end Cert.KernelIdeal.Hand

end
-- ==== Proof.ValueStream.lean ====
/- What the second call computes, element by element. -/
module

public import proofs.«01_k».proof.Proof.ValueBase
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Maths
open Idealize.ShloMosaic.Pipeline (Dat Cfg Window)

/-- The embedding of one stream, of the second call's operand arrays. -/
def emb1 (xp : Vec Ideal S8x752x2048 .bf16) (w3 : Vec Ideal S2x3072x512 .bf16) (bl : Vec Ideal S2x2x512 .f32) (b : Fin 8) (m : Fin 2) (t : Fin 750) (d : Fin 512) : EReal :=
  max (conv (fun r (k : Fin 1024) => xp (ix3 b r ⟨m.val * 1024 + k.val, by omega⟩)) (fun s (k : Fin 1024) => w3 (ix3 m ⟨s.val * 1024 + k.val, by omega⟩ d)) t
    + bl (ix3 m 0 d)) 0

/-- Its actionness. -/
def act1 (xp : Vec Ideal S8x752x2048 .bf16) (w3 : Vec Ideal S2x3072x512 .bf16) (wh : Vec Ideal S2x512x128 .bf16) (bl : Vec Ideal S2x2x512 .f32) (b : Fin 8) (m : Fin 2) (t : Fin 750) : EReal :=
  Ideal.logistic ((∑ e : Fin 512, emb1 xp w3 bl b m t e * wh (ix3 m e 0)) + bl (ix3 m 1 0))

/-- The embedding of one block, at an element. -/
theorem pay_emb1 (x0 : Vec Ideal S1x752x1024 .bf16) (x1 : Vec Ideal S1x3072x512 .bf16) (x3 : Vec Ideal S1x2x512 .f32)
    (xp : Vec Ideal S8x752x2048 .bf16) (w3 : Vec Ideal S2x3072x512 .bf16) (bl : Vec Ideal S2x2x512 .f32) (b : Fin 8) (m : Fin 2)
    (h0 : ∀ r (k : Fin 1024), x0 (ix3 0 r k) = xp (ix3 b r ⟨m.val * 1024 + k.val, by omega⟩)) (h1 : ∀ k d, x1 (ix3 0 k d) = w3 (ix3 m k d))
    (h3 : ∀ k d, x3 (ix3 0 k d) = bl (ix3 m k d)) (t : Fin 750) (d : Fin 512) :
    k1_pay2 x0 x1 (View.ld x3 r1_2) (ix2 t d) = emb1 xp w3 bl b m t d := by
  pointwise [k1_pay2]
  unfold emb1
  rw [h3]
  refine congrArg (max · 0) (congrArg (· + bl (ix3 m 0 d)) (conv_of_sum (n := 1024) rfl _ _ _ t (fun k => ?_) (fun k => ?_) (fun k => ?_)))
  · rw [dif_pos k.isLt, h0, h1]
    exact congrArg (_ * ·) (congrArg w3 (congrArg (ix3 m · d) (Fin.ext (by show k.val = 0 * 1024 + k.val; omega))))
  · rw [dif_neg (by show ¬ 1024 + k.val < 1024; omega), dif_pos (by show 1024 + k.val - 1024 < 1024; omega), h0, h1]
    exact congrArg₂ (· * ·) (congrArg xp (congrArg (ix3 b _) (Fin.ext (by show m.val * 1024 + (1024 + k.val - 1024) = m.val * 1024 + k.val; omega))))
      (congrArg w3 (congrArg (ix3 m · d) (Fin.ext (by show 1024 + k.val = 1 * 1024 + k.val; omega))))
  · rw [dif_neg (by show ¬ 1024 + 1024 + k.val < 1024; omega), dif_neg (by show ¬ 1024 + 1024 + k.val - 1024 < 1024; omega), h0, h1]
    exact congrArg₂ (· * ·) (congrArg xp (congrArg (ix3 b _) (Fin.ext (by show m.val * 1024 + (1024 + 1024 + k.val - 1024 - 1024) = m.val * 1024 + k.val; omega))))
      (congrArg w3 (congrArg (ix3 m · d) (Fin.ext (by show 1024 + 1024 + k.val = 2 * 1024 + k.val; omega))))

/-- One block of the embedding, at an element. -/
theorem pay_emb1_block (x0 : Vec Ideal S1x752x1024 .bf16) (x1 : Vec Ideal S1x3072x512 .bf16) (x3 : Vec Ideal S1x2x512 .f32)
    (xp : Vec Ideal S8x752x2048 .bf16) (w3 : Vec Ideal S2x3072x512 .bf16) (bl : Vec Ideal S2x2x512 .f32) (b : Fin 8) (m : Fin 2)
    (h0 : ∀ r (k : Fin 1024), x0 (ix3 0 r k) = xp (ix3 b r ⟨m.val * 1024 + k.val, by omega⟩)) (h1 : ∀ k d, x1 (ix3 0 k d) = w3 (ix3 m k d))
    (h3 : ∀ k d, x3 (ix3 0 k d) = bl (ix3 m k d)) (y : S1x1x750x512.Idx) :
    k1_pay3 x0 x1 (View.ld x3 r1_2) y = emb1 xp w3 bl b m (y 2) (y 3) := by
  idx_vars y
  refine Eq.trans ?_ (pay_emb1 x0 x1 x3 xp w3 bl b m h0 h1 h3 _ _)
  pointwise [k1_pay3]

/-- One block of the actionness, at an element. -/
theorem pay_act1_block (x0 : Vec Ideal S1x752x1024 .bf16) (x1 : Vec Ideal S1x3072x512 .bf16) (x3 : Vec Ideal S1x2x512 .f32)
    (xp : Vec Ideal S8x752x2048 .bf16) (w3 : Vec Ideal S2x3072x512 .bf16) (bl : Vec Ideal S2x2x512 .f32) (b : Fin 8) (m : Fin 2)
    (h0 : ∀ r (k : Fin 1024), x0 (ix3 0 r k) = xp (ix3 b r ⟨m.val * 1024 + k.val, by omega⟩)) (h1 : ∀ k d, x1 (ix3 0 k d) = w3 (ix3 m k d))
    (h3 : ∀ k d, x3 (ix3 0 k d) = bl (ix3 m k d)) (x2 : Vec Ideal S1x512x128 .bf16) (wh : Vec Ideal S2x512x128 .bf16) (h2 : ∀ k d, x2 (ix3 0 k d) = wh (ix3 m k d)) (y : S1x1x1x750.Idx) :
    k1_pay1 (k1_pay4 x0 x1 (View.ld x3 r1_2) x2 (View.ld x3 r1_5)) y = act1 xp w3 wh bl b m (y 3) := by
  idx_vars y
  pointwise [k1_pay1, k1_pay4]
  rw [h3]
  refine congrArg Ideal.logistic (congrArg (· + bl (ix3 m 1 0)) (Finset.sum_congr rfl fun e _ => ?_))
  rw [pay_emb1 x0 x1 x3 xp w3 bl b m h0 h1 h3, h2]

variable (V : (c : Dev nD) → (b : Ref sig .tc) → Buf (Elt Ideal) ((c : Thread nD τ).loc b))

/-- Which block of its array each window holds at a grid point. -/
theorem index1 : ∀ t : Fin grid1.N, win1_0.index t = ![t.val % 8, 0, t.val / 8] ∧ win1_1.index t = ![t.val / 8, 0, 0] ∧ win1_2.index t = ![t.val / 8, 0, 0]
    ∧ win1_3.index t = ![t.val / 8, 0, 0] ∧ win1_4.index t = ![t.val % 8, t.val / 8, 0, 0] ∧ win1_5.index t = ![t.val % 8, t.val / 8, 0, 0] := by decide +kernel

/-- The block of the padded input at a point: a batch row, one half of the channels. -/
theorem blk1_0 (c : Dev nD) (t : Fin cfg1.N) (b : Fin 8) (hb : b.val = t.val % 8) (m : Fin 2) (hm : m.val = t.val / 8) (r : Fin 752) (k : Fin 1024) :
    iblk1 V c 0 t (ix3 0 r k) = V c main_v1 (ix3 b r ⟨m.val * 1024 + k.val, by omega⟩) := by
  blk_ext [iblk1, index1 t]

/-- The block of this window at a point is one stream's. -/
theorem blk1_1 (c : Dev nD) (t : Fin cfg1.N) (m : Fin 2) (hm : m.val = t.val / 8) (r : Fin 3072) (k : Fin 512) :
    iblk1 V c 1 t (ix3 0 r k) = V c main_v12 (ix3 m r k) := by
  blk_ext [iblk1, index1 t]

/-- The block of this window at a point is one stream's. -/
theorem blk1_2 (c : Dev nD) (t : Fin cfg1.N) (m : Fin 2) (hm : m.val = t.val / 8) (r : Fin 512) (k : Fin 128) :
    iblk1 V c 2 t (ix3 0 r k) = V c main_v22 (ix3 m r k) := by
  blk_ext [iblk1, index1 t]

/-- The block of this window at a point is one stream's. -/
theorem blk1_3 (c : Dev nD) (t : Fin cfg1.N) (m : Fin 2) (hm : m.val = t.val / 8) (r : Fin 2) (k : Fin 512) :
    iblk1 V c 3 t (ix3 0 r k) = V c main_v33 (ix3 m r k) := by
  blk_ext [iblk1, index1 t]

/-- The array of the embeddings when the call has run. -/
theorem arr1_4 (c : Dev nD) : (dat1 V c).arrAt 4 cfg1.N = fun i => emb1 (V c main_v1) (V c main_v12) (V c main_v33) (i 0) (i 1) (i 2) (i 3) := by
  refine (dat1 V c).arrAt_eq_of_covers 4 _ (by decide +kernel) fun t hf y => ?_
  blk_simp; rw [after1_4]
  unfold out1_4
  frame_out
  have ht : t.val < 16 := t.isLt
  refine (pay_emb1_block _ _ _ _ _ _ ⟨t.val % 8, by omega⟩ ⟨t.val / 8, by omega⟩ (blk1_0 V c t _ rfl _ rfl) (blk1_1 V c t _ rfl) (blk1_3 V c t _ rfl) y).trans ?_
  refine congr (congr (congr (congrArg (emb1 (V c main_v1) (V c main_v12) (V c main_v33)) (Fin.ext ?_)) (Fin.ext ?_)) (Fin.ext ?_)) (Fin.ext ?_)
  all_goals blk_simp [index1 t]

/-- The array of the actionness rows when the call has run. -/
theorem arr1_5 (c : Dev nD) : (dat1 V c).arrAt 5 cfg1.N = fun i => act1 (V c main_v1) (V c main_v12) (V c main_v22) (V c main_v33) (i 0) (i 1) (i 3) := by
  refine (dat1 V c).arrAt_eq_of_covers 5 _ (by decide +kernel) fun t hf y => ?_
  blk_simp; rw [after1_5]
  unfold out1_5
  frame_out
  have ht : t.val < 16 := t.isLt
  refine (pay_act1_block _ _ _ _ _ _ ⟨t.val % 8, by omega⟩ ⟨t.val / 8, by omega⟩ (blk1_0 V c t _ rfl _ rfl) (blk1_1 V c t _ rfl) (blk1_3 V c t _ rfl) _ _ (blk1_2 V c t _ rfl) y).trans ?_
  refine congr (congr (congrArg (act1 (V c main_v1) (V c main_v12) (V c main_v22) (V c main_v33)) (Fin.ext ?_)) (Fin.ext ?_)) (Fin.ext ?_)
  all_goals blk_simp [index1 t]

end Cert.KernelIdeal.Hand

end
-- ==== Proof.ValueHost.lean ====
/- What the operand arrays of the calls hold, element by element. -/
module

public import proofs.«01_k».proof.Proof.ValueStream
public import Idealize.ShloMosaic.Lib.StableHlo.ReadAt
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Maths
open Idealize.ShloMosaic.Pipeline (Dat Cfg Window)

variable (m : (ℓ : Loc nD τ sig) → Buf (Elt Ideal) ℓ) (ρ : Dev nD → PrngReg) (c : Dev nD)

/-- The padded input. -/
theorem host_1 (b : Fin 8) (r : Fin 752) (k : Fin 2048) :
    V5 m ρ c main_v1 (ix3 b r k) = row (m ((c : Thread nD τ).loc main_arg0)) b r k := by
  unfold V5 W5 W4 W3 W2 W1 W0
  after_reads_at
  exact row_eq _ b r k

/-- The weights of the first call's convolution, tap by tap. -/
theorem host_4 (s : Fin 3) (k : Fin 2048) (d : Fin 512) :
    V5 m ρ c main_v4 (ix2 ⟨s.val * 2048 + k.val, by omega⟩ d) = m ((c : Thread nD τ).loc main_arg1) (ix3 d k s) := by
  unfold V5 W5 W4 W3 W2 W1 W0
  after_reads_at
  refine congrArg (m (c, Proc.devRef .tc main_arg1)) (congr (congrArg (ix3 d) (Fin.ext ?_)) (Fin.ext ?_))
  · show (s.val * 2048 + k.val) % 2048 = k.val; omega
  · show (s.val * 2048 + k.val) / 2048 = s.val; omega

/-- The weights of the first stream's convolution. -/
theorem host_12_0 (s : Fin 3) (k : Fin 1024) (d : Fin 512) :
    V5 m ρ c main_v12 (ix3 0 ⟨s.val * 1024 + k.val, by omega⟩ d) = m ((c : Thread nD τ).loc main_arg5) (ix3 d k s) := by
  unfold V5 W5 W4 W3 W2 W1 W0
  after_reads_at
  after_reads_at
  refine congrArg (m (c, Proc.devRef .tc main_arg5)) (congr (congrArg (ix3 d) (Fin.ext ?_)) (Fin.ext ?_))
  · show (s.val * 1024 + k.val) % 1024 = k.val; omega
  · show (s.val * 1024 + k.val) / 1024 = s.val; omega

/-- The weights of the second stream's convolution. -/
theorem host_12_1 (s : Fin 3) (k : Fin 1024) (d : Fin 512) :
    V5 m ρ c main_v12 (ix3 1 ⟨s.val * 1024 + k.val, by omega⟩ d) = m ((c : Thread nD τ).loc main_arg9) (ix3 d k s) := by
  unfold V5 W5 W4 W3 W2 W1 W0
  after_reads_at
  after_reads_at
  refine congrArg (m (c, Proc.devRef .tc main_arg9)) (congr (congrArg (ix3 d) (Fin.ext ?_)) (Fin.ext ?_))
  · show (s.val * 1024 + k.val) % 1024 = k.val; omega
  · show (s.val * 1024 + k.val) / 1024 = s.val; omega

/-- The weights of the class scores. -/
theorem host_14 (k : Fin 512) (d : Fin 20) : V5 m ρ c main_v14 (ix3 0 k d) = m ((c : Thread nD τ).loc main_arg3) (ix3 d k 0) := by
  unfold V5 W5 W4 W3 W2 W1 W0
  after_reads_at
  all_goals rfl

/-- The weights of the first stream's actionness. -/
theorem host_22_0 (k : Fin 512) : V5 m ρ c main_v22 (ix3 0 k 0) = m ((c : Thread nD τ).loc main_arg7) (ix3 0 k 0) := by
  unfold V5 W5 W4 W3 W2 W1 W0
  after_reads_at
  after_reads_at
  all_goals rfl

/-- The weights of the second stream's actionness. -/
theorem host_22_1 (k : Fin 512) : V5 m ρ c main_v22 (ix3 1 k 0) = m ((c : Thread nD τ).loc main_arg11) (ix3 0 k 0) := by
  unfold V5 W5 W4 W3 W2 W1 W0
  after_reads_at
  after_reads_at
  all_goals rfl

/-- The bias of the first stream's convolution. -/
theorem host_33_00 (d : Fin 512) : V5 m ρ c main_v33 (ix3 0 0 d) = m ((c : Thread nD τ).loc main_arg6) (ix1 d) := by
  unfold V5 W5 W4 W3 W2 W1 W0
  after_reads_at
  after_reads_at
  all_goals rfl

/-- The bias of the first stream's actionness. -/
theorem host_33_01 (d : Fin 512) : V5 m ρ c main_v33 (ix3 0 1 d) = m ((c : Thread nD τ).loc main_arg8) (ix1 0) := by
  unfold V5 W5 W4 W3 W2 W1 W0
  after_reads_at
  after_reads_at
  all_goals rfl

/-- The bias of the second stream's convolution. -/
theorem host_33_10 (d : Fin 512) : V5 m ρ c main_v33 (ix3 1 0 d) = m ((c : Thread nD τ).loc main_arg10) (ix1 d) := by
  unfold V5 W5 W4 W3 W2 W1 W0
  after_reads_at
  after_reads_at
  all_goals rfl

/-- The bias of the second stream's actionness. -/
theorem host_33_11 (d : Fin 512) : V5 m ρ c main_v33 (ix3 1 1 d) = m ((c : Thread nD τ).loc main_arg12) (ix1 0) := by
  unfold V5 W5 W4 W3 W2 W1 W0
  after_reads_at
  after_reads_at
  all_goals rfl

/-- The bias of the first call's convolution. -/
theorem host_34 (d : Fin 512) : V5 m ρ c main_v34 (ix2 0 d) = m ((c : Thread nD τ).loc main_arg2) (ix1 d) := by
  unfold V5 W5 W4 W3 W2 W1 W0
  after_reads_at
  all_goals rfl

/-- The bias of the class scores. -/
theorem host_35 (d : Fin 20) : V5 m ρ c main_v35 (ix2 0 d) = m ((c : Thread nD τ).loc main_arg4) (ix1 d) := by
  unfold V5 W5 W4 W3 W2 W1 W0
  after_reads_at
  all_goals rfl

end Cert.KernelIdeal.Hand

end
-- ==== Proof.ValueOut.lean ====
/- The arrays the two convolution calls write, as functions of the arguments. -/
module

public import proofs.«01_k».proof.Proof.ValueHost

@[expose] public section

set_option maxRecDepth 16384

noncomputable section

namespace Cert.KernelIdeal.Hand

open Cert.KernelIdeal Cert.KernelIdeal.Gen
open Idealize.ShloMosaic Idealize.ShloMosaic.TcCoe
open Cert.Maths

variable (m : (ℓ : Loc nD τ sig) → Buf (Elt Ideal) ℓ) (ρ : Dev nD → PrngReg) (c : Dev nD)

/-- An argument, on the given device. -/
abbrev a0 : FVec Ideal SX .f32 := m ((c : Thread nD τ).loc main_arg0)
/-- An argument, on the given device. -/
abbrev a1 : FVec Ideal SW .f32 := m ((c : Thread nD τ).loc main_arg1)
/-- An argument, on the given device. -/
abbrev a2 : FVec Ideal SD .f32 := m ((c : Thread nD τ).loc main_arg2)
/-- An argument, on the given device. -/
abbrev a3 : FVec Ideal SWc .f32 := m ((c : Thread nD τ).loc main_arg3)
/-- An argument, on the given device. -/
abbrev a4 : FVec Ideal SC .f32 := m ((c : Thread nD τ).loc main_arg4)
/-- An argument, on the given device. -/
abbrev a5 : FVec Ideal SWh .f32 := m ((c : Thread nD τ).loc main_arg5)
/-- An argument, on the given device. -/
abbrev a6 : FVec Ideal SD .f32 := m ((c : Thread nD τ).loc main_arg6)
/-- An argument, on the given device. -/
abbrev a7 : FVec Ideal SH .f32 := m ((c : Thread nD τ).loc main_arg7)
/-- An argument, on the given device. -/
abbrev a8 : FVec Ideal S1' .f32 := m ((c : Thread nD τ).loc main_arg8)
/-- An argument, on the given device. -/
abbrev a9 : FVec Ideal SWh .f32 := m ((c : Thread nD τ).loc main_arg9)
/-- An argument, on the given device. -/
abbrev a10 : FVec Ideal SD .f32 := m ((c : Thread nD τ).loc main_arg10)
/-- An argument, on the given device. -/
abbrev a11 : FVec Ideal SH .f32 := m ((c : Thread nD τ).loc main_arg11)
/-- An argument, on the given device. -/
abbrev a12 : FVec Ideal S1' .f32 := m ((c : Thread nD τ).loc main_arg12)

/-- The embedding the first call computes. -/
theorem emb0_eq (b : Fin 8) (t : Fin 750) (d : Fin 512) :
    emb0 (V5 m ρ c main_v1) (V5 m ρ c main_v4) (V5 m ρ c main_v34) b t d = emb (a0 m c) (a1 m c) (a2 m c) b t d := by
  unfold emb0 emb
  rw [host_34]
  have hr : (fun r k => V5 m ρ c main_v1 (ix3 b r k)) = row (a0 m c) b := funext fun r => funext fun k => host_1 m ρ c b r k
  have hw : (fun (s : Fin 3) (k : Fin 2048) => V5 m ρ c main_v4 (ix2 ⟨s.val * 2048 + k.val, by omega⟩ d)) = fun s k => a1 m c (ix3 d k s) :=
    funext fun s => funext fun k => host_4 m ρ c s k d
  exact congrArg (fun z : EReal => max (z + _) 0) (congr (congr (congrArg conv hr) hw) rfl)

/-- The class scores the first call computes. -/
theorem cas0_eq (b : Fin 8) (t : Fin 750) (k : Fin 20) :
    cas0 (V5 m ρ c main_v1) (V5 m ρ c main_v4) (V5 m ρ c main_v34) (V5 m ρ c main_v14) (V5 m ρ c main_v35) b t k
      = cas (a0 m c) (a1 m c) (a2 m c) (a3 m c) (a4 m c) b t k := by
  unfold cas0 cas
  rw [host_35]
  exact congrArg (· + _) (Finset.sum_congr rfl fun e _ => by rw [emb0_eq, host_14])

/-- The actionness the first call computes. -/
theorem act0_eq (b : Fin 8) (t : Fin 750) :
    act0 (V5 m ρ c main_v1) (V5 m ρ c main_v4) (V5 m ρ c main_v34) (V5 m ρ c main_v14) (V5 m ρ c main_v35) b t
      = act (a0 m c) (a1 m c) (a2 m c) (a3 m c) (a4 m c) b t := by
  unfold act0 act
  exact congrArg Ideal.logistic (Finset.sum_congr rfl fun e _ => cas0_eq m ρ c b t e)

/-- The first call leaves what the second reads unchanged. -/
theorem keep6 (r : Ref sig .tc) (h : r ∈ ([main_v1, main_v12, main_v22, main_v33] : List (Ref sig .tc))) : V6 m ρ c r = V5 m ρ c r := by
  refine W6_of m ρ c r ?_
  revert r
  decide +kernel

/-- The embedding of the first stream. -/
theorem emb1_eq0 (b : Fin 8) (t : Fin 750) (d : Fin 512) :
    emb1 (V6 m ρ c main_v1) (V6 m ρ c main_v12) (V6 m ρ c main_v33) b 0 t d = embHalf 0 (a0 m c) (a5 m c) (a6 m c) b t d := by
  rw [keep6 m ρ c main_v1 (by decide), keep6 m ρ c main_v12 (by decide), keep6 m ρ c main_v33 (by decide)]
  unfold emb1 embHalf
  rw [host_33_00]
  exact congrArg (fun z : EReal => max (z + _) 0) (congr (congr (congrArg conv
    (funext fun r => funext fun k => host_1 m ρ c b r _)) (funext fun s => funext fun k => host_12_0 m ρ c s k d)) rfl)

/-- The embedding of the second stream. -/
theorem emb1_eq1 (b : Fin 8) (t : Fin 750) (d : Fin 512) :
    emb1 (V6 m ρ c main_v1) (V6 m ρ c main_v12) (V6 m ρ c main_v33) b 1 t d = embHalf 1 (a0 m c) (a9 m c) (a10 m c) b t d := by
  rw [keep6 m ρ c main_v1 (by decide), keep6 m ρ c main_v12 (by decide), keep6 m ρ c main_v33 (by decide)]
  unfold emb1 embHalf
  rw [host_33_10]
  exact congrArg (fun z : EReal => max (z + _) 0) (congr (congr (congrArg conv
    (funext fun r => funext fun k => host_1 m ρ c b r _)) (funext fun s => funext fun k => host_12_1 m ρ c s k d)) rfl)

/-- The actionness of the first stream. -/
theorem act1_eq0 (b : Fin 8) (t : Fin 750) :
    act1 (V6 m ρ c main_v1) (V6 m ρ c main_v12) (V6 m ρ c main_v22) (V6 m ρ c main_v33) b 0 t
      = actHalf 0 (a0 m c) (a5 m c) (a6 m c) (a7 m c) (a8 m c) b t := by
  unfold act1 actHalf
  refine congrArg Ideal.logistic (congrArg₂ (· + ·) (Finset.sum_congr rfl fun e _ => ?_) ?_)
  · rw [emb1_eq0, keep6 m ρ c main_v22 (by decide), host_22_0]
  · rw [keep6 m ρ c main_v33 (by decide), host_33_01]

/-- The actionness of the second stream. -/
theorem act1_eq1 (b : Fin 8) (t : Fin 750) :
    act1 (V6 m ρ c main_v1) (V6 m ρ c main_v12) (V6 m ρ c main_v22) (V6 m ρ c main_v33) b 1 t
      = actHalf 1 (a0 m c) (a9 m c) (a10 m c) (a11 m c) (a12 m c) b t := by
  unfold act1 actHalf
  refine congrArg Ideal.logistic (congrArg₂ (· + ·) (Finset.sum_congr rfl fun e _ => ?_) ?_)
  · rw [emb1_eq1, keep6 m ρ c main_v22 (by decide), host_22_1]
  · rw [keep6 m ρ c main_v33 (by decide), host_33_11]

/-- What the third call reads as the embedding. -/
theorem at7_emb : V7 m ρ c main_call2_v0_0 = fun i => emb (a0 m c) (a1 m c) (a2 m c) (i 0) (i 1) (i 2) :=
  (W7_of m ρ c main_call2_v0_0 (by decide +kernel)).trans ((W6_arr m ρ c 5).trans ((arr0_5 (V5 m ρ) c).trans
    (funext fun i => emb0_eq m ρ c (i 0) (i 1) (i 2))))

/-- What the first call writes as the class scores. -/
theorem at7_cas : V7 m ρ c main_v36_0 = fun i => cas (a0 m c) (a1 m c) (a2 m c) (a3 m c) (a4 m c) (i 0) (i 1) (i 2) :=
  (W7_of m ρ c main_v36_0 (by decide +kernel)).trans ((W6_arr m ρ c 6).trans ((arr0_6 (V5 m ρ) c).trans
    (funext fun i => cas0_eq m ρ c (i 0) (i 1) (i 2))))

/-- What the third call reads as the actionness. -/
theorem at7_act : V7 m ρ c main_v36_1 = fun i => act (a0 m c) (a1 m c) (a2 m c) (a3 m c) (a4 m c) (i 0) (i 2) :=
  (W7_of m ρ c main_v36_1 (by decide +kernel)).trans ((W6_arr m ρ c 7).trans ((arr0_7 (V5 m ρ) c).trans
    (funext fun i => act0_eq m ρ c (i 0) (i 2))))

/-- What the third call reads as the first stream's embedding. -/
theorem at7_embr (b : Fin 8) (t : Fin 750) (d : Fin 512) :
    V7 m ρ c main_call2_v1_0 (ix4 b 0 t d) = embHalf 0 (a0 m c) (a5 m c) (a6 m c) b t d :=
  (congrFun ((W7_arr m ρ c 4).trans (arr1_4 (V6 m ρ) c)) (ix4 b 0 t d)).trans (emb1_eq0 m ρ c b t d)

/-- What the third call reads as the second stream's embedding. -/
theorem at7_embf (b : Fin 8) (t : Fin 750) (d : Fin 512) :
    V7 m ρ c main_call2_v1_0 (ix4 b 1 t d) = embHalf 1 (a0 m c) (a9 m c) (a10 m c) b t d :=
  (congrFun ((W7_arr m ρ c 4).trans (arr1_4 (V6 m ρ) c)) (ix4 b 1 t d)).trans (emb1_eq1 m ρ c b t d)

/-- What the third call reads as the first stream's actionness. -/
theorem at7_actr (b : Fin 8) (t : Fin 750) :
    V7 m ρ c main_v36_2 (ix4 b 0 0 t) = actHalf 0 (a0 m c) (a5 m c) (a6 m c) (a7 m c) (a8 m c) b t :=
  (congrFun ((W7_arr m ρ c 5).trans (arr1_5 (V6 m ρ) c)) (ix4 b 0 0 t)).trans (act1_eq0 m ρ c b t)

/-- What the third call reads as the second stream's actionness. -/
theorem at7_actf (b : Fin 8) (t : Fin 750) :
    V7 m ρ c main_v36_2 (ix4 b 1 0 t) = actHalf 1 (a0 m c) (a9 m c) (a10 m c) (a11 m c) (a12 m c) b t :=
  (congrFun ((W7_arr m ρ c 5).trans (arr1_5 (V6 m ρ) c)) (ix4 b 1 0 t)).trans (act1_eq1 m ρ c b t)

/-- The third call leaves its inputs unchanged. -/
theorem keep8 (r : Ref sig .tc) (h : r ∈ ([main_v36_0, main_v36_1, main_v36_2] : List (Ref sig .tc))) : V8 m ρ c r = V7 m ρ c r := by
  refine W8_of m ρ c r ?_
  revert r
  decide +kernel

/-- The class scores at the end. -/
theorem out_cas (b : Fin 8) (t : Fin 750) (k : Fin 20) :
    W9 m ρ c main_v36_0 (ix3 b t k) = cas (a0 m c) (a1 m c) (a2 m c) (a3 m c) (a4 m c) b t k := by
  rw [W9_of m ρ c main_v36_0 (by decide)]
  exact congrFun ((keep8 m ρ c main_v36_0 (by decide)).trans (at7_cas m ρ c)) (ix3 b t k)

/-- The actionness at the end. -/
theorem out_act (b : Fin 8) (t : Fin 750) :
    W9 m ρ c main_v41 (ix2 b t) = act (a0 m c) (a1 m c) (a2 m c) (a3 m c) (a4 m c) b t := by
  unfold W9
  after_reads_at
  exact congrFun ((keep8 m ρ c main_v36_1 (by decide)).trans (at7_act m ρ c)) (ix3 b 0 t)

/-- The second stream's actionness at the end. -/
theorem out_actf (b : Fin 8) (t : Fin 750) :
    W9 m ρ c main_v38 (ix3 b 0 t) = actHalf 1 (a0 m c) (a9 m c) (a10 m c) (a11 m c) (a12 m c) b t := by
  unfold W9
  after_reads_at
  exact (congrFun (keep8 m ρ c main_v36_2 (by decide)) (ix4 b 1 0 t)).trans (at7_actf m ρ c b t)

/-- The first stream's actionness at the end. -/
theorem out_actr (b : Fin 8) (t : Fin 750) :
    W9 m ρ c main_v40 (ix3 b 0 t) = actHalf 0 (a0 m c) (a5 m c) (a6 m c) (a7 m c) (a8 m c) b t := by
  unfold W9
  after_reads_at
  exact (congrFun (keep8 m ρ c main_v36_2 (by decide)) (ix4 b 0 0 t)).trans (at7_actr m ρ c b t)

end Cert.KernelIdeal.Hand

end
-- ==== Proof.ValueSelect.lean ====
/- The arrays the third call writes, by what its body leaves of one batch row's blocks. -/
module

public import proofs.«01_k».proof.Proof.ValueOut

@[expose] public section

set_option maxRecDepth 16384

noncomputable section

namespace Cert.KernelIdeal.Hand

open Cert.KernelIdeal Cert.KernelIdeal.Gen
open Idealize.ShloMosaic Idealize.ShloMosaic.TcCoe
open Cert.Maths
open Idealize.ShloMosaic.Pipeline (Dat Cfg Window)

/-- A place of a block, by its coordinates. -/
theorem at_block {A B : ℕ} (f : Fin 8 → (⟨3, ![1, A, B]⟩ : Shape).Idx → EReal) (b b' : Fin 8) (p : Fin A) (q : Fin B)
    (y : (⟨3, ![1, A, B]⟩ : Shape).Idx) (hb : b'.val = b.val) (hp : p.val = (y 1).val) (hq : q.val = (y 2).val) : f b y = f b' (ix3 0 p q) := by
  obtain rfl : b' = b := Fin.ext hb
  refine congrArg (f b') (funext fun a => ?_)
  match a with
  | ⟨0, _⟩ => exact Fin.ext (by have h : (y 0).val < 1 := (y 0).isLt; show (y 0).val = 0; omega)
  | ⟨1, _⟩ => exact Fin.ext hp.symm
  | ⟨2, _⟩ => exact Fin.ext hq.symm

section Blocks
variable (V : (c : Dev nD) → (b : Ref sig .tc) → Buf (Elt Ideal) ((c : Thread nD τ).loc b)) (c : Dev nD)

/-- One batch row of the embedding. -/
def xb0 (b : Fin 8) : Vec Ideal S1x750x512 .f32 := fun y => V c main_call2_v0_0 (ix3 b (y 1) (y 2))
/-- One batch row of the streams' embeddings. -/
def xb1 (b : Fin 8) : Vec Ideal S1x2x750x512 .f32 := fun y => V c main_call2_v1_0 (ix4 b (y 1) (y 2) (y 3))
/-- One batch row of the actionness. -/
def xb2 (b : Fin 8) : Vec Ideal S1x1x750 .f32 := fun y => V c main_v36_1 (ix3 b (y 1) (y 2))
/-- One batch row of the streams' actionness. -/
def xb3 (b : Fin 8) : Vec Ideal S1x2x1x750 .f32 := fun y => V c main_v36_2 (ix4 b (y 1) (y 2) (y 3))

/-- Where a window of the third call stands at each point. -/
theorem index2_0 : ∀ t : Fin grid2.N, win2_0.index t = ![t.val, 0, 0] := by decide +kernel

/-- Where a window of the third call stands at each point. -/
theorem index2_1 : ∀ t : Fin grid2.N, win2_1.index t = ![t.val, 0, 0, 0] := by decide +kernel

/-- Where a window of the third call stands at each point. -/
theorem index2_2 : ∀ t : Fin grid2.N, win2_2.index t = ![t.val, 0, 0] := by decide +kernel

/-- Where a window of the third call stands at each point. -/
theorem index2_3 : ∀ t : Fin grid2.N, win2_3.index t = ![t.val, 0, 0, 0] := by decide +kernel

/-- Where a window of the third call stands at each point. -/
theorem index2_4 : ∀ t : Fin grid2.N, win2_4.index t = ![t.val, 0, 0] := by decide +kernel

/-- Where a window of the third call stands at each point. -/
theorem index2_5 : ∀ t : Fin grid2.N, win2_5.index t = ![t.val, 0, 0] := by decide +kernel

/-- Where a window of the third call stands at each point. -/
theorem index2_6 : ∀ t : Fin grid2.N, win2_6.index t = ![t.val, 0, 0] := by decide +kernel

/-- Where a window of the third call stands at each point. -/
theorem index2_7 : ∀ t : Fin grid2.N, win2_7.index t = ![t.val, 0, 0] := by decide +kernel

/-- Where a window of the third call stands at each point. -/
theorem index2_8 : ∀ t : Fin grid2.N, win2_8.index t = ![t.val, 0, 0] := by decide +kernel

/-- Where a window of the third call stands at each point. -/
theorem index2_9 : ∀ t : Fin grid2.N, win2_9.index t = ![t.val, 0, 0] := by decide +kernel

/-- Where a window of the third call stands at each point. -/
theorem index2_10 : ∀ t : Fin grid2.N, win2_10.index t = ![t.val, 0, 0] := by decide +kernel

/-- Where a window of the third call stands at each point. -/
theorem index2_11 : ∀ t : Fin grid2.N, win2_11.index t = ![t.val, 0, 0] := by decide +kernel

/-- Where a window of the third call stands at each point. -/
theorem index2_12 : ∀ t : Fin grid2.N, win2_12.index t = ![t.val, 0, 0] := by decide +kernel

/-- Where a window of the third call stands at each point. -/
theorem index2_13 : ∀ t : Fin grid2.N, win2_13.index t = ![t.val, 0, 0] := by decide +kernel

/-- Where a window of the third call stands at each point. -/
theorem index2_14 : ∀ t : Fin grid2.N, win2_14.index t = ![t.val, 0, 0] := by decide +kernel

/-- Where a window of the third call stands at each point. -/
theorem index2_15 : ∀ t : Fin grid2.N, win2_15.index t = ![t.val, 0, 0] := by decide +kernel

/-- Where a window of the third call stands at each point. -/
theorem index2_16 : ∀ t : Fin grid2.N, win2_16.index t = ![t.val, 0, 0] := by decide +kernel

/-- Where a window of the third call stands at each point. -/
theorem index2_17 : ∀ t : Fin grid2.N, win2_17.index t = ![t.val, 0, 0] := by decide +kernel

/-- Where a window of the third call stands at each point. -/
theorem index2_18 : ∀ t : Fin grid2.N, win2_18.index t = ![t.val, 0, 0] := by decide +kernel

/-- The block of the embedding at a point is its batch row. -/
theorem blk2_0 (t : Fin cfg2.N) (b : Fin 8) (hb : b.val = t.val) : iblk2 V c 0 t = xb0 V c b := by
  funext y
  idx_vars y
  unfold xb0
  blk_ext [iblk2, index2_0 t]

/-- The block of the streams' embeddings at a point is its batch row. -/
theorem blk2_1 (t : Fin cfg2.N) (b : Fin 8) (hb : b.val = t.val) : iblk2 V c 1 t = xb1 V c b := by
  funext y
  idx_vars y
  unfold xb1
  blk_ext [iblk2, index2_1 t]

/-- The block of the actionness at a point is its batch row. -/
theorem blk2_2 (t : Fin cfg2.N) (b : Fin 8) (hb : b.val = t.val) : iblk2 V c 2 t = xb2 V c b := by
  funext y
  idx_vars y
  unfold xb2
  blk_ext [iblk2, index2_2 t]

/-- The block of the streams' actionness at a point is its batch row. -/
theorem blk2_3 (t : Fin cfg2.N) (b : Fin 8) (hb : b.val = t.val) : iblk2 V c 3 t = xb3 V c b := by
  funext y
  idx_vars y
  unfold xb3
  blk_ext [iblk2, index2_3 t]

/-- What the third call leaves in this array. -/
theorem arr2_4 : (dat2 V c).arrAt 4 cfg2.N = fun i => out2_4 (xb0 V c (i 0)) (xb1 V c (i 0)) (xb2 V c (i 0)) (xb3 V c (i 0)) (ix3 0 (i 1) (i 2)) := by
  refine (dat2 V c).arrAt_eq_of_covers 4 _ (by decide +kernel) fun t hf y => ?_
  have ht : t.val < 8 := t.isLt
  blk_simp
  rw [after2_4, blk2_0 V c t ⟨t.val, ht⟩ rfl, blk2_1 V c t ⟨t.val, ht⟩ rfl, blk2_2 V c t ⟨t.val, ht⟩ rfl, blk2_3 V c t ⟨t.val, ht⟩ rfl]
  refine at_block (fun b => out2_4 (xb0 V c b) (xb1 V c b) (xb2 V c b) (xb3 V c b)) _ _ _ _ _ ?_ ?_ ?_
  all_goals blk_simp [index2_4 t]

/-- What the third call leaves in this array. -/
theorem arr2_5 : (dat2 V c).arrAt 5 cfg2.N = fun i => out2_5 (xb0 V c (i 0)) (xb1 V c (i 0)) (xb2 V c (i 0)) (xb3 V c (i 0)) (ix3 0 (i 1) (i 2)) := by
  refine (dat2 V c).arrAt_eq_of_covers 5 _ (by decide +kernel) fun t hf y => ?_
  have ht : t.val < 8 := t.isLt
  blk_simp
  rw [after2_5, blk2_0 V c t ⟨t.val, ht⟩ rfl, blk2_1 V c t ⟨t.val, ht⟩ rfl, blk2_2 V c t ⟨t.val, ht⟩ rfl, blk2_3 V c t ⟨t.val, ht⟩ rfl]
  refine at_block (fun b => out2_5 (xb0 V c b) (xb1 V c b) (xb2 V c b) (xb3 V c b)) _ _ _ _ _ ?_ ?_ ?_
  all_goals blk_simp [index2_5 t]

/-- What the third call leaves in this array. -/
theorem arr2_6 : (dat2 V c).arrAt 6 cfg2.N = fun i => out2_6 (xb0 V c (i 0)) (xb1 V c (i 0)) (xb2 V c (i 0)) (xb3 V c (i 0)) (ix3 0 (i 1) (i 2)) := by
  refine (dat2 V c).arrAt_eq_of_covers 6 _ (by decide +kernel) fun t hf y => ?_
  have ht : t.val < 8 := t.isLt
  blk_simp
  rw [after2_6, blk2_0 V c t ⟨t.val, ht⟩ rfl, blk2_1 V c t ⟨t.val, ht⟩ rfl, blk2_2 V c t ⟨t.val, ht⟩ rfl, blk2_3 V c t ⟨t.val, ht⟩ rfl]
  refine at_block (fun b => out2_6 (xb0 V c b) (xb1 V c b) (xb2 V c b) (xb3 V c b)) _ _ _ _ _ ?_ ?_ ?_
  all_goals blk_simp [index2_6 t]

/-- What the third call leaves in this array. -/
theorem arr2_7 : (dat2 V c).arrAt 7 cfg2.N = fun i => out2_7 (xb0 V c (i 0)) (xb1 V c (i 0)) (xb2 V c (i 0)) (xb3 V c (i 0)) (ix3 0 (i 1) (i 2)) := by
  refine (dat2 V c).arrAt_eq_of_covers 7 _ (by decide +kernel) fun t hf y => ?_
  have ht : t.val < 8 := t.isLt
  blk_simp
  rw [after2_7, blk2_0 V c t ⟨t.val, ht⟩ rfl, blk2_1 V c t ⟨t.val, ht⟩ rfl, blk2_2 V c t ⟨t.val, ht⟩ rfl, blk2_3 V c t ⟨t.val, ht⟩ rfl]
  refine at_block (fun b => out2_7 (xb0 V c b) (xb1 V c b) (xb2 V c b) (xb3 V c b)) _ _ _ _ _ ?_ ?_ ?_
  all_goals blk_simp [index2_7 t]

/-- What the third call leaves in this array. -/
theorem arr2_8 : (dat2 V c).arrAt 8 cfg2.N = fun i => out2_8 (xb0 V c (i 0)) (xb1 V c (i 0)) (xb2 V c (i 0)) (xb3 V c (i 0)) (ix3 0 (i 1) (i 2)) := by
  refine (dat2 V c).arrAt_eq_of_covers 8 _ (by decide +kernel) fun t hf y => ?_
  have ht : t.val < 8 := t.isLt
  blk_simp
  rw [after2_8, blk2_0 V c t ⟨t.val, ht⟩ rfl, blk2_1 V c t ⟨t.val, ht⟩ rfl, blk2_2 V c t ⟨t.val, ht⟩ rfl, blk2_3 V c t ⟨t.val, ht⟩ rfl]
  refine at_block (fun b => out2_8 (xb0 V c b) (xb1 V c b) (xb2 V c b) (xb3 V c b)) _ _ _ _ _ ?_ ?_ ?_
  all_goals blk_simp [index2_8 t]

/-- What the third call leaves in this array. -/
theorem arr2_9 : (dat2 V c).arrAt 9 cfg2.N = fun i => out2_9 (xb0 V c (i 0)) (xb1 V c (i 0)) (xb2 V c (i 0)) (xb3 V c (i 0)) (ix3 0 (i 1) (i 2)) := by
  refine (dat2 V c).arrAt_eq_of_covers 9 _ (by decide +kernel) fun t hf y => ?_
  have ht : t.val < 8 := t.isLt
  blk_simp
  rw [after2_9, blk2_0 V c t ⟨t.val, ht⟩ rfl, blk2_1 V c t ⟨t.val, ht⟩ rfl, blk2_2 V c t ⟨t.val, ht⟩ rfl, blk2_3 V c t ⟨t.val, ht⟩ rfl]
  refine at_block (fun b => out2_9 (xb0 V c b) (xb1 V c b) (xb2 V c b) (xb3 V c b)) _ _ _ _ _ ?_ ?_ ?_
  all_goals blk_simp [index2_9 t]

/-- What the third call leaves in this array. -/
theorem arr2_10 : (dat2 V c).arrAt 10 cfg2.N = fun i => out2_10 (xb0 V c (i 0)) (xb1 V c (i 0)) (xb2 V c (i 0)) (xb3 V c (i 0)) (ix3 0 (i 1) (i 2)) := by
  refine (dat2 V c).arrAt_eq_of_covers 10 _ (by decide +kernel) fun t hf y => ?_
  have ht : t.val < 8 := t.isLt
  blk_simp
  rw [after2_10, blk2_0 V c t ⟨t.val, ht⟩ rfl, blk2_1 V c t ⟨t.val, ht⟩ rfl, blk2_2 V c t ⟨t.val, ht⟩ rfl, blk2_3 V c t ⟨t.val, ht⟩ rfl]
  refine at_block (fun b => out2_10 (xb0 V c b) (xb1 V c b) (xb2 V c b) (xb3 V c b)) _ _ _ _ _ ?_ ?_ ?_
  all_goals blk_simp [index2_10 t]

/-- What the third call leaves in this array. -/
theorem arr2_11 : (dat2 V c).arrAt 11 cfg2.N = fun i => out2_11 (xb0 V c (i 0)) (xb1 V c (i 0)) (xb2 V c (i 0)) (xb3 V c (i 0)) (ix3 0 (i 1) (i 2)) := by
  refine (dat2 V c).arrAt_eq_of_covers 11 _ (by decide +kernel) fun t hf y => ?_
  have ht : t.val < 8 := t.isLt
  blk_simp
  rw [after2_11, blk2_0 V c t ⟨t.val, ht⟩ rfl, blk2_1 V c t ⟨t.val, ht⟩ rfl, blk2_2 V c t ⟨t.val, ht⟩ rfl, blk2_3 V c t ⟨t.val, ht⟩ rfl]
  refine at_block (fun b => out2_11 (xb0 V c b) (xb1 V c b) (xb2 V c b) (xb3 V c b)) _ _ _ _ _ ?_ ?_ ?_
  all_goals blk_simp [index2_11 t]

/-- What the third call leaves in this array. -/
theorem arr2_12 : (dat2 V c).arrAt 12 cfg2.N = fun i => out2_12 (xb0 V c (i 0)) (xb1 V c (i 0)) (xb2 V c (i 0)) (xb3 V c (i 0)) (ix3 0 (i 1) (i 2)) := by
  refine (dat2 V c).arrAt_eq_of_covers 12 _ (by decide +kernel) fun t hf y => ?_
  have ht : t.val < 8 := t.isLt
  blk_simp
  rw [after2_12, blk2_0 V c t ⟨t.val, ht⟩ rfl, blk2_1 V c t ⟨t.val, ht⟩ rfl, blk2_2 V c t ⟨t.val, ht⟩ rfl, blk2_3 V c t ⟨t.val, ht⟩ rfl]
  refine at_block (fun b => out2_12 (xb0 V c b) (xb1 V c b) (xb2 V c b) (xb3 V c b)) _ _ _ _ _ ?_ ?_ ?_
  all_goals blk_simp [index2_12 t]

/-- What the third call leaves in this array. -/
theorem arr2_13 : (dat2 V c).arrAt 13 cfg2.N = fun i => out2_13 (xb0 V c (i 0)) (xb1 V c (i 0)) (xb2 V c (i 0)) (xb3 V c (i 0)) (ix3 0 (i 1) (i 2)) := by
  refine (dat2 V c).arrAt_eq_of_covers 13 _ (by decide +kernel) fun t hf y => ?_
  have ht : t.val < 8 := t.isLt
  blk_simp
  rw [after2_13, blk2_0 V c t ⟨t.val, ht⟩ rfl, blk2_1 V c t ⟨t.val, ht⟩ rfl, blk2_2 V c t ⟨t.val, ht⟩ rfl, blk2_3 V c t ⟨t.val, ht⟩ rfl]
  refine at_block (fun b => out2_13 (xb0 V c b) (xb1 V c b) (xb2 V c b) (xb3 V c b)) _ _ _ _ _ ?_ ?_ ?_
  all_goals blk_simp [index2_13 t]

/-- What the third call leaves in this array. -/
theorem arr2_14 : (dat2 V c).arrAt 14 cfg2.N = fun i => out2_14 (xb0 V c (i 0)) (xb1 V c (i 0)) (xb2 V c (i 0)) (xb3 V c (i 0)) (ix3 0 (i 1) (i 2)) := by
  refine (dat2 V c).arrAt_eq_of_covers 14 _ (by decide +kernel) fun t hf y => ?_
  have ht : t.val < 8 := t.isLt
  blk_simp
  rw [after2_14, blk2_0 V c t ⟨t.val, ht⟩ rfl, blk2_1 V c t ⟨t.val, ht⟩ rfl, blk2_2 V c t ⟨t.val, ht⟩ rfl, blk2_3 V c t ⟨t.val, ht⟩ rfl]
  refine at_block (fun b => out2_14 (xb0 V c b) (xb1 V c b) (xb2 V c b) (xb3 V c b)) _ _ _ _ _ ?_ ?_ ?_
  all_goals blk_simp [index2_14 t]

/-- What the third call leaves in this array. -/
theorem arr2_15 : (dat2 V c).arrAt 15 cfg2.N = fun i => out2_15 (xb0 V c (i 0)) (xb1 V c (i 0)) (xb2 V c (i 0)) (xb3 V c (i 0)) (ix3 0 (i 1) (i 2)) := by
  refine (dat2 V c).arrAt_eq_of_covers 15 _ (by decide +kernel) fun t hf y => ?_
  have ht : t.val < 8 := t.isLt
  blk_simp
  rw [after2_15, blk2_0 V c t ⟨t.val, ht⟩ rfl, blk2_1 V c t ⟨t.val, ht⟩ rfl, blk2_2 V c t ⟨t.val, ht⟩ rfl, blk2_3 V c t ⟨t.val, ht⟩ rfl]
  refine at_block (fun b => out2_15 (xb0 V c b) (xb1 V c b) (xb2 V c b) (xb3 V c b)) _ _ _ _ _ ?_ ?_ ?_
  all_goals blk_simp [index2_15 t]

/-- What the third call leaves in this array. -/
theorem arr2_16 : (dat2 V c).arrAt 16 cfg2.N = fun i => out2_16 (xb0 V c (i 0)) (xb1 V c (i 0)) (xb2 V c (i 0)) (xb3 V c (i 0)) (ix3 0 (i 1) (i 2)) := by
  refine (dat2 V c).arrAt_eq_of_covers 16 _ (by decide +kernel) fun t hf y => ?_
  have ht : t.val < 8 := t.isLt
  blk_simp
  rw [after2_16, blk2_0 V c t ⟨t.val, ht⟩ rfl, blk2_1 V c t ⟨t.val, ht⟩ rfl, blk2_2 V c t ⟨t.val, ht⟩ rfl, blk2_3 V c t ⟨t.val, ht⟩ rfl]
  refine at_block (fun b => out2_16 (xb0 V c b) (xb1 V c b) (xb2 V c b) (xb3 V c b)) _ _ _ _ _ ?_ ?_ ?_
  all_goals blk_simp [index2_16 t]

/-- What the third call leaves in this array. -/
theorem arr2_17 : (dat2 V c).arrAt 17 cfg2.N = fun i => out2_17 (xb0 V c (i 0)) (xb1 V c (i 0)) (xb2 V c (i 0)) (xb3 V c (i 0)) (ix3 0 (i 1) (i 2)) := by
  refine (dat2 V c).arrAt_eq_of_covers 17 _ (by decide +kernel) fun t hf y => ?_
  have ht : t.val < 8 := t.isLt
  blk_simp
  rw [after2_17, blk2_0 V c t ⟨t.val, ht⟩ rfl, blk2_1 V c t ⟨t.val, ht⟩ rfl, blk2_2 V c t ⟨t.val, ht⟩ rfl, blk2_3 V c t ⟨t.val, ht⟩ rfl]
  refine at_block (fun b => out2_17 (xb0 V c b) (xb1 V c b) (xb2 V c b) (xb3 V c b)) _ _ _ _ _ ?_ ?_ ?_
  all_goals blk_simp [index2_17 t]

/-- What the third call leaves in this array. -/
theorem arr2_18 : (dat2 V c).arrAt 18 cfg2.N = fun i => out2_18 (xb0 V c (i 0)) (xb1 V c (i 0)) (xb2 V c (i 0)) (xb3 V c (i 0)) (ix3 0 (i 1) (i 2)) := by
  refine (dat2 V c).arrAt_eq_of_covers 18 _ (by decide +kernel) fun t hf y => ?_
  have ht : t.val < 8 := t.isLt
  blk_simp
  rw [after2_18, blk2_0 V c t ⟨t.val, ht⟩ rfl, blk2_1 V c t ⟨t.val, ht⟩ rfl, blk2_2 V c t ⟨t.val, ht⟩ rfl, blk2_3 V c t ⟨t.val, ht⟩ rfl]
  refine at_block (fun b => out2_18 (xb0 V c b) (xb1 V c b) (xb2 V c b) (xb3 V c b)) _ _ _ _ _ ?_ ?_ ?_
  all_goals blk_simp [index2_18 t]

end Blocks

variable (m : (ℓ : Loc nD τ sig) → Buf (Elt Ideal) ℓ) (ρ : Dev nD → PrngReg) (c : Dev nD)

/-- The mean actionness at the end. -/
theorem out_act2 (b : Fin 8) (t : Fin 750) :
    W9 m ρ c main_v42 (ix2 b t) = act2 (a0 m c) (a5 m c) (a6 m c) (a7 m c) (a8 m c) (a9 m c) (a10 m c) (a11 m c) (a12 m c) b t := by
  unfold W9
  after_reads_at
  refine (congrFun ((W8_arr m ρ c 16).trans (arr2_16 (V7 m ρ) c)) (ix3 b 0 t)).trans ?_
  unfold out2_16
  frame_out
  pointwise [k2_pay7, k2_pay6, xb3]
  exact congrArg (· * _) (congrArg₂ (· + ·) (at7_actf m ρ c b t) (at7_actr m ρ c b t))

end Cert.KernelIdeal.Hand

end
-- ==== Proof.Order.lean ====
/- Sorting a row of 750 extended reals: its middle entries, found by counting, and its greatest entries, picked one after the other. -/
module

public import Idealize.ShloMosaic.Lib.SortPrefix
public import Idealize.ShloMosaic.PureOps.Ideal.Laws
public import Idealize.ShloMosaic.Lib.IdealHost
public import Idealize.ShloMosaic.Init
public import Idealize.ShloMosaic.Lib.Pointwise

@[expose] public section

namespace Cert.Maths

open Idealize.ShloMosaic

noncomputable section

/-! ## The middle of a row -/

/-- The position of the entry that stands at `k` when a row is sorted upwards. -/
def srt (a : Fin 750 → EReal) (k : Fin 750) : Fin 750 := sortedFrom (fun i j => decide (a i < a j)) k

/-- A sorted row does not go down. -/
theorem srt_mono (a : Fin 750 → EReal) {i j : Fin 750} (h : i < j) : a (srt a i) ≤ a (srt a j) := by
  have := sortedFrom_noInversion (fun i j => decide (a i < a j)) (fun i j => decide (a i < a j))
    (fun x y h => by simp at h ⊢; exact h.le) (fun x y h => h)
    (fun x y z h1 h2 => by simp at h1 h2 ⊢; exact h2.trans h1) i j h
  have h' : ¬ a (srt a j) < a (srt a i) := of_decide_eq_false this
  exact not_lt.mp h'

/-- Sorting moves every position to a position of its own. -/
theorem srt_inj (a : Fin 750 → EReal) : Function.Injective (srt a) := sortedFrom_injective _

/-- How many entries of a row are below `x`. -/
def below (a : Fin 750 → EReal) (x : EReal) : ℕ := (Finset.univ.filter fun j => a j < x).card

/-- How many entries of a row are at most `x`. -/
def upto (a : Fin 750 → EReal) (x : EReal) : ℕ := (Finset.univ.filter fun j => a j ≤ x).card

/-- Counting along the sorted row instead of the row. -/
theorem below_eq (a : Fin 750 → EReal) (x : EReal) : below a x = (Finset.univ.filter fun k => a (srt a k) < x).card := by
  unfold below
  refine (Finset.card_bij (fun k _ => srt a k) ?_ ?_ ?_).symm
  · intro k hk; simpa using hk
  · intro k _ l _ h; exact srt_inj a h
  · intro j hj
    obtain ⟨k, rfl⟩ := sortedFrom_surjective (fun i j => decide (a i < a j)) j
    exact ⟨k, Finset.mem_filter.mpr ⟨Finset.mem_univ _, (Finset.mem_filter.mp hj).2⟩, rfl⟩

/-- Counting along the sorted row instead of the row. -/
theorem upto_eq (a : Fin 750 → EReal) (x : EReal) : upto a x = (Finset.univ.filter fun k => a (srt a k) ≤ x).card := by
  unfold upto
  refine (Finset.card_bij (fun k _ => srt a k) ?_ ?_ ?_).symm
  · intro k hk; simpa using hk
  · intro k _ l _ h; exact srt_inj a h
  · intro j hj
    obtain ⟨k, rfl⟩ := sortedFrom_surjective (fun i j => decide (a i < a j)) j
    exact ⟨k, Finset.mem_filter.mpr ⟨Finset.mem_univ _, (Finset.mem_filter.mp hj).2⟩, rfl⟩

/-- A value with at most `p` entries below it and more than `p` entries up to it is the one at `p` in order. -/
theorem eq_of_counts (a : Fin 750 → EReal) (p : Fin 750) (c : Fin 750) :
    (below a (a c) ≤ p.val ∧ p.val < upto a (a c)) → a c = a (srt a p) := by
  rintro ⟨h1, h2⟩
  rcases lt_trichotomy (a c) (a (srt a p)) with h | h | h
  · exfalso
    rw [upto_eq] at h2
    have : (Finset.univ.filter fun k => a (srt a k) ≤ a c) ⊆ Finset.Iio p := by
      intro k hk
      simp only [Finset.mem_filter, Finset.mem_univ, true_and] at hk
      rw [Finset.mem_Iio]
      by_contra hc
      rcases (not_lt.mp hc).lt_or_eq with h' | h'
      · exact absurd ((srt_mono a h').trans hk) (not_le.mpr h)
      · subst h'; exact absurd hk (not_le.mpr h)
    have := Finset.card_le_card this
    rw [Fin.card_Iio] at this
    omega
  · exact h
  · exfalso
    rw [below_eq] at h1
    have : Finset.Iic p ⊆ (Finset.univ.filter fun k => a (srt a k) < a c) := by
      intro k hk
      rw [Finset.mem_Iic] at hk
      simp only [Finset.mem_filter, Finset.mem_univ, true_and]
      rcases hk.lt_or_eq with h' | h'
      · exact (srt_mono a h').trans_lt h
      · subst h'; exact h
    have := Finset.card_le_card this
    rw [Fin.card_Iic] at this
    omega

/-- The entry at `p` in order has at most `p` entries below it and more than `p` entries up to it. -/
theorem counts_srt (a : Fin 750 → EReal) (p : Fin 750) :
    below a (a (srt a p)) ≤ p.val ∧ p.val < upto a (a (srt a p)) := by
  constructor
  · rw [below_eq]
    have : (Finset.univ.filter fun k => a (srt a k) < a (srt a p)) ⊆ Finset.Iio p := by
      intro k hk
      simp only [Finset.mem_filter, Finset.mem_univ, true_and] at hk
      rw [Finset.mem_Iio]
      by_contra hc
      rcases (not_lt.mp hc).lt_or_eq with h' | h'
      · exact absurd (srt_mono a h') (not_le.mpr hk)
      · subst h'; exact absurd hk (lt_irrefl _)
    have := Finset.card_le_card this
    rw [Fin.card_Iio] at this
    omega
  · rw [upto_eq]
    have : Finset.Iic p ⊆ (Finset.univ.filter fun k => a (srt a k) ≤ a (srt a p)) := by
      intro k hk
      rw [Finset.mem_Iic] at hk
      simp only [Finset.mem_filter, Finset.mem_univ, true_and]
      rcases hk.lt_or_eq with h' | h'
      · exact srt_mono a h'
      · subst h'; exact le_refl _
    have := Finset.card_le_card this
    rw [Fin.card_Iic] at this
    omega

/-- The greatest of the entries whose counts name the place `p` is the entry at `p` in order. -/
theorem fold_counts {ι : Type} (s : Finset ι) (g : ι → Fin 750) (hg : ∀ c, ∃ i ∈ s, g i = c) (a : Fin 750 → EReal)
    (p : Fin 750) (q : Fin 750 → Prop) [DecidablePred q] (hq : ∀ c, q c ↔ (below a (a c) ≤ p.val ∧ p.val < upto a (a c))) :
    s.fold max (⊥ : EReal) (fun i => if q (g i) then a (g i) else ⊥) = a (srt a p) := by
  apply le_antisymm
  · rw [Finset.fold_max_le]
    refine ⟨bot_le, fun i _ => ?_⟩
    split
    · next h => exact (eq_of_counts a p _ ((hq _).mp h)).le
    · exact bot_le
  · rw [Finset.le_fold_max]
    obtain ⟨i, hi, e⟩ := hg (srt a p)
    refine Or.inr ⟨i, hi, ?_⟩
    rw [e, if_pos ((hq _).mpr (counts_srt a p))]

/-- The mean of a row's two middle entries. -/
def mid (a : Fin 750 → EReal) : EReal := (a (srt a 374) + a (srt a 375)) * Ideal.ofBits .f32 0x3F000000#32

/-- One where a row is above the mean of its two middle entries, else nothing. -/
def bin (a : Fin 750 → EReal) (t : Fin 750) : EReal := if mid a < a t then 1 else 0

/-! ## Counting with extended reals -/

/-- The truth of a comparison as a number. -/
def one (b : Prop) : ℕ := open Classical in if b then 1 else 0

/-- A sum of counts is a count. -/
theorem sum_nat {ι : Type} (s : Finset ι) (f : ι → ℕ) : (∑ i ∈ s, ((f i : ℕ) : EReal)) = ((∑ i ∈ s, f i : ℕ) : EReal) := by
  classical
  induction s using Finset.induction_on with
  | empty => simp
  | insert a s h ih => rw [Finset.sum_insert h, Finset.sum_insert h, ih, Nat.cast_add]

/-- A count over a row is the sum of the counts over its six blocks. -/
theorem blocks (f : Fin 750 → ℕ) :
    (∑ j, f j) = (∑ x : Fin 128, f ⟨x.val, by omega⟩) + (∑ x : Fin 128, f ⟨128 + x.val, by omega⟩)
      + (∑ x : Fin 128, f ⟨256 + x.val, by omega⟩) + (∑ x : Fin 128, f ⟨384 + x.val, by omega⟩)
      + (∑ x : Fin 128, f ⟨512 + x.val, by omega⟩) + (∑ x : Fin 110, f ⟨640 + x.val, by omega⟩) := by
  let g : ℕ → ℕ := fun n => if h : n < 750 then f ⟨n, h⟩ else 0
  have e : ∀ (m o : ℕ) (h : o + m ≤ 750), (∑ x : Fin m, f ⟨o + x.val, by omega⟩) = ∑ x ∈ Finset.range m, g (o + x) := by
    intro m o h
    rw [Finset.sum_range]
    exact Finset.sum_congr rfl fun x _ => by simp only [g]; rw [dif_pos (by omega)]
  have e0 : (∑ j, f j) = ∑ x ∈ Finset.range (128 + 128 + 128 + 128 + 128 + 110), g x := by
    rw [show 128 + 128 + 128 + 128 + 128 + 110 = 750 from rfl, Finset.sum_range]
    exact Finset.sum_congr rfl fun x _ => by simp only [g]; rw [dif_pos x.isLt]
  have e1 : (∑ x : Fin 128, f ⟨x.val, by omega⟩) = ∑ x ∈ Finset.range 128, g x := by
    rw [Finset.sum_range]
    exact Finset.sum_congr rfl fun x _ => by simp only [g]; rw [dif_pos (by omega)]
  rw [e0, e1, e 128 128 (by omega), e 128 256 (by omega), e 128 384 (by omega), e 128 512 (by omega), e 110 640 (by omega)]
  simp only [Finset.sum_range_add]

/-- A count as a sum of ones. -/
theorem below_sum (a : Fin 750 → EReal) (x : EReal) : below a x = ∑ j, one (a j < x) := by
  unfold below
  rw [Finset.card_filter]
  refine Finset.sum_congr rfl fun j _ => ?_
  unfold one
  by_cases h : a j < x <;> simp [h]

/-- A count as a sum of ones. -/
theorem upto_sum (a : Fin 750 → EReal) (x : EReal) : upto a x = ∑ j, one (a j ≤ x) := by
  unfold upto
  rw [Finset.card_filter]
  refine Finset.sum_congr rfl fun j _ => ?_
  unfold one
  by_cases h : a j ≤ x <;> simp [h]

/-! ## Picking the greatest entry again and again -/

/-- The position of the `k`-th greatest entry of a row, the earlier of two equal ones first. -/
def pick (S : Fin 750 → EReal) (k : Fin 37) : Fin 750 :=
  sortedFrom (fun i j => decide (-(S i) < -(S j))) (k.castLE (by omega))

/-- "Before" among positions: a greater entry, or an equal one at an earlier position. -/
def Pre (S : Fin 750 → EReal) (a b : Fin 750) : Prop := S b < S a ∨ (S a = S b ∧ a < b)

/-- Inserting a position that stands before all of a list keeps the list in order. -/
theorem insert_pre (S : Fin 750 → EReal) (a : Fin 750) (l : List (Fin 750)) (ha : ∀ b ∈ l, a < b) (hl : l.Pairwise (Pre S)) :
    (insertBefore (fun i j => decide (-(S i) < -(S j))) a l).Pairwise (Pre S) := by
  induction l with
  | nil => simp [insertBefore]
  | cons b l ih =>
    obtain ⟨hb, hl'⟩ := List.pairwise_cons.mp hl
    unfold insertBefore
    split
    · next h =>
      have hba : S a < S b := by simpa using h
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl hba
      · exact hb x hx'
    · next h =>
      have hab : S b ≤ S a := by simpa using h
      refine List.pairwise_cons.mpr ⟨fun x hx => ?_, hl⟩
      have hle : S x ≤ S a := by
        rcases List.mem_cons.mp hx with rfl | hx'
        · exact hab
        · rcases hb x hx' with h1 | ⟨h1, -⟩
          · exact h1.le.trans hab
          · exact h1.symm.le.trans hab
      rcases hle.lt_or_eq with h1 | h1
      · exact Or.inl h1
      · exact Or.inr ⟨h1.symm, ha x hx⟩

/-- The stable sort by the key leaves equal entries in the order of their positions. -/
theorem sort_pre (S : Fin 750 → EReal) (l : List (Fin 750)) (hl : l.Pairwise (· < ·)) :
    (stableSort (fun i j => decide (-(S i) < -(S j))) l).Pairwise (Pre S) := by
  induction l with
  | nil => simp [stableSort]
  | cons a l ih =>
    obtain ⟨ha, hl'⟩ := List.pairwise_cons.mp hl
    unfold stableSort
    exact insert_pre S a _ (fun b hb => ha b ((perm_stableSort _ l).mem_iff.mp hb)) (ih hl')

/-- Keys with the position breaking ties: a strict order on the positions. -/
theorem total (S : Fin 750 → EReal) : StrictTotalBefore
    fun k k' : Fin 750 => (fun x y : EReal => decide (y < x)) (S k) (S k') || (decide (S k = S k') && decide (k < k')) :=
  StrictTotalBefore.of_key_then_position (fun x y : EReal => decide (y < x)) S (by simp)
    (fun a b c h1 h2 => by simp at h1 h2 ⊢; exact h2.trans h1)
    (fun a b => by simp; rcases lt_trichotomy a b with h | h | h <;> simp [h])

/-- Sorts that list the positions alike take every entry from the same position. -/
theorem from_positions {n : ℕ} (R R' : Fin n → Fin n → Bool) (h : sortPositions n R = sortPositions n R') :
    sortedFrom R = sortedFrom R' := by
  funext k
  unfold sortedFrom
  rw [List.get_of_eq h]
  rfl

/-- The stable sort by the key alone is the sort by the key and then the position. -/
theorem pick_eq (S : Fin 750 → EReal) (k : Fin 37) : pick S k = sortedFrom
    (fun k k' : Fin 750 => (fun x y : EReal => decide (y < x)) (S k) (S k') || (decide (S k = S k') && decide (k < k')))
    (k.castLE (by omega)) := by
  have h : sortPositions 750 (fun i j => decide (-(S i) < -(S j))) = sortPositions 750 (fun k k' : Fin 750 =>
      (fun x y : EReal => decide (y < x)) (S k) (S k') || (decide (S k = S k') && decide (k < k'))) := by
    refine (total S).eq_stableSort_of_sorted (perm_stableSort _ _) ?_
    refine (sort_pre S _ (List.pairwise_lt_finRange 750)).imp fun {a b} h => ?_
    rcases h with h | ⟨h, h'⟩
    · simp [h.le, h.ne]
    · simp [h, h'.le]
  exact congrFun (from_positions _ _ h) _

/-- Taking the first greatest entry, and putting one below all the entries in its place, again and again, picks the
    positions in order. -/
theorem greedy (S : Fin 750 → EReal) (hS : ∀ t, 0 ≤ S t) (R : ℕ → Fin 750 → EReal) (p : ℕ → Fin 750) (w : EReal) (hw : w < 0)
    (h0 : R 0 = S) (hs : ∀ k t, R (k + 1) t = if t = p k then w else R k t)
    (hmax : ∀ k t, R k t ≤ R k (p k)) (hfst : ∀ k t, t < p k → R k t < R k (p k)) (k : Fin 37) :
    p k.val = pick S k := by
  have inv : ∀ k t, R k t = if ∃ j < k, p j = t then w else S t := by
    intro k
    induction k with
    | zero => intro t; simp [h0]
    | succ k ih =>
      intro t
      rw [hs, ih]
      by_cases e : t = p k
      · rw [if_pos e, if_pos ⟨k, by omega, e.symm⟩]
      · rw [if_neg e]
        refine if_congr ⟨fun ⟨j, hj, h⟩ => ⟨j, by omega, h⟩, fun ⟨j, hj, h⟩ => ⟨j, ?_, h⟩⟩ rfl rfl
        rcases Nat.lt_or_ge j k with h' | h'
        · exact h'
        · have : j = k := by omega
          subst this; exact absurd h.symm e
  have old : ∀ k t, (∀ j < k, p j ≠ t) → R k t = S t := fun k t h => by
    rw [inv, if_neg]; rintro ⟨j, hj, e⟩; exact h j hj e
  have fresh : ∀ k, k < 750 → ∀ j < k, p j ≠ p k := by
    intro k hk j hj e
    obtain ⟨t, ht⟩ : ∃ t : Fin 750, t ∉ (Finset.range k).image p := by
      by_contra hc
      push Not at hc
      have h1 : (Finset.univ : Finset (Fin 750)) ⊆ (Finset.range k).image p := fun t _ => hc t
      have h2 := (Finset.card_le_card h1).trans Finset.card_image_le
      simp at h2
      omega
    have h1 := hmax k t
    rw [old k t (fun j hj e => ht (Finset.mem_image.mpr ⟨j, Finset.mem_range.mpr hj, e⟩)), inv k (p k), if_pos ⟨j, hj, e⟩] at h1
    exact absurd (hS t) (not_le.mpr (h1.trans_lt hw))
  have dom : ∀ k < 750, ∀ t, (∀ j < k, p j ≠ t) → S t ≤ S (p k) ∧ (t < p k → S t < S (p k)) := by
    intro k hk t ht
    have h1 := hmax k t
    have h2 := hfst k t
    rw [old k t ht, old k (p k) (fresh k hk)] at h1 h2
    exact ⟨h1, h2⟩
  rw [pick_eq]
  refine ((total S).sortedFrom_eq_of_prefix (by omega) (fun i : Fin 37 => p i.val) ?_ ?_ ?_ k).symm
  · intro i j e
    rcases lt_trichotomy i j with h | h | h
    · exact absurd e (fresh j.val (by omega) i.val h)
    · exact h
    · exact absurd e.symm (fresh i.val (by omega) j.val h)
  · intro i j hij
    have := dom i.val (by omega) (p j.val) (fun l hl => fresh j.val (by omega) l (by omega))
    simp only [Bool.or_eq_false_iff, decide_eq_false_iff_not, Bool.and_eq_false_iff, not_lt]
    refine ⟨this.1, ?_⟩
    by_cases h : p j.val < p i.val
    · exact Or.inl (this.2 h).ne
    · exact Or.inr (not_lt.mp h)
  · intro i t ht
    have := dom i.val (by omega) t (fun l hl => ht ⟨l, by omega⟩)
    simp only [Bool.or_eq_false_iff, decide_eq_false_iff_not, Bool.and_eq_false_iff, not_lt]
    refine ⟨this.1, ?_⟩
    by_cases h : t < p i.val
    · exact Or.inl (this.2 h).ne
    · exact Or.inr (not_lt.mp h)

end

end Cert.Maths
-- ==== Proof.ValueCount.lean ====
/-
The two middle numbers of a row as the kernel finds them: each entry counts, block by block, how many entries are less and how many are at most it.
-/
module

public import proofs.«01_k».proof.Proof.ValueSelect
public import proofs.«01_k».proof.Proof.Order

@[expose] public section

set_option maxRecDepth 16384

noncomputable section

namespace Cert.KernelIdeal.Hand

open Cert.KernelIdeal Cert.KernelIdeal.Gen
open Idealize.ShloMosaic Idealize.ShloMosaic.TcCoe
open Cert.Maths

/-- A comparison turned into a number. -/
theorem truth (b : Prop) [Decidable b] :
    FloatOps.sitofp (F := Ideal) FTy.f32 (BitVec.setWidth 32 (BitVec.ofBool (decide b))) = ((one b : ℕ) : EReal) := by
  by_cases h : b
  · simp only [h, one, decide_true, if_true]
    show (((1 : ℤ) : ℝ) : EReal) = _
    simp
  · simp only [h, one, decide_false, if_false]
    show (((0 : ℤ) : ℝ) : EReal) = _
    simp

/-- The number 374. -/
theorem word374 : Ideal.ofBits FTy.f32 0x43BB0000#32 = ((374 : ℕ) : EReal) := by
  have : Ideal.ofBits FTy.f32 0x43BB0000#32 = ((374 : ℝ) : EReal) := by
    simp [Ideal.ofBits, Ideal.ieee, -EReal.coe_mul]; norm_num
  rw [this]; rfl

/-- The number 375. -/
theorem word375 : Ideal.ofBits FTy.f32 0x43BB8000#32 = ((375 : ℕ) : EReal) := by
  have : Ideal.ofBits FTy.f32 0x43BB8000#32 = ((375 : ℝ) : EReal) := by
    simp [Ideal.ofBits, Ideal.ieee, -EReal.coe_mul]; norm_num
  rw [this]; rfl

/-- The number below all. -/
theorem wordbot : Ideal.ofBits FTy.f32 0xFF800000#32 = (⊥ : EReal) := by
  simp [Ideal.ofBits, Ideal.ieee]

/-- The greatest entry whose counts name the place `p`. -/
theorem mid_fold {ι : Type} (s : Finset ι) (g : ι → Fin 750) (hg : ∀ c, ∃ i ∈ s, g i = c) (a : Fin 750 → EReal) (p : Fin 750)
    (lt le : Fin 750 → EReal) (hlt : ∀ c, lt c = ((below a (a c) : ℕ) : EReal)) (hle : ∀ c, le c = ((upto a (a c) : ℕ) : EReal))
    (w m : EReal) (hw : w = ((p.val : ℕ) : EReal)) (hm : m = ⊥) :
    s.fold max m (fun i => Scalar.select (IntOp.andi (BitVec.ofBool (decide (lt (g i) ≤ w))) (BitVec.ofBool (decide (w < le (g i))))) (a (g i)) m)
      = a (srt a p) := by
  subst hw hm
  rw [← fold_counts s g hg a p (fun c => below a (a c) ≤ p.val ∧ p.val < upto a (a c)) (fun c => Iff.rfl)]
  refine Finset.fold_congr fun i _ => ?_
  rw [hlt, hle]
  have e1 : (((below a (a (g i)) : ℕ) : EReal) ≤ ((p.val : ℕ) : EReal)) ↔ below a (a (g i)) ≤ p.val := Nat.cast_le
  have e2 : (((p.val : ℕ) : EReal) < ((upto a (a (g i)) : ℕ) : EReal)) ↔ p.val < upto a (a (g i)) := Nat.cast_lt
  by_cases h1 : below a (a (g i)) ≤ p.val
  · by_cases h2 : p.val < upto a (a (g i))
    · rw [if_pos ⟨h1, h2⟩, decide_eq_true (e1.mpr h1), decide_eq_true (e2.mpr h2)]; rfl
    · rw [if_neg (fun h => h2 h.2), decide_eq_true (e1.mpr h1), decide_eq_false (fun h => h2 (e2.mp h))]; rfl
  · rw [if_neg (fun h => h1 h.1), decide_eq_false (fun h => h1 (e1.mp h))]
    cases decide (((p.val : ℕ) : EReal) < ((upto a (a (g i)) : ℕ) : EReal)) <;> rfl

/-- How many entries of the actionness row are below one of them, as the body counts them. -/
theorem cntA_lt (L : Vec Ideal S1x1x750 .f32) (c : Fin 750) :
    k2_pay20 (k2_pay5 L) (k2_pay8 L) (k2_pay18 (k2_pay5 L) (k2_pay8 L) (k2_pay10 L) (k2_pay13 L)) (ix2 c 0)
      = ((below (fun j => L (ix3 0 0 j)) (L (ix3 0 0 c)) : ℕ) : EReal) := by
  pointwise [k2_pay20, k2_pay18, k2_pay10, k2_pay13, k2_pay5, k2_pay8, k2_pay9, k2_pay12, k2_pay14, k2_pay15, k2_pay17, k2_pay19]
  simp only [truth, sum_nat, ← Nat.cast_add]
  rw [below_sum, blocks]

/-- How many entries of the actionness row are at most one of them, as the body counts them. -/
theorem cntA_le (L : Vec Ideal S1x1x750 .f32) (c : Fin 750) :
    k2_pay21 (k2_pay5 L) (k2_pay8 L) (k2_pay16 (k2_pay5 L) (k2_pay8 L) (k2_pay11 L) (k2_pay12 L)) (k2_pay17 (k2_pay5 L)) (ix2 c 0)
      = ((upto (fun j => L (ix3 0 0 j)) (L (ix3 0 0 c)) : ℕ) : EReal) := by
  pointwise [k2_pay21, k2_pay16, k2_pay11, k2_pay5, k2_pay8, k2_pay9, k2_pay12, k2_pay14, k2_pay15, k2_pay17, k2_pay19]
  simp only [truth, sum_nat, ← Nat.cast_add]
  rw [upto_sum, blocks]

/-- The same counts on the mean of the two streams' rows. -/
theorem cntB_lt (v : FVec Ideal S1x750 .f32) (c : Fin 750) :
    k2_pay36 v (k2_pay25 v) (k2_pay30 v) (ix2 c 0) = ((below (fun j => v (ix2 0 j)) (v (ix2 0 c)) : ℕ) : EReal) := by
  pointwise [k2_pay36, k2_pay25, k2_pay26, k2_pay27, k2_pay28, k2_pay29, k2_pay30, k2_pay31, k2_pay32, k2_pay33, k2_pay35]
  simp only [truth, sum_nat, ← Nat.cast_add]
  rw [below_sum, blocks]

/-- The same counts on the mean of the two streams' rows. -/
theorem cntB_le (v : FVec Ideal S1x750 .f32) (c : Fin 750) :
    k2_pay34 v (k2_pay25 v) (k2_pay28 v) (k2_pay31 v) (ix2 c 0) + k2_pay37 v (k2_pay25 v) (ix1 c)
      = ((upto (fun j => v (ix2 0 j)) (v (ix2 0 c)) : ℕ) : EReal) := by
  pointwise [k2_pay34, k2_pay37, k2_pay25, k2_pay26, k2_pay27, k2_pay28, k2_pay29, k2_pay30, k2_pay31, k2_pay32, k2_pay33, k2_pay35]
  simp only [truth, sum_nat, ← Nat.cast_add]
  rw [upto_sum, blocks]

end Cert.KernelIdeal.Hand
-- ==== Proof.ValueMid.lean ====
/-
The middle numbers of the two rows of actionness in the third call, as the entries that the counts single out.
-/
module

public import proofs.«01_k».proof.Proof.ValueCount
public import proofs.«01_k».proof.Proof.Order

@[expose] public section

set_option maxRecDepth 16384

noncomputable section

namespace Cert.KernelIdeal.Hand

open Cert.KernelIdeal Cert.KernelIdeal.Gen
open Idealize.ShloMosaic Idealize.ShloMosaic.TcCoe
open Cert.Maths

/-- The mean of a row's two middle entries, halved before or after they are added. -/
theorem mid_halves (a : Fin 750 → EReal) (ha : ∀ t, 0 ≤ a t) :
    a (srt a 374) * Ideal.ofBits .f32 0x3F000000#32 + a (srt a 375) * Ideal.ofBits .f32 0x3F000000#32 = mid a :=
  (EReal.right_distrib_of_nonneg (ha _) (ha _)).symm

/-- The entry at 374 in order, by its counts. -/
theorem mid_fold374 {ι : Type} (s : Finset ι) (g : ι → Fin 750) (hg : ∀ c, ∃ i ∈ s, g i = c) (a : Fin 750 → EReal)
    (lt le : Fin 750 → EReal) (hlt : ∀ c, lt c = ((below a (a c) : ℕ) : EReal)) (hle : ∀ c, le c = ((upto a (a c) : ℕ) : EReal)) :
    s.fold max (Ideal.ofBits FTy.f32 0xFF800000#32) (fun i => Scalar.select (IntOp.andi (BitVec.ofBool (decide (lt (g i) ≤ Ideal.ofBits FTy.f32 0x43BB0000#32)))
        (BitVec.ofBool (decide (Ideal.ofBits FTy.f32 0x43BB0000#32 < le (g i))))) (a (g i)) (Ideal.ofBits FTy.f32 0xFF800000#32)) = a (srt a 374) :=
  mid_fold s g hg a 374 lt le hlt hle _ _ (by rw [word374]; rfl) wordbot

/-- The entry at 375 in order, by its counts. -/
theorem mid_fold375 {ι : Type} (s : Finset ι) (g : ι → Fin 750) (hg : ∀ c, ∃ i ∈ s, g i = c) (a : Fin 750 → EReal)
    (lt le : Fin 750 → EReal) (hlt : ∀ c, lt c = ((below a (a c) : ℕ) : EReal)) (hle : ∀ c, le c = ((upto a (a c) : ℕ) : EReal)) :
    s.fold max (Ideal.ofBits FTy.f32 0xFF800000#32) (fun i => Scalar.select (IntOp.andi (BitVec.ofBool (decide (lt (g i) ≤ Ideal.ofBits FTy.f32 0x43BB8000#32)))
        (BitVec.ofBool (decide (Ideal.ofBits FTy.f32 0x43BB8000#32 < le (g i))))) (a (g i)) (Ideal.ofBits FTy.f32 0xFF800000#32)) = a (srt a 375) :=
  mid_fold s g hg a 375 lt le hlt hle _ _ (by rw [word375]; rfl) wordbot

/-- Every place of a row is the first coordinate of a place of a column. -/
theorem col_all (c : Fin 750) : ∃ i ∈ (Finset.univ : Finset (Fin 750 × Fin 1)), i.1 = c :=
  ⟨(c, 0), Finset.mem_univ _, rfl⟩

/-- A row's two middle entries by counts, halved and added. -/
theorem med_raw (v12 : FVec Ideal S750x1 .f32) (v1 : FVec Ideal S1x750 .f32) (v82 : FVec Ideal S750x1 .f32)
    (v83 : FVec Ideal S1x128 .f32) (v91 : FVec Ideal S750x1 .f32) (a : Fin 750 → EReal)
    (h3 : ∀ c, v12 (ix2 c 0) = a c) (h1 : ∀ c, k2_pay20 v1 v12 v91 (ix2 c 0) = ((below a (a c) : ℕ) : EReal))
    (h2 : ∀ c, k2_pay21 v1 v12 v82 v83 (ix2 c 0) = ((upto a (a c) : ℕ) : EReal)) :
    k2_pay24 (k2_pay22 v1 v12 v82 v83 v91) (k2_pay23 v1 v12 v82 v83 v91)
      = a (srt a 374) * Ideal.ofBits .f32 0x3F000000#32 + a (srt a 375) * Ideal.ofBits .f32 0x3F000000#32 := by
  pointwise [k2_pay24, k2_pay22, k2_pay23]
  simp only [h3, h1, h2]
  have e1 := mid_fold374 Finset.univ Prod.fst col_all a (fun c => ((below a (a c) : ℕ) : EReal)) (fun c => ((upto a (a c) : ℕ) : EReal)) (fun _ => rfl) (fun _ => rfl)
  have e2 := mid_fold375 Finset.univ Prod.fst col_all a (fun c => ((below a (a c) : ℕ) : EReal)) (fun c => ((upto a (a c) : ℕ) : EReal)) (fun _ => rfl) (fun _ => rfl)
  rw [← e1, ← e2]

/-- A mask by counts is the mask by the middle. -/
theorem bin_raw (v12 : FVec Ideal S750x1 .f32) (v229 : FVec Ideal S750x1 .f32) (v238 : FVec Ideal S750x1 .f32) (v244 : FVec Ideal S750 .f32)
    (v8 : FVec Ideal S1x750 .f32) (a : Fin 750 → EReal) (ha : ∀ t, 0 ≤ a t) (h4 : ∀ c, v8 (ix2 0 c) = a c)
    (h3 : ∀ c, v12 (ix2 c 0) = a c) (h1 : ∀ c, v238 (ix2 c 0) = ((below a (a c) : ℕ) : EReal))
    (h2 : ∀ c, v229 (ix2 c 0) + v244 (ix1 c) = ((upto a (a c) : ℕ) : EReal)) (t : Fin 750) :
    k2_pay39 v8 v12 v229 v238 v244 (ix2 0 t) = bin a t := by
  unfold bin
  rw [← mid_halves a ha]
  pointwise [k2_pay39]
  simp only [h3, h1, h2, h4]
  have e1 := mid_fold374 Finset.univ Prod.fst col_all a (fun c => ((below a (a c) : ℕ) : EReal)) (fun c => ((upto a (a c) : ℕ) : EReal)) (fun _ => rfl) (fun _ => rfl)
  have e2 := mid_fold375 Finset.univ Prod.fst col_all a (fun c => ((below a (a c) : ℕ) : EReal)) (fun c => ((upto a (a c) : ℕ) : EReal)) (fun _ => rfl) (fun _ => rfl)
  rw [← e1, ← e2]

/-- The middle of the actionness row, as the body finds it. -/
theorem medA_eq (x2 : Vec Ideal S1x1x750 .f32) (a : Fin 750 → EReal) (h : ∀ j, View.ld x2 r2_4 (ix3 0 0 j) = a j) (ha : ∀ t, 0 ≤ a t) :
    medA x2 = mid a := by
  rw [← mid_halves a ha]
  unfold medA cntA1 cntA2 sumA
  obtain rfl : (fun j => View.ld x2 r2_4 (ix3 0 0 j)) = a := funext h
  exact med_raw _ _ _ _ _ (fun j => View.ld x2 r2_4 (ix3 0 0 j)) (fun c => by pointwise [k2_pay8, k2_pay5]) (cntA_lt _) (cntA_le _)

/-- The second mask, as the body makes it. -/
theorem binB_eq (x3 : Vec Ideal S1x2x1x750 .f32) (a : Fin 750 → EReal) (h : ∀ j, sumB x3 (ix2 0 j) = a j) (ha : ∀ t, 0 ≤ a t) (t : Fin 750) :
    binB x3 (ix2 0 t) = bin a t := by
  unfold binB
  obtain rfl : (fun j => sumB x3 (ix2 0 j)) = a := funext h
  exact bin_raw _ _ _ _ _ _ ha (fun c => rfl) (fun c => by pointwise [k2_pay25]) (cntB_lt _) (cntB_le _) t

/-- The first mask, as the body makes it. -/
theorem binA_eq (x2 : Vec Ideal S1x1x750 .f32) (a : Fin 750 → EReal) (h : ∀ j, View.ld x2 r2_4 (ix3 0 0 j) = a j) (ha : ∀ t, 0 ≤ a t) (t : Fin 750) :
    binA x2 (ix2 0 t) = bin a t := by
  have e : ∀ j, sumA x2 (ix2 0 j) = a j := fun j => by
    unfold sumA
    rw [← h j]
    pointwise [k2_pay5]
  unfold bin binA
  rw [medA_eq x2 a h ha]
  pointwise [k2_pay38]
  rw [e]

end Cert.KernelIdeal.Hand
-- ==== Proof.Scores.lean ====
/- The scores the selection goes by, and the bounds on the actionness that keep them from being negative. -/
module

public import proofs.«01_k».proof.Proof.Maths
public import proofs.«01_k».proof.Proof.Order

@[expose] public section

set_option maxRecDepth 16384

noncomputable section

namespace Cert.Maths

open Idealize.ShloMosaic

/-- The logistic function lies between nought and one. -/
theorem logistic_bounds (x : EReal) : 0 ≤ Ideal.logistic x ∧ Ideal.logistic x ≤ 1 := by
  have key : ∀ r : ℝ, 0 ≤ r → 0 ≤ Ideal.div 1 (1 + (r : EReal)) ∧ Ideal.div 1 (1 + (r : EReal)) ≤ 1 := by
    intro r hr
    have e : (1 : EReal) + (r : EReal) = ((1 + r : ℝ) : EReal) := rfl
    have hn : ((1 + r : ℝ) : EReal) ≠ 0 := by
      have : (1 + r : ℝ) ≠ 0 := by positivity
      exact_mod_cast this
    rw [e]
    unfold Ideal.div
    rw [if_neg hn, one_mul, ← EReal.coe_inv]
    refine ⟨?_, ?_⟩
    · have : (0 : ℝ) ≤ (1 + r)⁻¹ := by positivity
      exact_mod_cast this
    · have : (1 + r : ℝ)⁻¹ ≤ 1 := inv_le_one_of_one_le₀ (by linarith)
      exact_mod_cast this
  show 0 ≤ Ideal.div 1 (1 + Ideal.exp (-x)) ∧ Ideal.div 1 (1 + Ideal.exp (-x)) ≤ 1
  induction x using EReal.rec with
  | bot =>
    have e : (1 : EReal) + Ideal.exp (-⊥) = ⊤ := rfl
    have hn : (⊤ : EReal) ≠ 0 := by decide
    rw [e]
    unfold Ideal.div
    rw [if_neg hn, EReal.inv_top, mul_zero]
    exact ⟨le_refl _, zero_le_one⟩
  | top => exact key 0 (le_refl _)
  | coe r => exact key (Real.exp (-r)) (Real.exp_pos _).le

/-- A number between nought and one is finite. -/
theorem ne_top_of_le_one {x : EReal} (h : x ≤ 1) : x ≠ ⊤ := ne_of_lt (lt_of_le_of_lt h (EReal.coe_lt_top 1))

/-- The actionness is not negative. -/
theorem act_nonneg (X : FVec Ideal SX .f32) (W : FVec Ideal SW .f32) (v : FVec Ideal SD .f32) (Wc : FVec Ideal SWc .f32) (vc : FVec Ideal SC .f32)
    (b : Fin 8) (t : Fin 750) : 0 ≤ act X W v Wc vc b t := (logistic_bounds _).1

/-- The actionness is at most one. -/
theorem act_le (X : FVec Ideal SX .f32) (W : FVec Ideal SW .f32) (v : FVec Ideal SD .f32) (Wc : FVec Ideal SWc .f32) (vc : FVec Ideal SC .f32)
    (b : Fin 8) (t : Fin 750) : act X W v Wc vc b t ≤ 1 := (logistic_bounds _).2

/-- The mean of the two streams' actionness is not negative. -/
theorem act2_nonneg (X : FVec Ideal SX .f32) (Wr : FVec Ideal SWh .f32) (vr : FVec Ideal SD .f32) (wr : FVec Ideal SH .f32) (ur : FVec Ideal S1' .f32)
    (Wf : FVec Ideal SWh .f32) (vf : FVec Ideal SD .f32) (wf : FVec Ideal SH .f32) (uf : FVec Ideal S1' .f32) (b : Fin 8) (t : Fin 750) :
    0 ≤ act2 X Wr vr wr ur Wf vf wf uf b t := by
  have h : Ideal.ofBits .f32 0x3F000000#32 = ((1 / 2 : ℝ) : EReal) := by
    simp [Ideal.ofBits, Ideal.ieee, -EReal.coe_mul]
    norm_num
  unfold act2
  rw [h]
  refine mul_nonneg (add_nonneg (logistic_bounds _).1 (logistic_bounds _).1) ?_
  have : (0 : ℝ) ≤ 1 / 2 := by norm_num
  exact_mod_cast this

/-- The greatest value of a row. -/
def peak (a : Fin 750 → EReal) : EReal := Finset.univ.sup a

/-- The greatest value of a row, folded over any listing of its places. -/
theorem peak_fold {ι : Type} (s : Finset ι) (g : ι → Fin 750) (hg : ∀ c, ∃ i ∈ s, g i = c) (a : Fin 750 → EReal) :
    Finset.fold max ⊥ (fun i => a (g i)) s = peak a := by
  show s.sup (fun i => a (g i)) = Finset.univ.sup a
  refine le_antisymm (Finset.sup_le fun i _ => Finset.le_sup (f := a) (Finset.mem_univ (g i))) (Finset.sup_le fun c _ => ?_)
  obtain ⟨i, hi, rfl⟩ := hg c
  exact Finset.le_sup (f := fun i => a (g i)) hi

/-- No value of a row is above the greatest. -/
theorem le_peak (a : Fin 750 → EReal) (t : Fin 750) : a t ≤ peak a := Finset.le_sup (f := a) (Finset.mem_univ t)

/-- The mark of the windows where the two masks together make up a given number. -/
def mark (n : EReal) (p q : Fin 750 → EReal) (t : Fin 750) : EReal := if p t + q t = n then 1 else 0

/-- A mark is not negative. -/
theorem mark_nonneg (n : EReal) (p q : Fin 750 → EReal) (t : Fin 750) : 0 ≤ mark n p q t := by
  unfold mark
  split_ifs
  · exact zero_le_one
  · exact le_refl _

/-- The actionness of the marked windows. -/
def high (n : EReal) (a p q : Fin 750 → EReal) (t : Fin 750) : EReal := a t * mark n p q t

/-- How far the marked windows are below the greatest actionness. -/
def deep (n : EReal) (a p q : Fin 750 → EReal) (t : Fin 750) : EReal := (peak a - a t) * mark n p q t

/-- The first score is not negative. -/
theorem high_nonneg (n : EReal) (a p q : Fin 750 → EReal) (h : ∀ t, 0 ≤ a t) (t : Fin 750) : 0 ≤ high n a p q t :=
  mul_nonneg (h t) (mark_nonneg n p q t)

/-- The second score is not negative. -/
theorem deep_nonneg (n : EReal) (a p q : Fin 750 → EReal) (h : ∀ t, 0 ≤ a t) (h' : ∀ t, a t ≤ 1) (t : Fin 750) : 0 ≤ deep n a p q t := by
  refine mul_nonneg ?_ (mark_nonneg n p q t)
  have hb : a t ≠ ⊥ := ne_of_gt (lt_of_lt_of_le (EReal.bot_lt_coe 0) (h t))
  exact (EReal.sub_nonneg (Or.inr (ne_top_of_le_one (h' t))) (Or.inr hb)).mpr (le_peak a t)

/-- The first of the places where a row is greatest. -/
theorem first_top (x : Fin 750 → EReal) : ∃ p : Fin 750, (∀ t, x t ≤ x p) ∧ ∀ t, t < p → x t < x p := by
  obtain ⟨q, _, hq⟩ := Finset.exists_max_image Finset.univ x ⟨0, Finset.mem_univ _⟩
  have hn : (Finset.univ.filter fun t => x t = x q).Nonempty := ⟨q, by simp⟩
  have hm := Finset.min'_mem _ hn
  refine ⟨(Finset.univ.filter fun t => x t = x q).min' hn, ?_, ?_⟩
  · intro t
    rw [(Finset.mem_filter.mp hm).2]
    exact hq t (Finset.mem_univ t)
  · intro t ht
    rw [(Finset.mem_filter.mp hm).2]
    refine lt_of_le_of_ne (hq t (Finset.mem_univ t)) fun e => ?_
    exact absurd (Finset.min'_le _ t (by simp [e])) (not_le.mpr ht)

/-- The first of the places where a row is greatest. -/
def lead (x : Fin 750 → EReal) : Fin 750 := Classical.choose (first_top x)

/-- No value is above the one at that place. -/
theorem lead_max (x : Fin 750 → EReal) (t : Fin 750) : x t ≤ x (lead x) := (Classical.choose_spec (first_top x)).1 t

/-- Every earlier value is below it. -/
theorem lead_first (x : Fin 750 → EReal) (t : Fin 750) (h : t < lead x) : x t < x (lead x) := (Classical.choose_spec (first_top x)).2 t h

/-- The greatest value is the one at that place. -/
theorem peak_lead (x : Fin 750 → EReal) : peak x = x (lead x) :=
  le_antisymm (Finset.sup_le fun t _ => lead_max x t) (le_peak x _)

/-- The place, found as the least of the numbers of the places where the row is greatest. -/
theorem lead_fold {ι : Type} (s : Finset ι) (g : ι → Fin 750) (hg : ∀ c, ∃ i ∈ s, g i = c) (x : Fin 750 → EReal) (far : EReal) (hf : ((750 : ℝ) : EReal) ≤ far) :
    Finset.fold min ⊤ (fun i => if x (g i) = peak x then (((g i).val : ℝ) : EReal) else far) s = (((lead x).val : ℝ) : EReal) := by
  show s.inf (fun i => if x (g i) = peak x then (((g i).val : ℝ) : EReal) else far) = _
  refine le_antisymm ?_ (Finset.le_inf fun i _ => ?_)
  · obtain ⟨i, hi, e⟩ := hg (lead x)
    refine (Finset.inf_le hi).trans ?_
    rw [e, if_pos (peak_lead x).symm]
  · split_ifs with h
    · have : lead x ≤ g i := not_lt.mp fun hl => absurd ((lead_first x _ hl).trans_le (peak_lead x).ge) (by rw [h]; exact lt_irrefl _)
      have : ((lead x).val : ℝ) ≤ ((g i).val : ℝ) := by exact_mod_cast this
      exact_mod_cast this
    · refine le_trans ?_ hf
      have : ((lead x).val : ℝ) ≤ 750 := by exact_mod_cast (lead x).isLt.le
      exact_mod_cast this

/-- A sum against a row with a single one is the value there. -/
theorem sum_hot (p : Fin 750) (f : Fin 750 → EReal) : ∑ t, (if t = p then (1 : EReal) else 0) * f t = f p := by
  rw [Finset.sum_eq_single p]
  · rw [if_pos rfl, one_mul]
  · intro t _ h
    rw [if_neg h, zero_mul]
  · intro h
    exact absurd (Finset.mem_univ p) h

end Cert.Maths
-- ==== Proof.ValueBins.lean ====
/- The two masks of the kernel, at the end. -/
module

public import proofs.«01_k».proof.Proof.ValueMid
public import proofs.«01_k».proof.Proof.Scores

@[expose] public section

set_option maxRecDepth 16384

noncomputable section

namespace Cert.KernelIdeal.Hand

open Cert.KernelIdeal Cert.KernelIdeal.Gen
open Idealize.ShloMosaic Idealize.ShloMosaic.TcCoe
open Cert.Maths

variable (m : (ℓ : Loc nD τ sig) → Buf (Elt Ideal) ℓ) (ρ : Dev nD → PrngReg) (c : Dev nD)

/-- One row of the actionness. -/
def rowA (b : Fin 8) (t : Fin 750) : EReal := act (a0 m c) (a1 m c) (a2 m c) (a3 m c) (a4 m c) b t
/-- One row of the mean actionness of the streams. -/
def rowB (b : Fin 8) (t : Fin 750) : EReal := act2 (a0 m c) (a5 m c) (a6 m c) (a7 m c) (a8 m c) (a9 m c) (a10 m c) (a11 m c) (a12 m c) b t

/-- The block the third call reads the actionness from. -/
theorem ldA (b : Fin 8) (j : Fin 750) : View.ld (xb2 (V7 m ρ) c b) r2_4 (ix3 0 0 j) = rowA m c b j := by
  pointwise [xb2]
  exact congrFun (at7_act m ρ c) (ix3 b 0 j)

/-- The actionness as the body holds it. -/
theorem sumA_row (b : Fin 8) (j : Fin 750) : sumA (xb2 (V7 m ρ) c b) (ix2 0 j) = rowA m c b j := by
  unfold sumA
  rw [← ldA m ρ c b j]
  pointwise [k2_pay5]

/-- The mean actionness as the body holds it. -/
theorem sumB_row (b : Fin 8) (j : Fin 750) : sumB (xb3 (V7 m ρ) c b) (ix2 0 j) = rowB m c b j := by
  unfold sumB
  pointwise [k2_pay6, xb3]
  exact congrArg (· * _) (congrArg₂ (· + ·) (at7_actf m ρ c b j) (at7_actr m ρ c b j))

/-- The first mask as the body holds it. -/
theorem binA_row (b : Fin 8) (t : Fin 750) : binA (xb2 (V7 m ρ) c b) (ix2 0 t) = bin (rowA m c b) t :=
  binA_eq _ _ (ldA m ρ c b) (fun t => act_nonneg _ _ _ _ _ b t) t

/-- The second mask as the body holds it. -/
theorem binB_row (b : Fin 8) (t : Fin 750) : binB (xb3 (V7 m ρ) c b) (ix2 0 t) = bin (rowB m c b) t :=
  binB_eq _ _ (sumB_row m ρ c b) (fun t => act2_nonneg _ _ _ _ _ _ _ _ _ b t) t

/-- The first mask at the end. -/
theorem out_bin1 (b : Fin 8) (t : Fin 750) : W9 m ρ c main_v43 (ix2 b t) = bin (rowA m c b) t := by
  unfold W9
  after_reads_at
  refine (congrFun ((W8_arr m ρ c 17).trans (arr2_17 (V7 m ρ) c)) (ix3 b 0 t)).trans ?_
  rw [← binA_row m ρ c b t]
  show out2_17 (xb0 (V7 m ρ) c b) (xb1 (V7 m ρ) c b) (xb2 (V7 m ρ) c b) (xb3 (V7 m ρ) c b) (ix3 0 0 t) = _
  generalize xb2 (V7 m ρ) c b = x2
  unfold out2_17 binA
  frame_out
  generalize sumA x2 = s
  generalize medA x2 = w
  pointwise [k2_pay40]

/-- The second mask at the end. -/
theorem out_bin2 (b : Fin 8) (t : Fin 750) : W9 m ρ c main_v44 (ix2 b t) = bin (rowB m c b) t := by
  unfold W9
  after_reads_at
  refine (congrFun ((W8_arr m ρ c 18).trans (arr2_18 (V7 m ρ) c)) (ix3 b 0 t)).trans ?_
  rw [← binB_row m ρ c b t]
  show out2_18 (xb0 (V7 m ρ) c b) (xb1 (V7 m ρ) c b) (xb2 (V7 m ρ) c b) (xb3 (V7 m ρ) c b) (ix3 0 0 t) = _
  generalize xb3 (V7 m ρ) c b = x3
  unfold out2_18
  frame_out
  generalize binB x3 = s
  pointwise [k2_pay41]

end Cert.KernelIdeal.Hand
-- ==== Proof.ValuePick.lean ====
/- The picked rows of the kernel: each trip of the loop marks the first greatest score, and the product with the marks takes its row. -/
module

public import proofs.«01_k».proof.Proof.ValueBins

@[expose] public section

set_option maxRecDepth 16384

noncomputable section

namespace Cert.KernelIdeal.Hand

open Cert.KernelIdeal Cert.KernelIdeal.Gen
open Idealize.ShloMosaic Idealize.ShloMosaic.TcCoe
open Cert.Maths

/-- The number of a place, made from its word. -/
theorem place_word (t : Fin 750) : FloatOps.sitofp (F := Ideal) FTy.f32 (BitVec.ofNat 32 t.val) = ((t.val : ℝ) : EReal) := by
  have h : (BitVec.ofNat 32 t.val).toInt = (t.val : ℤ) := by
    rw [BitVec.toInt_eq_toNat_of_lt (by simp; omega)]
    simp; omega
  show ((((BitVec.ofNat 32 t.val).toInt : ℤ) : ℝ) : EReal) = _
  rw [h]
  rfl

/-- The number that stands for no place is past the end. -/
theorem far_word : ((750 : ℝ) : EReal) ≤ Ideal.ofBits FTy.f32 1203982336#32 := by
  have h : Ideal.ofBits FTy.f32 1203982336#32 = ((100000 : ℝ) : EReal) := by
    simp [Ideal.ofBits, Ideal.ieee, -EReal.coe_mul]
    norm_num
  rw [h]
  have : (750 : ℝ) ≤ 100000 := by norm_num
  exact_mod_cast this

/-- The least number the search starts from. -/
theorem word_low : Ideal.ofBits FTy.f32 4286578688#32 = (⊥ : EReal) := by simp [Ideal.ofBits, Ideal.ieee]

/-- The greatest number the search starts from. -/
theorem word_high : Ideal.ofBits FTy.f32 2139095040#32 = (⊤ : EReal) := by simp [Ideal.ofBits, Ideal.ieee]

/-- The mark of a trip, as a number. -/
theorem hot_num (a : Fin 750 → EReal) (t : Fin 750) :
    FloatOps.sitofp (F := Ideal) FTy.f32 (BitVec.setWidth 32 (BitVec.ofBool (decide
      (FloatOps.sitofp (F := Ideal) FTy.f32 (BitVec.ofNat 32 t.val)
        = Finset.fold min (Ideal.ofBits FTy.f32 2139095040#32)
          (fun i : Fin 750 => if a i = Finset.fold max (Ideal.ofBits FTy.f32 4286578688#32) (fun j => a j) Finset.univ
            then FloatOps.sitofp (F := Ideal) FTy.f32 (BitVec.ofNat 32 i.val) else Ideal.ofBits FTy.f32 1203982336#32) Finset.univ))))
      = if t = lead a then 1 else 0 := by
  rw [truth]
  simp only [place_word, word_low, word_high]
  have e1 : Finset.fold max ⊥ (fun j => a j) Finset.univ = peak a := peak_fold Finset.univ id (fun c => ⟨c, Finset.mem_univ _, rfl⟩) a
  rw [e1]
  have e2 := lead_fold Finset.univ id (fun c => ⟨c, Finset.mem_univ _, rfl⟩) a (Ideal.ofBits FTy.f32 1203982336#32) far_word
  simp only [id] at e2
  rw [e2]
  have e3 : (((t.val : ℝ) : EReal) = (((lead a).val : ℝ) : EReal)) ↔ t = lead a := by
    rw [EReal.coe_eq_coe_iff, Nat.cast_inj, Fin.val_inj]
  unfold one
  by_cases h : t = lead a
  · rw [if_pos (e3.mpr h), if_pos h]; simp
  · rw [if_neg (fun q => h (e3.mp q)), if_neg h]; simp

/-- What a mark does to a score. -/
theorem below_next {p : Prop} [Decidable p] (h w x : EReal) (e : h = if p then 1 else 0) : (if 0 < h then w else x) = if p then w else x := by
  subst e
  by_cases q : p
  · rw [if_pos q, if_pos zero_lt_one, if_pos q]
  · rw [if_neg q, if_neg (lt_irrefl _), if_neg q]

/-- The marks of a trip: a one at the first greatest score. -/
theorem hot50 (x : FVec Ideal S1x750 .f32) (t : Fin 750) :
    k2_pay51 x (ix3 0 0 t) = if t = lead (fun j => x (ix2 0 j)) then 1 else 0 := by
  pointwise [k2_pay51, k2_pay50, k2_pay49]
  exact hot_num (fun j => x (ix2 0 j)) t

/-- The scores after a trip: the picked one is put below all others. -/
theorem next50 (x : FVec Ideal S1x750 .f32) (t : Fin 750) :
    k2_pay52 x (ix2 0 t) = if t = lead (fun j => x (ix2 0 j)) then Ideal.ofBits .f32 3212836864#32 else x (ix2 0 t) := by
  have h : k2_pay50 x (ix2 0 t) = if t = lead (fun j => x (ix2 0 j)) then 1 else 0 := by
    pointwise [k2_pay50, k2_pay49]
    exact hot_num (fun j => x (ix2 0 j)) t
  pointwise [k2_pay52]
  exact below_next _ _ _ h

/-- The marks of a trip: a one at the first greatest score. -/
theorem hot53 (x : FVec Ideal S1x750 .f32) (t : Fin 750) :
    k2_pay54 x (ix3 0 0 t) = if t = lead (fun j => x (ix2 0 j)) then 1 else 0 := by
  pointwise [k2_pay54, k2_pay53, k2_pay49]
  exact hot_num (fun j => x (ix2 0 j)) t

/-- The scores after a trip: the picked one is put below all others. -/
theorem next53 (x : FVec Ideal S1x750 .f32) (t : Fin 750) :
    k2_pay55 x (ix2 0 t) = if t = lead (fun j => x (ix2 0 j)) then Ideal.ofBits .f32 3212836864#32 else x (ix2 0 t) := by
  have h : k2_pay53 x (ix2 0 t) = if t = lead (fun j => x (ix2 0 j)) then 1 else 0 := by
    pointwise [k2_pay53, k2_pay49]
    exact hot_num (fun j => x (ix2 0 j)) t
  pointwise [k2_pay55]
  exact below_next _ _ _ h

/-- The marks of a trip: a one at the first greatest score. -/
theorem hot56 (x : FVec Ideal S1x750 .f32) (t : Fin 750) :
    k2_pay57 x (ix3 0 0 t) = if t = lead (fun j => x (ix2 0 j)) then 1 else 0 := by
  pointwise [k2_pay57, k2_pay56, k2_pay49]
  exact hot_num (fun j => x (ix2 0 j)) t

/-- The scores after a trip: the picked one is put below all others. -/
theorem next56 (x : FVec Ideal S1x750 .f32) (t : Fin 750) :
    k2_pay58 x (ix2 0 t) = if t = lead (fun j => x (ix2 0 j)) then Ideal.ofBits .f32 3212836864#32 else x (ix2 0 t) := by
  have h : k2_pay56 x (ix2 0 t) = if t = lead (fun j => x (ix2 0 j)) then 1 else 0 := by
    pointwise [k2_pay56, k2_pay49]
    exact hot_num (fun j => x (ix2 0 j)) t
  pointwise [k2_pay58]
  exact below_next _ _ _ h

/-- The marks of a trip: a one at the first greatest score. -/
theorem hot59 (x : FVec Ideal S1x750 .f32) (t : Fin 750) :
    k2_pay60 k2_pay49 x (ix3 0 0 t) = if t = lead (fun j => x (ix2 0 j)) then 1 else 0 := by
  pointwise [k2_pay60, k2_pay59, k2_pay49]
  exact hot_num (fun j => x (ix2 0 j)) t

/-- The scores after a trip: the picked one is put below all others. -/
theorem next59 (x : FVec Ideal S1x750 .f32) (t : Fin 750) :
    k2_pay61 k2_pay49 x (ix2 0 t) = if t = lead (fun j => x (ix2 0 j)) then Ideal.ofBits .f32 3212836864#32 else x (ix2 0 t) := by
  have h : k2_pay59 k2_pay49 x (ix2 0 t) = if t = lead (fun j => x (ix2 0 j)) then 1 else 0 := by
    pointwise [k2_pay59, k2_pay49]
    exact hot_num (fun j => x (ix2 0 j)) t
  pointwise [k2_pay61]
  exact below_next _ _ _ h

/-- The score of a picked window is negative. -/
theorem word_neg : Ideal.ofBits .f32 3212836864#32 < (0 : EReal) := by
  have h : Ideal.ofBits FTy.f32 3212836864#32 = ((-1 : ℝ) : EReal) := by
    simp [Ideal.ofBits, Ideal.ieee, -EReal.coe_mul]
    norm_num
  rw [h]
  have : (-1 : ℝ) < 0 := by norm_num
  exact_mod_cast this

/-- The stack of a loop's marks: row after row, a one at the next place picked. -/
theorem stack_pick (pay : FVec Ideal S1x750 .f32 → FVec Ideal S1x1x750 .f32) (nx : FVec Ideal S1x750 .f32 → FVec Ideal S1x750 .f32) (x : FVec Ideal S1x750 .f32)
    (h1 : ∀ y t, pay y (ix3 0 0 t) = if t = lead (fun j => y (ix2 0 j)) then 1 else 0)
    (h2 : ∀ y t, nx y (ix2 0 t) = if t = lead (fun j => y (ix2 0 j)) then Ideal.ofBits .f32 3212836864#32 else y (ix2 0 t))
    (S : Fin 750 → EReal) (hx : ∀ t, x (ix2 0 t) = S t) (hS : ∀ t, 0 ≤ S t) (k : Fin 37) (t : Fin 750) :
    stack pay nx x (ix3 k 0 t) = if t = pick S k then 1 else 0 := by
  have e := greedy S hS (fun k t => after nx x k (ix2 0 t)) (fun k => lead fun t => after nx x k (ix2 0 t)) _ word_neg
    (funext hx) (fun k t => h2 (after nx x k) t) (fun k t => lead_max (fun t => after nx x k (ix2 0 t)) t) (fun k t ht => lead_first (fun t => after nx x k (ix2 0 t)) t ht) k
  rw [← e]
  have i : rowIx (stackIx 0 (ix3 k 0 t)) = ix3 0 0 t := by
    funext a
    match a with
    | ⟨0, _⟩ => rfl
    | ⟨1, _⟩ => rfl
    | ⟨2, _⟩ => rfl
  show pay (after nx x k.val) (rowIx (stackIx 0 (ix3 k 0 t))) = _
  rw [i]
  exact h1 _ t

variable (m : (ℓ : Loc nD τ sig) → Buf (Elt Ideal) ℓ) (ρ : Dev nD → PrngReg) (c : Dev nD)

/-- The greatest actionness, as the body finds it. -/
theorem peak_row (x : FVec Ideal S1x750 .f32) (a : Fin 750 → EReal) (h : ∀ j, x (ix2 0 j) = a j) (s : EReal) (t : Fin 750) :
    (Finset.fold max (Ideal.ofBits FTy.f32 4286578688#32) (fun y : Fin 1 × Fin 750 => x (ix2 0 y.2)) Finset.univ - x (ix2 0 t)) * s = (peak a - a t) * s := by
  simp only [h, word_low]
  rw [peak_fold (Finset.univ : Finset (Fin 1 × Fin 750)) Prod.snd (fun c => ⟨(0, c), Finset.mem_univ _, rfl⟩) a]

/-- The scores loop 1 starts from. -/
theorem score0 (x p q : FVec Ideal S1x750 .f32) (a u v : Fin 750 → EReal) (hA : ∀ j, x (ix2 0 j) = a j) (hp : ∀ j, p (ix2 0 j) = u j)
    (hq : ∀ j, q (ix2 0 j) = v j) (t : Fin 750) : k2_pay45 x p q (ix2 0 t) = high (Ideal.ofBits .f32 0x40000000#32) a u v t := by
  pointwise [k2_pay45, k2_pay42]
  simp only [hA, hp, hq]
  rfl

/-- The places loop 1 picks in one row. -/
def spot0 (b : Fin 8) (k : Fin 37) : Fin 750 := pick (high (Ideal.ofBits .f32 0x40000000#32) (rowA m c b) (bin (rowA m c b)) (bin (rowB m c b))) k

/-- The marks of loop 1. -/
theorem marks0 (b : Fin 8) (k : Fin 37) (t : Fin 750) :
    hot0 (xb2 (V7 m ρ) c b) (xb3 (V7 m ρ) c b) (ix3 k 0 t) = if t = spot0 m c b k then 1 else 0 := by
  unfold hot0 spot0
  exact stack_pick _ _ _ hot50 next50 _ (score0 _ _ _ _ _ _ (sumA_row m ρ c b) (binA_row m ρ c b) (binB_row m ρ c b))
    (high_nonneg _ _ _ _ (act_nonneg _ _ _ _ _ b)) k t

/-- The scores loop 2 starts from. -/
theorem score1 (x p q : FVec Ideal S1x750 .f32) (a u v : Fin 750 → EReal) (hA : ∀ j, x (ix2 0 j) = a j) (hp : ∀ j, p (ix2 0 j) = u j)
    (hq : ∀ j, q (ix2 0 j) = v j) (t : Fin 750) : k2_pay46 x p q (ix2 0 t) = deep 0 a u v t := by
  pointwise [k2_pay46, k2_pay44, k2_pay42]
  refine (peak_row x a hA _ t).trans ?_
  simp only [hp, hq]
  rfl

/-- The places loop 2 picks in one row. -/
def spot1 (b : Fin 8) (k : Fin 37) : Fin 750 := pick (deep 0 (rowA m c b) (bin (rowA m c b)) (bin (rowB m c b))) k

/-- The marks of loop 2. -/
theorem marks1 (b : Fin 8) (k : Fin 37) (t : Fin 750) :
    hot1 (xb2 (V7 m ρ) c b) (xb3 (V7 m ρ) c b) (ix3 k 0 t) = if t = spot1 m c b k then 1 else 0 := by
  unfold hot1 spot1
  exact stack_pick _ _ _ hot53 next53 _ (score1 _ _ _ _ _ _ (sumA_row m ρ c b) (binA_row m ρ c b) (binB_row m ρ c b))
    (deep_nonneg _ _ _ _ (act_nonneg _ _ _ _ _ b) (act_le _ _ _ _ _ b)) k t

/-- The scores loop 3 starts from. -/
theorem score2 (x p q : FVec Ideal S1x750 .f32) (a u v : Fin 750 → EReal) (hA : ∀ j, x (ix2 0 j) = a j) (hp : ∀ j, p (ix2 0 j) = u j)
    (hq : ∀ j, q (ix2 0 j) = v j) (t : Fin 750) : k2_pay47 x p q (ix2 0 t) = high 1 a u v t := by
  pointwise [k2_pay47, k2_pay43, k2_pay42]
  simp only [hA, hp, hq]
  rfl

/-- The places loop 3 picks in one row. -/
def spot2 (b : Fin 8) (k : Fin 37) : Fin 750 := pick (high 1 (rowA m c b) (bin (rowA m c b)) (bin (rowB m c b))) k

/-- The marks of loop 3. -/
theorem marks2 (b : Fin 8) (k : Fin 37) (t : Fin 750) :
    hot2 (xb2 (V7 m ρ) c b) (xb3 (V7 m ρ) c b) (ix3 k 0 t) = if t = spot2 m c b k then 1 else 0 := by
  unfold hot2 spot2
  exact stack_pick _ _ _ hot56 next56 _ (score2 _ _ _ _ _ _ (sumA_row m ρ c b) (binA_row m ρ c b) (binB_row m ρ c b))
    (high_nonneg _ _ _ _ (act_nonneg _ _ _ _ _ b)) k t

/-- The scores loop 4 starts from. -/
theorem score3 (x p q : FVec Ideal S1x750 .f32) (a u v : Fin 750 → EReal) (hA : ∀ j, x (ix2 0 j) = a j) (hp : ∀ j, p (ix2 0 j) = u j)
    (hq : ∀ j, q (ix2 0 j) = v j) (t : Fin 750) : k2_pay48 x p q (ix2 0 t) = deep 1 a u v t := by
  pointwise [k2_pay48, k2_pay44, k2_pay43, k2_pay42]
  refine (peak_row x a hA _ t).trans ?_
  simp only [hp, hq]
  rfl

/-- The places loop 4 picks in one row. -/
def spot3 (b : Fin 8) (k : Fin 37) : Fin 750 := pick (deep 1 (rowA m c b) (bin (rowA m c b)) (bin (rowB m c b))) k

/-- The marks of loop 4. -/
theorem marks3 (b : Fin 8) (k : Fin 37) (t : Fin 750) :
    hot3 (xb2 (V7 m ρ) c b) (xb3 (V7 m ρ) c b) (ix3 k 0 t) = if t = spot3 m c b k then 1 else 0 := by
  unfold hot3 spot3
  exact stack_pick _ _ _ hot59 next59 _ (score3 _ _ _ _ _ _ (sumA_row m ρ c b) (binA_row m ρ c b) (binB_row m ρ c b))
    (deep_nonneg _ _ _ _ (act_nonneg _ _ _ _ _ b) (act_le _ _ _ _ _ b)) k t

/-- Result 4: the rows loop 1 picks from the embedding. -/
theorem out_pick4 (b : Fin 8) (k : Fin 37) (e : Fin 512) :
    W9 m ρ c main_v36_3 (ix3 b k e) = emb (a0 m c) (a1 m c) (a2 m c) b (spot0 m c b k) e := by
  rw [W9_of m ρ c main_v36_3 (by decide)]
  refine (congrFun ((W8_arr m ρ c 4).trans (arr2_4 (V7 m ρ) c)) (ix3 b k e)).trans ?_
  show out2_4 (xb0 (V7 m ρ) c b) (xb1 (V7 m ρ) c b) (xb2 (V7 m ρ) c b) (xb3 (V7 m ρ) c b) (ix3 0 k e) = _
  have hm := marks0 m ρ c b k
  unfold out2_4
  frame_out
  generalize hot0 (xb2 (V7 m ρ) c b) (xb3 (V7 m ρ) c b) = g at hm
  pointwise [k2_pay66, k2_pay65, k2_pay62, xb0]
  simp only [hm]
  exact (Finset.sum_congr rfl fun t _ => congrArg (_ * ·) (congrFun (at7_emb m ρ c) (ix3 b t e))).trans (sum_hot _ fun t => emb (a0 m c) (a1 m c) (a2 m c) b t e)

/-- Result 5: the rows loop 2 picks from the embedding. -/
theorem out_pick5 (b : Fin 8) (k : Fin 37) (e : Fin 512) :
    W9 m ρ c main_v36_4 (ix3 b k e) = emb (a0 m c) (a1 m c) (a2 m c) b (spot1 m c b k) e := by
  rw [W9_of m ρ c main_v36_4 (by decide)]
  refine (congrFun ((W8_arr m ρ c 5).trans (arr2_5 (V7 m ρ) c)) (ix3 b k e)).trans ?_
  show out2_5 (xb0 (V7 m ρ) c b) (xb1 (V7 m ρ) c b) (xb2 (V7 m ρ) c b) (xb3 (V7 m ρ) c b) (ix3 0 k e) = _
  have hm := marks1 m ρ c b k
  unfold out2_5
  frame_out
  generalize hot1 (xb2 (V7 m ρ) c b) (xb3 (V7 m ρ) c b) = g at hm
  pointwise [k2_pay70, k2_pay69, k2_pay62, xb0]
  simp only [hm]
  exact (Finset.sum_congr rfl fun t _ => congrArg (_ * ·) (congrFun (at7_emb m ρ c) (ix3 b t e))).trans (sum_hot _ fun t => emb (a0 m c) (a1 m c) (a2 m c) b t e)

/-- Result 6: the rows loop 3 picks from the embedding. -/
theorem out_pick6 (b : Fin 8) (k : Fin 37) (e : Fin 512) :
    W9 m ρ c main_v36_5 (ix3 b k e) = emb (a0 m c) (a1 m c) (a2 m c) b (spot2 m c b k) e := by
  rw [W9_of m ρ c main_v36_5 (by decide)]
  refine (congrFun ((W8_arr m ρ c 6).trans (arr2_6 (V7 m ρ) c)) (ix3 b k e)).trans ?_
  show out2_6 (xb0 (V7 m ρ) c b) (xb1 (V7 m ρ) c b) (xb2 (V7 m ρ) c b) (xb3 (V7 m ρ) c b) (ix3 0 k e) = _
  have hm := marks2 m ρ c b k
  unfold out2_6
  frame_out
  generalize hot2 (xb2 (V7 m ρ) c b) (xb3 (V7 m ρ) c b) = g at hm
  pointwise [k2_pay74, k2_pay73, k2_pay62, xb0]
  simp only [hm]
  exact (Finset.sum_congr rfl fun t _ => congrArg (_ * ·) (congrFun (at7_emb m ρ c) (ix3 b t e))).trans (sum_hot _ fun t => emb (a0 m c) (a1 m c) (a2 m c) b t e)

/-- Result 7: the rows loop 4 picks from the embedding. -/
theorem out_pick7 (b : Fin 8) (k : Fin 37) (e : Fin 512) :
    W9 m ρ c main_v36_6 (ix3 b k e) = emb (a0 m c) (a1 m c) (a2 m c) b (spot3 m c b k) e := by
  rw [W9_of m ρ c main_v36_6 (by decide)]
  refine (congrFun ((W8_arr m ρ c 7).trans (arr2_7 (V7 m ρ) c)) (ix3 b k e)).trans ?_
  show out2_7 (xb0 (V7 m ρ) c b) (xb1 (V7 m ρ) c b) (xb2 (V7 m ρ) c b) (xb3 (V7 m ρ) c b) (ix3 0 k e) = _
  have hm := marks3 m ρ c b k
  unfold out2_7
  frame_out
  generalize hot3 (xb2 (V7 m ρ) c b) (xb3 (V7 m ρ) c b) = g at hm
  pointwise [k2_pay2, k2_pay1, k2_pay62, xb0]
  simp only [hm]
  exact (Finset.sum_congr rfl fun t _ => congrArg (_ * ·) (congrFun (at7_emb m ρ c) (ix3 b t e))).trans (sum_hot _ fun t => emb (a0 m c) (a1 m c) (a2 m c) b t e)

/-- Result 8: the rows loop 1 picks from the first stream of the embedding. -/
theorem out_pick8 (b : Fin 8) (k : Fin 37) (e : Fin 512) :
    W9 m ρ c main_v36_7 (ix3 b k e) = embHalf 0 (a0 m c) (a5 m c) (a6 m c) b (spot0 m c b k) e := by
  rw [W9_of m ρ c main_v36_7 (by decide)]
  refine (congrFun ((W8_arr m ρ c 8).trans (arr2_8 (V7 m ρ) c)) (ix3 b k e)).trans ?_
  show out2_8 (xb0 (V7 m ρ) c b) (xb1 (V7 m ρ) c b) (xb2 (V7 m ρ) c b) (xb3 (V7 m ρ) c b) (ix3 0 k e) = _
  have hm := marks0 m ρ c b k
  unfold out2_8
  frame_out
  generalize hot0 (xb2 (V7 m ρ) c b) (xb3 (V7 m ρ) c b) = g at hm
  pointwise [k2_pay67, k2_pay65, k2_pay63, xb1]
  simp only [hm]
  exact (Finset.sum_congr rfl fun t _ => congrArg (_ * ·) (at7_embr m ρ c b t e)).trans (sum_hot _ fun t => embHalf 0 (a0 m c) (a5 m c) (a6 m c) b t e)

/-- Result 9: the rows loop 2 picks from the first stream of the embedding. -/
theorem out_pick9 (b : Fin 8) (k : Fin 37) (e : Fin 512) :
    W9 m ρ c main_v36_8 (ix3 b k e) = embHalf 0 (a0 m c) (a5 m c) (a6 m c) b (spot1 m c b k) e := by
  rw [W9_of m ρ c main_v36_8 (by decide)]
  refine (congrFun ((W8_arr m ρ c 9).trans (arr2_9 (V7 m ρ) c)) (ix3 b k e)).trans ?_
  show out2_9 (xb0 (V7 m ρ) c b) (xb1 (V7 m ρ) c b) (xb2 (V7 m ρ) c b) (xb3 (V7 m ρ) c b) (ix3 0 k e) = _
  have hm := marks1 m ρ c b k
  unfold out2_9
  frame_out
  generalize hot1 (xb2 (V7 m ρ) c b) (xb3 (V7 m ρ) c b) = g at hm
  pointwise [k2_pay71, k2_pay69, k2_pay63, xb1]
  simp only [hm]
  exact (Finset.sum_congr rfl fun t _ => congrArg (_ * ·) (at7_embr m ρ c b t e)).trans (sum_hot _ fun t => embHalf 0 (a0 m c) (a5 m c) (a6 m c) b t e)

/-- Result 10: the rows loop 3 picks from the first stream of the embedding. -/
theorem out_pick10 (b : Fin 8) (k : Fin 37) (e : Fin 512) :
    W9 m ρ c main_v36_9 (ix3 b k e) = embHalf 0 (a0 m c) (a5 m c) (a6 m c) b (spot2 m c b k) e := by
  rw [W9_of m ρ c main_v36_9 (by decide)]
  refine (congrFun ((W8_arr m ρ c 10).trans (arr2_10 (V7 m ρ) c)) (ix3 b k e)).trans ?_
  show out2_10 (xb0 (V7 m ρ) c b) (xb1 (V7 m ρ) c b) (xb2 (V7 m ρ) c b) (xb3 (V7 m ρ) c b) (ix3 0 k e) = _
  have hm := marks2 m ρ c b k
  unfold out2_10
  frame_out
  generalize hot2 (xb2 (V7 m ρ) c b) (xb3 (V7 m ρ) c b) = g at hm
  pointwise [k2_pay75, k2_pay73, k2_pay63, xb1]
  simp only [hm]
  exact (Finset.sum_congr rfl fun t _ => congrArg (_ * ·) (at7_embr m ρ c b t e)).trans (sum_hot _ fun t => embHalf 0 (a0 m c) (a5 m c) (a6 m c) b t e)

/-- Result 11: the rows loop 4 picks from the first stream of the embedding. -/
theorem out_pick11 (b : Fin 8) (k : Fin 37) (e : Fin 512) :
    W9 m ρ c main_v36_10 (ix3 b k e) = embHalf 0 (a0 m c) (a5 m c) (a6 m c) b (spot3 m c b k) e := by
  rw [W9_of m ρ c main_v36_10 (by decide)]
  refine (congrFun ((W8_arr m ρ c 11).trans (arr2_11 (V7 m ρ) c)) (ix3 b k e)).trans ?_
  show out2_11 (xb0 (V7 m ρ) c b) (xb1 (V7 m ρ) c b) (xb2 (V7 m ρ) c b) (xb3 (V7 m ρ) c b) (ix3 0 k e) = _
  have hm := marks3 m ρ c b k
  unfold out2_11
  frame_out
  generalize hot3 (xb2 (V7 m ρ) c b) (xb3 (V7 m ρ) c b) = g at hm
  pointwise [k2_pay3, k2_pay1, k2_pay63, xb1]
  simp only [hm]
  exact (Finset.sum_congr rfl fun t _ => congrArg (_ * ·) (at7_embr m ρ c b t e)).trans (sum_hot _ fun t => embHalf 0 (a0 m c) (a5 m c) (a6 m c) b t e)

/-- Result 12: the rows loop 1 picks from the second stream of the embedding. -/
theorem out_pick12 (b : Fin 8) (k : Fin 37) (e : Fin 512) :
    W9 m ρ c main_v36_11 (ix3 b k e) = embHalf 1 (a0 m c) (a9 m c) (a10 m c) b (spot0 m c b k) e := by
  rw [W9_of m ρ c main_v36_11 (by decide)]
  refine (congrFun ((W8_arr m ρ c 12).trans (arr2_12 (V7 m ρ) c)) (ix3 b k e)).trans ?_
  show out2_12 (xb0 (V7 m ρ) c b) (xb1 (V7 m ρ) c b) (xb2 (V7 m ρ) c b) (xb3 (V7 m ρ) c b) (ix3 0 k e) = _
  have hm := marks0 m ρ c b k
  unfold out2_12
  frame_out
  generalize hot0 (xb2 (V7 m ρ) c b) (xb3 (V7 m ρ) c b) = g at hm
  pointwise [k2_pay68, k2_pay65, k2_pay64, xb1]
  simp only [hm]
  exact (Finset.sum_congr rfl fun t _ => congrArg (_ * ·) (at7_embf m ρ c b t e)).trans (sum_hot _ fun t => embHalf 1 (a0 m c) (a9 m c) (a10 m c) b t e)

/-- Result 13: the rows loop 2 picks from the second stream of the embedding. -/
theorem out_pick13 (b : Fin 8) (k : Fin 37) (e : Fin 512) :
    W9 m ρ c main_v36_12 (ix3 b k e) = embHalf 1 (a0 m c) (a9 m c) (a10 m c) b (spot1 m c b k) e := by
  rw [W9_of m ρ c main_v36_12 (by decide)]
  refine (congrFun ((W8_arr m ρ c 13).trans (arr2_13 (V7 m ρ) c)) (ix3 b k e)).trans ?_
  show out2_13 (xb0 (V7 m ρ) c b) (xb1 (V7 m ρ) c b) (xb2 (V7 m ρ) c b) (xb3 (V7 m ρ) c b) (ix3 0 k e) = _
  have hm := marks1 m ρ c b k
  unfold out2_13
  frame_out
  generalize hot1 (xb2 (V7 m ρ) c b) (xb3 (V7 m ρ) c b) = g at hm
  pointwise [k2_pay72, k2_pay69, k2_pay64, xb1]
  simp only [hm]
  exact (Finset.sum_congr rfl fun t _ => congrArg (_ * ·) (at7_embf m ρ c b t e)).trans (sum_hot _ fun t => embHalf 1 (a0 m c) (a9 m c) (a10 m c) b t e)

/-- Result 14: the rows loop 3 picks from the second stream of the embedding. -/
theorem out_pick14 (b : Fin 8) (k : Fin 37) (e : Fin 512) :
    W9 m ρ c main_v36_13 (ix3 b k e) = embHalf 1 (a0 m c) (a9 m c) (a10 m c) b (spot2 m c b k) e := by
  rw [W9_of m ρ c main_v36_13 (by decide)]
  refine (congrFun ((W8_arr m ρ c 14).trans (arr2_14 (V7 m ρ) c)) (ix3 b k e)).trans ?_
  show out2_14 (xb0 (V7 m ρ) c b) (xb1 (V7 m ρ) c b) (xb2 (V7 m ρ) c b) (xb3 (V7 m ρ) c b) (ix3 0 k e) = _
  have hm := marks2 m ρ c b k
  unfold out2_14
  frame_out
  generalize hot2 (xb2 (V7 m ρ) c b) (xb3 (V7 m ρ) c b) = g at hm
  pointwise [k2_pay76, k2_pay73, k2_pay64, xb1]
  simp only [hm]
  exact (Finset.sum_congr rfl fun t _ => congrArg (_ * ·) (at7_embf m ρ c b t e)).trans (sum_hot _ fun t => embHalf 1 (a0 m c) (a9 m c) (a10 m c) b t e)

/-- Result 15: the rows loop 4 picks from the second stream of the embedding. -/
theorem out_pick15 (b : Fin 8) (k : Fin 37) (e : Fin 512) :
    W9 m ρ c main_v36_14 (ix3 b k e) = embHalf 1 (a0 m c) (a9 m c) (a10 m c) b (spot3 m c b k) e := by
  rw [W9_of m ρ c main_v36_14 (by decide)]
  refine (congrFun ((W8_arr m ρ c 15).trans (arr2_15 (V7 m ρ) c)) (ix3 b k e)).trans ?_
  show out2_15 (xb0 (V7 m ρ) c b) (xb1 (V7 m ρ) c b) (xb2 (V7 m ρ) c b) (xb3 (V7 m ρ) c b) (ix3 0 k e) = _
  have hm := marks3 m ρ c b k
  unfold out2_15
  frame_out
  generalize hot3 (xb2 (V7 m ρ) c b) (xb3 (V7 m ρ) c b) = g at hm
  pointwise [k2_pay4, k2_pay1, k2_pay64, xb1]
  simp only [hm]
  exact (Finset.sum_congr rfl fun t _ => congrArg (_ * ·) (at7_embf m ρ c b t e)).trans (sum_hot _ fun t => embHalf 1 (a0 m c) (a9 m c) (a10 m c) b t e)

end Cert.KernelIdeal.Hand
-- ==== Proof.ValueRef.lean ====
/- The convolutions, class scores and actionness of the reference, element by element. -/
module

public import proofs.«01_k».proof.Proof.Maths
public import proofs.«01_k».proof.Proof.Gen.ReferenceIdeal.Read
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Cert.Maths

/-- The word of two. -/
theorem two_word : Ideal.ofBits .f32 0x40000000#32 = ((2 : ℝ) : EReal) := by
  simp [Ideal.ofBits, Ideal.ieee, -EReal.coe_mul]
  norm_num

/-- The word of one half. -/
theorem half_word : Ideal.ofBits .f32 0x3F000000#32 = ((1 / 2 : ℝ) : EReal) := by
  simp [Ideal.ofBits, Ideal.ieee, -EReal.coe_mul]
  norm_num

/-- The row of the input in the middle of a window. -/
theorem row_mid (X : FVec Ideal SX .f32) (b : Fin 8) (t : Fin 750) (k : Fin 2048) : X (ix3 b t k) = row X b ⟨1 + t.val, by omega⟩ k := by
  unfold row
  rw [dif_pos (by constructor <;> (show _ ≤ _) <;> (try dsimp) <;> omega)]
  exact congrArg (fun s => X (ix3 b s k)) (Fin.ext (by show t.val = 1 + t.val - 1; omega))

/-- A channel of one half, by its place among all. -/
theorem half_row (X : FVec Ideal SX .f32) (b : Fin 8) (r : Fin 752) (o : Fin 2) (k : Fin 1024) (p : Fin 2048) (q : Fin 2048)
    (h : p.val = q.val) : row X b r p = row X b r q := by
  rw [Fin.ext h]

variable (X : FVec Ideal SX .f32) (W : FVec Ideal SW .f32) (v : FVec Ideal SD .f32) (Wc : FVec Ideal SWc .f32) (vc : FVec Ideal SC .f32)
variable (Wr : FVec Ideal SWh .f32) (vr : FVec Ideal SD .f32) (wr : FVec Ideal SH .f32) (ur : FVec Ideal S1' .f32)
variable (Wf : FVec Ideal SWh .f32) (vf : FVec Ideal SD .f32) (wf : FVec Ideal SH .f32) (uf : FVec Ideal S1' .f32)

/-- The embedding. -/
theorem ref_emb (b : Fin 8) (t : Fin 750) (d : Fin 512) : val_main_v88 (F := Ideal) X W v (ix3 b t d) = emb X W v b t d := by
  pointwise [val_main_cst_7, val_main_v73, val_main_c_6, val_main_call4_v0, val_main_v68, val_main_v69, val_main_v70, val_main_v71, val_main_v72, val_main_v74, val_main_v75, val_main_v76, val_main_v77, val_main_v78, val_main_v79, val_main_v80, val_main_v81, val_main_v82, val_main_v83, val_main_v84, val_main_v85, val_main_v86, val_main_v87, val_main_call5_cst, val_main_call5_v0, val_main_v88]
  refine congrArg₂ max (congrArg₂ (· + ·) (congrArg₂ (· + ·) (congrArg₂ (· + ·) ?_ ?_) ?_) rfl) rfl
  · exact Finset.sum_congr rfl fun k _ => congrArg (· * W (ix3 d k 0)) (row_eq X b ⟨t.val, by omega⟩ k)
  · exact Finset.sum_congr rfl fun k _ => congrArg (· * W (ix3 d k 1)) (row_mid X b t k)
  · exact Finset.sum_congr rfl fun k _ => congrArg (· * W (ix3 d k 2)) (row_eq X b ⟨2 + t.val, by omega⟩ k)

/-- The embedding of the second stream. -/
theorem ref_embf (b : Fin 8) (t : Fin 750) (d : Fin 512) : val_main_v21 (F := Ideal) X Wf vf (ix3 b t d) = embHalf 1 X Wf vf b t d := by
  pointwise [val_main_cst, val_main_v6, val_main_v0, val_main_c, val_main_call0_v0, val_main_v1, val_main_v2, val_main_v3, val_main_v4, val_main_v5, val_main_v7, val_main_v8, val_main_v9, val_main_v10, val_main_v11, val_main_v12, val_main_v13, val_main_v14, val_main_v15, val_main_v16, val_main_v17, val_main_v18, val_main_v19, val_main_v20, val_main_call1_cst, val_main_call1_v0, val_main_v21]
  refine congrArg₂ max (congrArg₂ (· + ·) (congrArg₂ (· + ·) (congrArg₂ (· + ·) ?_ ?_) ?_) rfl) rfl
  · exact Finset.sum_congr rfl fun k _ => congrArg (· * Wf (ix3 d k 0)) ((row_eq X b ⟨t.val, by omega⟩ ⟨1024 + k.val, by omega⟩).trans (half_row X b _ 1 k _ _ (by show 1024 + k.val = 1 * 1024 + k.val; omega)))
  · exact Finset.sum_congr rfl fun k _ => congrArg (· * Wf (ix3 d k 1)) ((row_mid X b t ⟨1024 + k.val, by omega⟩).trans (half_row X b _ 1 k _ _ (by show 1024 + k.val = 1 * 1024 + k.val; omega)))
  · exact Finset.sum_congr rfl fun k _ => congrArg (· * Wf (ix3 d k 2)) ((row_eq X b ⟨2 + t.val, by omega⟩ ⟨1024 + k.val, by omega⟩).trans (half_row X b _ 1 k _ _ (by show 1024 + k.val = 1 * 1024 + k.val; omega)))

/-- The embedding of the first stream. -/
theorem ref_embr (b : Fin 8) (t : Fin 750) (d : Fin 512) : val_main_v43 (F := Ideal) X Wr vr (ix3 b t d) = embHalf 0 X Wr vr b t d := by
  pointwise [val_main_cst_1, val_main_v28, val_main_v22, val_main_c_0, val_main_call2_v0, val_main_v23, val_main_v24, val_main_v25, val_main_v26, val_main_v27, val_main_v29, val_main_v30, val_main_v31, val_main_v32, val_main_v33, val_main_v34, val_main_v35, val_main_v36, val_main_v37, val_main_v38, val_main_v39, val_main_v40, val_main_v41, val_main_v42, val_main_call3_cst, val_main_call3_v0, val_main_v43]
  refine congrArg₂ max (congrArg₂ (· + ·) (congrArg₂ (· + ·) (congrArg₂ (· + ·) ?_ ?_) ?_) rfl) rfl
  · exact Finset.sum_congr rfl fun k _ => congrArg (· * Wr (ix3 d k 0)) ((row_eq X b ⟨t.val, by omega⟩ ⟨k.val, by omega⟩).trans (half_row X b _ 0 k _ _ (by show k.val = 0 * 1024 + k.val; omega)))
  · exact Finset.sum_congr rfl fun k _ => congrArg (· * Wr (ix3 d k 1)) ((row_mid X b t ⟨k.val, by omega⟩).trans (half_row X b _ 0 k _ _ (by show k.val = 0 * 1024 + k.val; omega)))
  · exact Finset.sum_congr rfl fun k _ => congrArg (· * Wr (ix3 d k 2)) ((row_eq X b ⟨2 + t.val, by omega⟩ ⟨k.val, by omega⟩).trans (half_row X b _ 0 k _ _ (by show k.val = 0 * 1024 + k.val; omega)))

/-- The class scores. -/
theorem ref_cas (b : Fin 8) (t : Fin 750) (k : Fin 20) : val_main_v93 (F := Ideal) X W v Wc vc (ix3 b t k) = cas X W v Wc vc b t k := by
  pointwise [val_main_v89, val_main_v90, val_main_v91, val_main_v92, val_main_v93, ref_emb]
  rfl

/-- The actionness. -/
theorem ref_act (b : Fin 8) (t : Fin 750) : val_main_v100 (F := Ideal) X W v Wc vc (ix2 b t) = act X W v Wc vc b t := by
  pointwise [val_main_cst_10, val_main_v99, val_main_cst_9, val_main_v97, val_main_cst_8, val_main_v94, val_main_v95, val_main_v96, val_main_v98, val_main_v100, ref_cas]
  rfl

/-- The actionness of the second stream. -/
theorem ref_actf (b : Fin 8) (t : Fin 750) : val_main_v55 (F := Ideal) X Wf vf wf uf (ix3 b 0 t) = actHalf 1 X Wf vf wf uf b t := by
  pointwise [val_main_cst_3, val_main_v53, val_main_cst_2, val_main_v51, val_main_v44, val_main_v45, val_main_v46, val_main_v47, val_main_v48, val_main_v49, val_main_v50, val_main_v52, val_main_v54, val_main_v55, ref_embf]
  rfl

/-- The actionness of the first stream. -/
theorem ref_actr (b : Fin 8) (t : Fin 750) : val_main_v67 (F := Ideal) X Wr vr wr ur (ix3 b 0 t) = actHalf 0 X Wr vr wr ur b t := by
  pointwise [val_main_cst_5, val_main_v65, val_main_cst_4, val_main_v63, val_main_v56, val_main_v57, val_main_v58, val_main_v59, val_main_v60, val_main_v61, val_main_v62, val_main_v64, val_main_v66, val_main_v67, ref_embr]
  rfl

/-- Half of a number is the number over two. -/
theorem half_mul (x : EReal) : Ideal.div x (Ideal.ofBits .f32 0x40000000#32) = x * Ideal.ofBits .f32 0x3F000000#32 := by
  rw [two_word, half_word]
  unfold Ideal.div
  rw [if_neg (by exact_mod_cast (two_ne_zero : (2 : ℝ) ≠ 0))]
  norm_num [← EReal.coe_inv]

/-- The mean of the two streams' actionness. -/
theorem ref_act2 (b : Fin 8) (t : Fin 750) : val_main_v104 (F := Ideal) X Wr vr wr ur Wf vf wf uf (ix2 b t) = act2 X Wr vr wr ur Wf vf wf uf b t := by
  pointwise [val_main_v101, val_main_cst_11, val_main_v102, val_main_v103, val_main_v104, ref_actf, ref_actr]
  exact half_mul _

end Cert.ReferenceIdeal.Hand

end
-- ==== Proof.ValueRefMid.lean ====
/-
The middle numbers of a row as the reference finds them: the row is sorted, and the two entries in its middle are averaged.
-/
module

public import proofs.«01_k».proof.Proof.ValueRef
public import proofs.«01_k».proof.Proof.Order

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Cert.Maths

/-- The order the sort goes by is the order of the numbers. -/
theorem comp_eq (l r : EReal) : (comparator_f32_d1 (F := Ideal) l r == 1#1) = decide (l < r) := by
  have hz : Ideal.ofBits .f32 0x00000000#32 = (0 : EReal) := by simp [Ideal.ofBits, Ideal.ieee]
  have hs : ∀ x : EReal, Scalar.select (FloatOps.cmpf (F := Ideal) (φ := .f32) .une x x) (Ideal.ofBits .f32 0x7FC00000#32)
      (Scalar.select (FloatOps.cmpf (F := Ideal) (φ := .f32) .oeq x (Ideal.ofBits .f32 0x00000000#32)) (Ideal.ofBits .f32 0x00000000#32) x) = x := by
    intro x
    have e1 : FloatOps.cmpf (F := Ideal) (φ := .f32) .une x x = 0#1 := by
      show BitVec.ofBool (decide (x ≠ x)) = 0#1
      simp
    rw [e1, hz]
    show Scalar.select (BitVec.ofBool (decide (x = 0))) 0 x = x
    by_cases h : x = 0
    · rw [h]; simp [Scalar.select]
    · simp [h, Scalar.select]
  show (FloatOps.cmpfTotal (F := Ideal) (φ := .f32) .lt (Scalar.select (FloatOps.cmpf (F := Ideal) (φ := .f32) .une l l) (Ideal.ofBits .f32 0x7FC00000#32)
      (Scalar.select (FloatOps.cmpf (F := Ideal) (φ := .f32) .oeq l (Ideal.ofBits .f32 0x00000000#32)) (Ideal.ofBits .f32 0x00000000#32) l))
    (Scalar.select (FloatOps.cmpf (F := Ideal) (φ := .f32) .une r r) (Ideal.ofBits .f32 0x7FC00000#32)
      (Scalar.select (FloatOps.cmpf (F := Ideal) (φ := .f32) .oeq r (Ideal.ofBits .f32 0x00000000#32)) (Ideal.ofBits .f32 0x00000000#32) r)) == 1#1) = _
  rw [hs l, hs r]
  show (BitVec.ofBool (decide (l < r)) == 1#1) = _
  by_cases h : l < r <;> simp [h]

/-- A place of a row along the sorted axis. -/
theorem along_row (b : Fin 8) (k : Fin 750) (h : 1 < 2) (j : Fin (S8x750.size ⟨1, h⟩)) :
    Shape.Idx.along (s := S8x750) (ix2 b k) ⟨1, h⟩ j = ix2 b (n1 := 750) j := by
  funext a
  match a with
  | ⟨0, _⟩ => rfl
  | ⟨1, _⟩ => rfl

/-- A sorted array, row by row. -/
theorem sort_row (x : FVec Ideal S8x750 .f32) (b : Fin 8) (k : Fin 750) :
    Host.sort S8x750 1 comparator_f32_d1 x (ix2 b k) = x (ix2 b (srt (fun j => x (ix2 b j)) k)) := by
  have h : (1 : ℕ) < 2 := by decide
  have e : (fun i j : Fin (S8x750.size ⟨1, h⟩) => comparator_f32_d1 (F := Ideal) (x (Shape.Idx.along (s := S8x750) (ix2 b k) ⟨1, h⟩ i))
      (x (Shape.Idx.along (s := S8x750) (ix2 b k) ⟨1, h⟩ j)) == 1#1) = fun i j => decide (x (ix2 b (n1 := 750) i) < x (ix2 b (n1 := 750) j)) := by
    funext i j
    rw [comp_eq, along_row, along_row]
  unfold Host.sort srt
  rw [dif_pos (show 1 < S8x750.rank by decide)]
  rw [← e]
  exact congrArg x (along_row b k h _)

/-- A word of a place of a row, read as a signed number. -/
theorem word_row (k : Fin 750) : min (BitVec.ofNat 32 k.val).toInt.toNat 749 = k.val := by
  have h : (BitVec.ofNat 32 k.val).toInt = (k.val : ℤ) := by
    rw [BitVec.toInt_eq_toNat_of_lt (by simp; omega)]
    simp; omega
  rw [h]; omega

/-- A column taken out of an array by its place. -/
theorem gather_col (x : FVec Ideal S8x750 .f32) (i : IVec S1 32) (b : Fin 8) (k : Fin 750) (h : i (ix1 0) = BitVec.ofNat 32 k.val) :
    Host.gather gather_S8x750_S1_S8x1_01_n_n_n_1_0_81 x i (ix2 b 0) = x (ix2 b k) := by
  unfold Host.gather
  refine congrArg x (funext fun a => Fin.ext ?_)
  match a with
  | ⟨0, _⟩ => show 0 + 0 + b.val = b.val; omega
  | ⟨1, _⟩ =>
    show gather_S8x750_S1_S8x1_01_n_n_n_1_0_81.start (ix2 b 0) i 1 + gather_S8x750_S1_S8x1_01_n_n_n_1_0_81.batchCoord (ix2 b 0) 1
      + gather_S8x750_S1_S8x1_01_n_n_n_1_0_81.offCoord (ix2 b 0) 1 = k.val
    have e2 : gather_S8x750_S1_S8x1_01_n_n_n_1_0_81.batchCoord (ix2 b 0) 1 = 0 := rfl
    have e3 : gather_S8x750_S1_S8x1_01_n_n_n_1_0_81.offCoord (ix2 b 0) 1 = 0 := rfl
    have e1 : gather_S8x750_S1_S8x1_01_n_n_n_1_0_81.start (ix2 b 0) i 1 = k.val := by
      unfold GatherDims.start
      rw [dif_pos (show (1 : Fin 2) ∈ gather_S8x750_S1_S8x1_01_n_n_n_1_0_81.startIndexMap by decide)]
      rw [show gather_S8x750_S1_S8x1_01_n_n_n_1_0_81.siIdx (ix2 b 0) ⟨List.idxOf (1 : Fin 2) gather_S8x750_S1_S8x1_01_n_n_n_1_0_81.startIndexMap,
        List.idxOf_lt_length_iff.2 (by decide)⟩ = ix1 0 from funext fun a => by
          obtain rfl : a = 0 := Subsingleton.elim _ _
          exact Subsingleton.elim (α := Fin 1) _ _, h]
      exact word_row k
    rw [e1, e2, e3]; rfl

/-- Rows picked out of an array, each place with a row number of its own. -/
theorem gather_rows (x : FVec Ideal S8x750x512 .f32) (i : IVec S8x37x512x1 32) (b : Fin 8) (r : Fin 37) (e : Fin 512) (k : Fin 750)
    (h : i (ix4 b r e 0) = BitVec.ofNat 32 k.val) :
    Host.gather gather_S8x750x512_S8x37x512x1_S8x37x512_n_1_02_02_1_3_111 x i (ix3 b r e) = x (ix3 b k e) := by
  unfold Host.gather
  refine congrArg x (funext fun a => Fin.ext ?_)
  match a with
  | ⟨0, _⟩ => show 0 + b.val + 0 = b.val; omega
  | ⟨1, _⟩ =>
    show gather_S8x750x512_S8x37x512x1_S8x37x512_n_1_02_02_1_3_111.start (ix3 b r e) i 1 + gather_S8x750x512_S8x37x512x1_S8x37x512_n_1_02_02_1_3_111.batchCoord (ix3 b r e) 1
      + gather_S8x750x512_S8x37x512x1_S8x37x512_n_1_02_02_1_3_111.offCoord (ix3 b r e) 1 = k.val
    have e2 : gather_S8x750x512_S8x37x512x1_S8x37x512_n_1_02_02_1_3_111.batchCoord (ix3 b r e) 1 = 0 := rfl
    have e3 : gather_S8x750x512_S8x37x512x1_S8x37x512_n_1_02_02_1_3_111.offCoord (ix3 b r e) 1 = 0 := rfl
    have e1 : gather_S8x750x512_S8x37x512x1_S8x37x512_n_1_02_02_1_3_111.start (ix3 b r e) i 1 = k.val := by
      unfold GatherDims.start
      rw [dif_pos (show (1 : Fin 3) ∈ gather_S8x750x512_S8x37x512x1_S8x37x512_n_1_02_02_1_3_111.startIndexMap by decide)]
      rw [show gather_S8x750x512_S8x37x512x1_S8x37x512_n_1_02_02_1_3_111.siIdx (ix3 b r e) ⟨List.idxOf (1 : Fin 3) gather_S8x750x512_S8x37x512x1_S8x37x512_n_1_02_02_1_3_111.startIndexMap,
        List.idxOf_lt_length_iff.2 (by decide)⟩ = ix4 b r e 0 from funext fun a => by
          match a with
          | ⟨0, _⟩ => rfl
          | ⟨1, _⟩ => rfl
          | ⟨2, _⟩ => rfl
          | ⟨3, _⟩ => rfl, h]
      exact word_row k
    rw [e1, e2, e3]; rfl
  | ⟨2, _⟩ => show 0 + e.val + 0 = e.val; omega

/-- Half of the last place of a row. -/
theorem half_last : Ideal.ofBits .f32 0x3F000000#32 * (Ideal.ofBits .f32 0x443B8000#32 - 1) = ((749 / 2 : ℝ) : EReal) := by
  have h1 : Ideal.ofBits .f32 0x443B8000#32 = ((750 : ℝ) : EReal) := by
    simp [Ideal.ofBits, Ideal.ieee, -EReal.coe_mul]; norm_num
  have h2 : (1 : EReal) = ((1 : ℝ) : EReal) := rfl
  rw [h1, h2, half_word, ← EReal.coe_sub, ← EReal.coe_mul]
  norm_num

/-- The last place of a row. -/
theorem last_word : Ideal.ofBits .f32 0x443B8000#32 - 1 = ((749 : ℝ) : EReal) := by
  have h1 : Ideal.ofBits .f32 0x443B8000#32 = ((750 : ℝ) : EReal) := by
    simp [Ideal.ofBits, Ideal.ieee, -EReal.coe_mul]; norm_num
  have h2 : (1 : EReal) = ((1 : ℝ) : EReal) := rfl
  rw [h1, h2, ← EReal.coe_sub]
  norm_num

/-- A whole number inside the row, held inside the row and read as a word, is itself. -/
theorem clamp_word (f : ℝ → ℤ) (n : ℕ) (hn : n < 750) (h : f (749 / 2) = n) :
    Ideal.fptosi 32 (min (max (Ideal.liftRound f ((749 / 2 : ℝ) : EReal)) 0) ((749 : ℝ) : EReal)) = BitVec.ofNat 32 n := by
  have e : min (max (Ideal.liftRound f ((749 / 2 : ℝ) : EReal)) 0) ((749 : ℝ) : EReal) = (((n : ℤ) : ℝ) : EReal) := by
    show min (max ((f (749 / 2) : ℝ) : EReal) 0) ((749 : ℝ) : EReal) = _
    rw [h, max_eq_left (by exact_mod_cast Int.natCast_nonneg n), min_eq_left]
    have : ((n : ℤ) : ℝ) ≤ 749 := by
      have : n ≤ 749 := by omega
      exact_mod_cast this
    exact_mod_cast this
  rw [e]
  show BitVec.ofInt 32 (max (-(2 ^ 31 : Nat)) (min ((2 ^ 31 : Nat) - 1) (if (0 : ℝ) ≤ ((n : ℤ) : ℝ) then ⌊((n : ℤ) : ℝ)⌋ else ⌈((n : ℤ) : ℝ)⌉))) = _
  rw [if_pos (by exact_mod_cast Int.natCast_nonneg n), Int.floor_intCast]
  have : max (-((2 ^ 31 : Nat) : ℤ)) (min (((2 ^ 31 : Nat) : ℤ) - 1) (n : ℤ)) = n := by
    norm_num
    omega
  rw [this]
  exact BitVec.ofInt_natCast ..

/-- The place just below the middle. -/
theorem floor_half : ⌊(749 / 2 : ℝ)⌋ = ((374 : ℕ) : ℤ) := by
  rw [Int.floor_eq_iff]; norm_num

/-- The place just above the middle. -/
theorem ceil_half : ⌈(749 / 2 : ℝ)⌉ = ((375 : ℕ) : ℤ) := by
  rw [Int.ceil_eq_iff]; norm_num

/-- The place of the median's lower value, as a word. -/
theorem low6 : val_main_call6_call0_v17 (F := Ideal) (ix1 0) = BitVec.ofNat 32 374 := by
  pointwise [val_main_call6_call0_v17, val_main_call6_call0_v15, val_main_call6_call0_v12, val_main_call6_call0_v7, val_main_call6_call0_v6, val_main_call6_call0_v5, val_main_call6_call0_v11, val_main_call6_cst, val_main_call6_call0_cst_0, val_main_call6_call0_cst_1, val_main_call6_call0_cst_5, val_main_call6_call0_cst_3, val_main_call6_call0_cst_4]
  rw [half_last, last_word]
  exact clamp_word _ 374 (by decide) floor_half

/-- The place of the median's upper value, as a word. -/
theorem high6 : val_main_call6_call0_v19 (F := Ideal) (ix1 0) = BitVec.ofNat 32 375 := by
  pointwise [val_main_call6_call0_v19, val_main_call6_call0_v16, val_main_call6_call0_v14, val_main_call6_call0_v8, val_main_call6_call0_v6, val_main_call6_call0_v5, val_main_call6_call0_v13, val_main_call6_cst, val_main_call6_call0_cst_0, val_main_call6_call0_cst_1, val_main_call6_call0_cst_8, val_main_call6_call0_cst_6, val_main_call6_call0_cst_7]
  rw [half_last, last_word]
  exact clamp_word _ 375 (by decide) ceil_half

/-- The place of the median's lower value, as a word. -/
theorem low8 : val_main_call8_call0_v17 (F := Ideal) (ix1 0) = BitVec.ofNat 32 374 := by
  pointwise [val_main_call8_call0_v17, val_main_call8_call0_v15, val_main_call8_call0_v12, val_main_call8_call0_v7, val_main_call8_call0_v6, val_main_call8_call0_v5, val_main_call8_call0_v11, val_main_call8_cst, val_main_call8_call0_cst_0, val_main_call8_call0_cst_1, val_main_call8_call0_cst_5, val_main_call8_call0_cst_3, val_main_call8_call0_cst_4]
  rw [half_last, last_word]
  exact clamp_word _ 374 (by decide) floor_half

/-- The place of the median's upper value, as a word. -/
theorem high8 : val_main_call8_call0_v19 (F := Ideal) (ix1 0) = BitVec.ofNat 32 375 := by
  pointwise [val_main_call8_call0_v19, val_main_call8_call0_v16, val_main_call8_call0_v14, val_main_call8_call0_v8, val_main_call8_call0_v6, val_main_call8_call0_v5, val_main_call8_call0_v13, val_main_call8_cst, val_main_call8_call0_cst_0, val_main_call8_call0_cst_1, val_main_call8_call0_cst_8, val_main_call8_call0_cst_6, val_main_call8_call0_cst_7]
  rw [half_last, last_word]
  exact clamp_word _ 375 (by decide) ceil_half

/-- Nothing or nothing is nothing. -/
theorem fold_none {ι : Type} (s : Finset ι) : Finset.fold IntOp.ori (0#1) (fun _ => 0#1) s = 0#1 := by
  classical
  induction s using Finset.induction_on with
  | empty => rfl
  | insert a s ha ih =>
    rw [Finset.fold_insert ha, ih]
    rfl

/-- No number is marked as missing, so the array that is sorted is the array itself. -/
theorem no_gap (x : FVec Ideal S8x750 .f32) (b : Fin 8) :
    Host.reduce IntOp.ori (cmpf .une x x) (constantI S_ 1 0#1) reducesTo_S8x750_S8_d1 h_S_ (ix1 b) = 0#1 := by
  have e : (cmpf .une x x) = fun _ => 0#1 := by
    funext i
    show BitVec.ofBool (decide (x i ≠ x i)) = 0#1
    simp
  rw [e]
  pointwise []
  exact fold_none _

/-- The sorted rows of the features' actionness. -/
theorem sorted6 (x0) (x1) (x2) (x3) (x4) (b : Fin 8) (k : Fin 750) :
    val_main_call6_call0_v4 (F := Ideal) x0 x1 x2 x3 x4 (ix2 b k)
      = val_main_v100 (F := Ideal) x0 x1 x2 x3 x4 (ix2 b (srt (fun j => val_main_v100 (F := Ideal) x0 x1 x2 x3 x4 (ix2 b j)) k)) := by
  have e : val_main_call6_call0_v3 (F := Ideal) x0 x1 x2 x3 x4 = val_main_v100 (F := Ideal) x0 x1 x2 x3 x4 := by
    funext y
    idx_vars y
    pointwise [val_main_call6_call0_v3, val_main_call6_call0_call0_v1, val_main_call6_call0_v2]
    have := no_gap (val_main_v100 (F := Ideal) x0 x1 x2 x3 x4) y0
    unfold val_main_call6_call0_v1 val_main_call6_call0_v0 val_main_call6_call0_c
    rw [this]
    rfl
  unfold val_main_call6_call0_v4
  rw [e]
  exact sort_row _ b k

/-- The median of the features' actionness. -/
theorem mid6 (x0) (x1) (x2) (x3) (x4) (b : Fin 8) :
    val_main_v105 (F := Ideal) x0 x1 x2 x3 x4 (ix2 b 0) = mid (fun j => val_main_v100 (F := Ideal) x0 x1 x2 x3 x4 (ix2 b j)) := by
  have h1 : val_main_call6_call0_v18 (F := Ideal) x0 x1 x2 x3 x4 (ix2 b 0) = _ := (gather_col _ _ b 374 low6).trans (sorted6 x0 x1 x2 x3 x4 b 374)
  have h2 : val_main_call6_call0_v20 (F := Ideal) x0 x1 x2 x3 x4 (ix2 b 0) = _ := (gather_col _ _ b 375 high6).trans (sorted6 x0 x1 x2 x3 x4 b 375)
  pointwise [val_main_v105, val_main_call6_call0_v21, val_main_call6_call0_v22, val_main_call6_call0_cst_9]
  rw [h1, h2]
  rfl

/-- Which windows are above the median of the features' actionness. -/
theorem bin6 (x0) (x1) (x2) (x3) (x4) (b : Fin 8) (t : Fin 750) :
    val_main_v108 (F := Ideal) x0 x1 x2 x3 x4 (ix2 b t) = bin (fun j => val_main_v100 (F := Ideal) x0 x1 x2 x3 x4 (ix2 b j)) t := by
  have h := mid6 x0 x1 x2 x3 x4 b
  pointwise [val_main_v108, val_main_v107, val_main_v106, val_main_cst_12, val_main_cst_13, val_main_call7_v0, val_main_call7_v1]
  rw [h]
  unfold bin
  exact if_congr Iff.rfl rfl rfl

/-- The sorted rows of the streams' actionness. -/
theorem sorted8 (x0) (x5) (x6) (x7) (x8) (x9) (x10) (x11) (x12) (b : Fin 8) (k : Fin 750) :
    val_main_call8_call0_v4 (F := Ideal) x0 x5 x6 x7 x8 x9 x10 x11 x12 (ix2 b k)
      = val_main_v104 (F := Ideal) x0 x5 x6 x7 x8 x9 x10 x11 x12 (ix2 b (srt (fun j => val_main_v104 (F := Ideal) x0 x5 x6 x7 x8 x9 x10 x11 x12 (ix2 b j)) k)) := by
  have e : val_main_call8_call0_v3 (F := Ideal) x0 x5 x6 x7 x8 x9 x10 x11 x12 = val_main_v104 (F := Ideal) x0 x5 x6 x7 x8 x9 x10 x11 x12 := by
    funext y
    idx_vars y
    pointwise [val_main_call8_call0_v3, val_main_call8_call0_call0_v1, val_main_call8_call0_v2]
    have := no_gap (val_main_v104 (F := Ideal) x0 x5 x6 x7 x8 x9 x10 x11 x12) y0
    unfold val_main_call8_call0_v1 val_main_call8_call0_v0 val_main_call8_call0_c
    rw [this]
    rfl
  unfold val_main_call8_call0_v4
  rw [e]
  exact sort_row _ b k

/-- The median of the streams' actionness. -/
theorem mid8 (x0) (x5) (x6) (x7) (x8) (x9) (x10) (x11) (x12) (b : Fin 8) :
    val_main_v109 (F := Ideal) x0 x5 x6 x7 x8 x9 x10 x11 x12 (ix2 b 0) = mid (fun j => val_main_v104 (F := Ideal) x0 x5 x6 x7 x8 x9 x10 x11 x12 (ix2 b j)) := by
  have h1 : val_main_call8_call0_v18 (F := Ideal) x0 x5 x6 x7 x8 x9 x10 x11 x12 (ix2 b 0) = _ := (gather_col _ _ b 374 low8).trans (sorted8 x0 x5 x6 x7 x8 x9 x10 x11 x12 b 374)
  have h2 : val_main_call8_call0_v20 (F := Ideal) x0 x5 x6 x7 x8 x9 x10 x11 x12 (ix2 b 0) = _ := (gather_col _ _ b 375 high8).trans (sorted8 x0 x5 x6 x7 x8 x9 x10 x11 x12 b 375)
  pointwise [val_main_v109, val_main_call8_call0_v21, val_main_call8_call0_v22, val_main_call8_call0_cst_9]
  rw [h1, h2]
  rfl

/-- Which windows are above the median of the streams' actionness. -/
theorem bin8 (x0) (x5) (x6) (x7) (x8) (x9) (x10) (x11) (x12) (b : Fin 8) (t : Fin 750) :
    val_main_v112 (F := Ideal) x0 x5 x6 x7 x8 x9 x10 x11 x12 (ix2 b t) = bin (fun j => val_main_v104 (F := Ideal) x0 x5 x6 x7 x8 x9 x10 x11 x12 (ix2 b j)) t := by
  have h := mid8 x0 x5 x6 x7 x8 x9 x10 x11 x12 b
  pointwise [val_main_v112, val_main_v111, val_main_v110, val_main_cst_14, val_main_cst_15, val_main_call9_v0, val_main_call9_v1]
  rw [h]
  unfold bin
  exact if_congr Iff.rfl rfl rfl

end Cert.ReferenceIdeal.Hand
-- ==== Proof.ValueRefPick.lean ====
/- The picked rows of the reference: the places come from a stable sort of the negated scores, the rows from a lookup. -/
module

public import proofs.«01_k».proof.Proof.ValueRefMid
public import proofs.«01_k».proof.Proof.Scores

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Cert.Maths

/-- The word at a place of a row of numbered places. -/
theorem row_word (b : Fin 8) (k : Fin 750) (h : 1 < 2) (j : Fin (S8x750.size ⟨1, h⟩)) :
    iotaInDim S8x750 32 1 (Shape.Idx.along (s := S8x750) (ix2 b k) ⟨1, h⟩ j) = BitVec.ofNat 32 j.val := by
  rw [along_row]
  rfl

/-- The places a sort of the negated scores lists first are the picked ones. -/
theorem sort_pick (x : FVec Ideal S8x750 .f32) (S : Fin 750 → EReal) (b : Fin 8) (hx : ∀ t, x (ix2 b t) = -(S t)) (k : Fin 37) :
    (Host.sort2 S8x750 1 comparator_f32_i32_d1 x (iotaInDim S8x750 32 1)).2 (ix2 b (k.castLE (by omega))) = BitVec.ofNat 32 (pick S k).val := by
  have h : (1 : ℕ) < 2 := by decide
  have e : (fun i j : Fin (S8x750.size ⟨1, h⟩) => comparator_f32_i32_d1 (F := Ideal)
        (x (Shape.Idx.along (s := S8x750) (ix2 b (k.castLE (by omega))) ⟨1, h⟩ i), iotaInDim S8x750 32 1 (Shape.Idx.along (s := S8x750) (ix2 b (k.castLE (by omega))) ⟨1, h⟩ i))
        (x (Shape.Idx.along (s := S8x750) (ix2 b (k.castLE (by omega))) ⟨1, h⟩ j), iotaInDim S8x750 32 1 (Shape.Idx.along (s := S8x750) (ix2 b (k.castLE (by omega))) ⟨1, h⟩ j)) == 1#1)
      = fun i j => decide (-(S i) < -(S j)) := by
    funext i j
    refine (comp_eq _ _).trans ?_
    rw [along_row, along_row]
    exact congrArg₂ (fun p q : EReal => decide (p < q)) (hx i) (hx j)
  unfold Host.sort2 pick
  rw [dif_pos (show 1 < S8x750.rank by decide)]
  rw [← e]
  exact row_word b _ h _

/-- The words of the rows to look up, a negative one counted from the end. -/
def places (i : IVec S8x37x512 32) : IVec S8x37x512x1 32 :=
  shapeCast _ (select (cmpi .slt i (val_main_call17_v0 (F := Ideal))) (addi i (val_main_call17_v2 (F := Ideal))) i) shapeCasts_S8x37x512_S8x37x512x1

/-- Which rows to look up are there at all. -/
def inside (i : IVec S8x37x512 32) : IVec S8x37x512 1 :=
  Host.reduce IntOp.andi (andi (cmpi .sge (places i) (val_main_call17_v6 (F := Ideal))) (cmpi .sle (places i) (val_main_call17_v9 (F := Ideal))))
    (val_main_call17_c_3 (F := Ideal)) reducesTo_S8x37x512x1_S8x37x512_d3 h_S_

/-- The rows looked up. -/
def lookup (src : FVec Ideal S8x750x512 .f32) (i : IVec S8x37x512 32) : FVec Ideal S8x37x512 .f32 :=
  select (inside i) (Host.gather gather_S8x750x512_S8x37x512x1_S8x37x512_n_1_02_02_1_3_111 src (places i)) (val_main_call17_v14 (F := Ideal))

/-- The word of a place is not negative and not past the end. -/
theorem word_inside : ∀ k : Fin 750, IntOp.cmpi .slt (BitVec.ofNat 32 k.val) 0#32 = 0#1 ∧ IntOp.cmpi .sge (BitVec.ofNat 32 k.val) 0#32 = 1#1
    ∧ IntOp.cmpi .sle (BitVec.ofNat 32 k.val) 749#32 = 1#1 := by decide +kernel

/-- Everything and everything is everything. -/
theorem fold_all {ι : Type} (s : Finset ι) : Finset.fold IntOp.andi (1#1) (fun _ => 1#1) s = 1#1 := by
  classical
  induction s using Finset.induction_on with
  | empty => rfl
  | insert a s ha ih =>
    rw [Finset.fold_insert ha, ih]
    rfl

/-- A choice whose mask is set. -/
theorem select_set {s : Shape} (c : IVec s 1) (x y : FVec Ideal s .f32) (j : s.Idx) (h : c j = 1#1) : select c x y j = x j := by
  show Scalar.select (c j) (x j) (y j) = x j
  rw [h]
  rfl

/-- The word of a place is a place. -/
theorem places_eq (i : IVec S8x37x512 32) (b : Fin 8) (r : Fin 37) (e : Fin 512) (k : Fin 750) (h : i (ix3 b r e) = BitVec.ofNat 32 k.val) :
    places i (ix4 b r e 0) = BitVec.ofNat 32 k.val := by
  pointwise [places, val_main_call17_v0, val_main_call17_c, val_main_call17_v2, val_main_call17_c_0]
  rw [h, (word_inside k).1]
  rfl

/-- Every place is inside the row. -/
theorem inside_eq (i : IVec S8x37x512 32) (b : Fin 8) (r : Fin 37) (e : Fin 512) (k : Fin 750) (h : i (ix3 b r e) = BitVec.ofNat 32 k.val) :
    inside i (ix3 b r e) = 1#1 := by
  have h' := places_eq i b r e k h
  pointwise [inside, val_main_call17_v6, val_main_call17_c_2, val_main_call17_v9, val_main_call17_v8, val_main_call17_c_1, val_main_call17_c_3]
  have e : (fun x : Fin 1 => IntOp.andi (IntOp.cmpi CmpIPredicate.sge (places i (ix4 b r e x)) 0#32)
      (IntOp.cmpi CmpIPredicate.sle (places i (ix4 b r e x)) 749#32)) = fun _ => 1#1 := by
    funext x
    obtain rfl : x = 0 := Subsingleton.elim _ _
    rw [h', (word_inside k).2.1, (word_inside k).2.2]
    rfl
  rw [e]
  exact fold_all _

/-- Looking rows up by the words of their places. -/
theorem lookup_eq (src : FVec Ideal S8x750x512 .f32) (i : IVec S8x37x512 32) (b : Fin 8) (r : Fin 37) (e : Fin 512) (k : Fin 750)
    (h : i (ix3 b r e) = BitVec.ofNat 32 k.val) : lookup src i (ix3 b r e) = src (ix3 b k e) := by
  unfold lookup
  exact (select_set _ _ _ _ (inside_eq i b r e k h)).trans (gather_rows src (places i) b r e k (places_eq i b r e k h))

variable (X : FVec Ideal SX .f32) (W : FVec Ideal SW .f32) (v : FVec Ideal SD .f32) (Wc : FVec Ideal SWc .f32) (vc : FVec Ideal SC .f32)
variable (Wr : FVec Ideal SWh .f32) (vr : FVec Ideal SD .f32) (wr : FVec Ideal SH .f32) (ur : FVec Ideal S1' .f32)
variable (Wf : FVec Ideal SWh .f32) (vf : FVec Ideal SD .f32) (wf : FVec Ideal SH .f32) (uf : FVec Ideal S1' .f32)

/-- The first mask. -/
theorem ref_bin1 (b : Fin 8) (t : Fin 750) : val_main_v108 (F := Ideal) X W v Wc vc (ix2 b t) = bin (act X W v Wc vc b) t :=
  (bin6 X W v Wc vc b t).trans (congrArg (bin · t) (funext fun j => ref_act X W v Wc vc b j))

/-- The second mask. -/
theorem ref_bin2 (b : Fin 8) (t : Fin 750) :
    val_main_v112 (F := Ideal) X Wr vr wr ur Wf vf wf uf (ix2 b t) = bin (act2 X Wr vr wr ur Wf vf wf uf b) t :=
  (bin8 X Wr vr wr ur Wf vf wf uf b t).trans (congrArg (bin · t) (funext fun j => ref_act2 X Wr vr wr ur Wf vf wf uf b j))

/-- The greatest actionness, as the reference finds it. -/
theorem ref_peak (b : Fin 8) : val_main_v123 (F := Ideal) X W v Wc vc (ix1 b) = peak (act X W v Wc vc b) := by
  have hz : Ideal.ofBits FTy.f32 4286578688#32 = (⊥ : EReal) := by simp [Ideal.ofBits, Ideal.ieee]
  pointwise [val_main_v123, val_main_cst_25, ref_act]
  rw [hz]
  exact peak_fold Finset.univ id (fun c => ⟨c, Finset.mem_univ _, rfl⟩) _

/-- The mark of the windows whose two masks make up a given number. -/
theorem mask116 (b : Fin 8) (t : Fin 750) :
    val_main_v116 (F := Ideal) X W v Wc vc Wr vr wr ur Wf vf wf uf (ix2 b t) = mark (Ideal.ofBits .f32 0x40000000#32) (bin (act X W v Wc vc b)) (bin (act2 X Wr vr wr ur Wf vf wf uf b)) t := by
  pointwise [val_main_v116, val_main_v115, val_main_v114, val_main_v113, val_main_cst_16, val_main_cst_17, val_main_cst_18, val_main_call10_v0, val_main_call10_v1, ref_bin1, ref_bin2]
  rfl

/-- The mark of the windows whose two masks make up a given number. -/
theorem mask119 (b : Fin 8) (t : Fin 750) :
    val_main_v119 (F := Ideal) X W v Wc vc Wr vr wr ur Wf vf wf uf (ix2 b t) = mark 0 (bin (act X W v Wc vc b)) (bin (act2 X Wr vr wr ur Wf vf wf uf b)) t := by
  pointwise [val_main_v119, val_main_v118, val_main_v117, val_main_v113, val_main_cst_19, val_main_cst_20, val_main_cst_21, val_main_call11_v0, val_main_call11_v1, ref_bin1, ref_bin2]
  rfl

/-- The mark of the windows whose two masks make up a given number. -/
theorem mask122 (b : Fin 8) (t : Fin 750) :
    val_main_v122 (F := Ideal) X W v Wc vc Wr vr wr ur Wf vf wf uf (ix2 b t) = mark 1 (bin (act X W v Wc vc b)) (bin (act2 X Wr vr wr ur Wf vf wf uf b)) t := by
  pointwise [val_main_v122, val_main_v121, val_main_v120, val_main_v113, val_main_cst_22, val_main_cst_23, val_main_cst_24, val_main_call12_v0, val_main_call12_v1, ref_bin1, ref_bin2]
  rfl

/-- The negated scores of selection 1. -/
theorem neg0 (b : Fin 8) (t : Fin 750) : val_main_v129 (F := Ideal) X W v Wc vc Wr vr wr ur Wf vf wf uf (ix2 b t) = -(high (Ideal.ofBits .f32 0x40000000#32) (act X W v Wc vc b) (bin (act X W v Wc vc b)) (bin (act2 X Wr vr wr ur Wf vf wf uf b)) t) := by
  have h : val_main_v127 (F := Ideal) X W v Wc vc Wr vr wr ur Wf vf wf uf (ix2 b t) = mark (Ideal.ofBits .f32 0x40000000#32) (bin (act X W v Wc vc b)) (bin (act2 X Wr vr wr ur Wf vf wf uf b)) t := mask116 X W v Wc vc Wr vr wr ur Wf vf wf uf b t
  pointwise [val_main_v129, val_main_v128, ref_act]
  rw [h]
  rfl

/-- The places of selection 1, as words. -/
theorem first0 (b : Fin 8) (k : Fin 37) :
    val_main_v131 (F := Ideal) X W v Wc vc Wr vr wr ur Wf vf wf uf (ix2 b k) = BitVec.ofNat 32 (pick (high (Ideal.ofBits .f32 0x40000000#32) (act X W v Wc vc b) (bin (act X W v Wc vc b)) (bin (act2 X Wr vr wr ur Wf vf wf uf b))) k).val := by
  have h := sort_pick (val_main_v129 (F := Ideal) X W v Wc vc Wr vr wr ur Wf vf wf uf) _ b (neg0 X W v Wc vc Wr vr wr ur Wf vf wf uf b) k
  rw [← h]
  pointwise [val_main_v131]
  unfold val_main_v130 val_main_call13_v0
  rfl

/-- The negated scores of selection 2. -/
theorem neg1 (b : Fin 8) (t : Fin 750) : val_main_v134 (F := Ideal) X W v Wc vc Wr vr wr ur Wf vf wf uf (ix2 b t) = -(deep 0 (act X W v Wc vc b) (bin (act X W v Wc vc b)) (bin (act2 X Wr vr wr ur Wf vf wf uf b)) t) := by
  have h : val_main_v132 (F := Ideal) X W v Wc vc Wr vr wr ur Wf vf wf uf (ix2 b t) = mark 0 (bin (act X W v Wc vc b)) (bin (act2 X Wr vr wr ur Wf vf wf uf b)) t := mask119 X W v Wc vc Wr vr wr ur Wf vf wf uf b t
  pointwise [val_main_v134, val_main_v133, val_main_v126, val_main_v125, val_main_v124, ref_act, ref_peak]
  rw [h]
  rfl

/-- The places of selection 2, as words. -/
theorem first1 (b : Fin 8) (k : Fin 37) :
    val_main_v136 (F := Ideal) X W v Wc vc Wr vr wr ur Wf vf wf uf (ix2 b k) = BitVec.ofNat 32 (pick (deep 0 (act X W v Wc vc b) (bin (act X W v Wc vc b)) (bin (act2 X Wr vr wr ur Wf vf wf uf b))) k).val := by
  have h := sort_pick (val_main_v134 (F := Ideal) X W v Wc vc Wr vr wr ur Wf vf wf uf) _ b (neg1 X W v Wc vc Wr vr wr ur Wf vf wf uf b) k
  rw [← h]
  pointwise [val_main_v136]
  unfold val_main_v135 val_main_call14_v0
  rfl

/-- The negated scores of selection 3. -/
theorem neg2 (b : Fin 8) (t : Fin 750) : val_main_v139 (F := Ideal) X W v Wc vc Wr vr wr ur Wf vf wf uf (ix2 b t) = -(high 1 (act X W v Wc vc b) (bin (act X W v Wc vc b)) (bin (act2 X Wr vr wr ur Wf vf wf uf b)) t) := by
  have h : val_main_v137 (F := Ideal) X W v Wc vc Wr vr wr ur Wf vf wf uf (ix2 b t) = mark 1 (bin (act X W v Wc vc b)) (bin (act2 X Wr vr wr ur Wf vf wf uf b)) t := mask122 X W v Wc vc Wr vr wr ur Wf vf wf uf b t
  pointwise [val_main_v139, val_main_v138, ref_act]
  rw [h]
  rfl

/-- The places of selection 3, as words. -/
theorem first2 (b : Fin 8) (k : Fin 37) :
    val_main_v141 (F := Ideal) X W v Wc vc Wr vr wr ur Wf vf wf uf (ix2 b k) = BitVec.ofNat 32 (pick (high 1 (act X W v Wc vc b) (bin (act X W v Wc vc b)) (bin (act2 X Wr vr wr ur Wf vf wf uf b))) k).val := by
  have h := sort_pick (val_main_v139 (F := Ideal) X W v Wc vc Wr vr wr ur Wf vf wf uf) _ b (neg2 X W v Wc vc Wr vr wr ur Wf vf wf uf b) k
  rw [← h]
  pointwise [val_main_v141]
  unfold val_main_v140 val_main_call15_v0
  rfl

/-- The negated scores of selection 4. -/
theorem neg3 (b : Fin 8) (t : Fin 750) : val_main_v144 (F := Ideal) X W v Wc vc Wr vr wr ur Wf vf wf uf (ix2 b t) = -(deep 1 (act X W v Wc vc b) (bin (act X W v Wc vc b)) (bin (act2 X Wr vr wr ur Wf vf wf uf b)) t) := by
  have h : val_main_v142 (F := Ideal) X W v Wc vc Wr vr wr ur Wf vf wf uf (ix2 b t) = mark 1 (bin (act X W v Wc vc b)) (bin (act2 X Wr vr wr ur Wf vf wf uf b)) t := mask122 X W v Wc vc Wr vr wr ur Wf vf wf uf b t
  pointwise [val_main_v144, val_main_v143, val_main_v126, val_main_v125, val_main_v124, ref_act, ref_peak]
  rw [h]
  rfl

/-- The places of selection 4, as words. -/
theorem first3 (b : Fin 8) (k : Fin 37) :
    val_main_v146 (F := Ideal) X W v Wc vc Wr vr wr ur Wf vf wf uf (ix2 b k) = BitVec.ofNat 32 (pick (deep 1 (act X W v Wc vc b) (bin (act X W v Wc vc b)) (bin (act2 X Wr vr wr ur Wf vf wf uf b))) k).val := by
  have h := sort_pick (val_main_v144 (F := Ideal) X W v Wc vc Wr vr wr ur Wf vf wf uf) _ b (neg3 X W v Wc vc Wr vr wr ur Wf vf wf uf b) k
  rw [← h]
  pointwise [val_main_v146]
  unfold val_main_v145 val_main_call16_v0
  rfl

/-- Selection 1 from the embedding. -/
theorem ref_pick4 (b : Fin 8) (k : Fin 37) (e : Fin 512) :
    val_main_v149 (F := Ideal) X W v Wc vc Wr vr wr ur Wf vf wf uf (ix3 b k e) = emb X W v b (pick (high (Ideal.ofBits .f32 0x40000000#32) (act X W v Wc vc b) (bin (act X W v Wc vc b)) (bin (act2 X Wr vr wr ur Wf vf wf uf b))) k) e := by
  have hi : val_main_v148 (F := Ideal) X W v Wc vc Wr vr wr ur Wf vf wf uf (ix3 b k e) = BitVec.ofNat 32 (pick (high (Ideal.ofBits .f32 0x40000000#32) (act X W v Wc vc b) (bin (act X W v Wc vc b)) (bin (act2 X Wr vr wr ur Wf vf wf uf b))) k).val := by
    pointwise [val_main_v148, val_main_v147]
    exact first0 X W v Wc vc Wr vr wr ur Wf vf wf uf b k
  have hs : val_main_v149 (F := Ideal) X W v Wc vc Wr vr wr ur Wf vf wf uf = lookup (val_main_v88 (F := Ideal) X W v) (val_main_v148 (F := Ideal) X W v Wc vc Wr vr wr ur Wf vf wf uf) := rfl
  rw [hs]
  exact (lookup_eq _ _ b k e _ hi).trans (ref_emb X W v b _ e)

/-- Selection 2 from the embedding. -/
theorem ref_pick5 (b : Fin 8) (k : Fin 37) (e : Fin 512) :
    val_main_v152 (F := Ideal) X W v Wc vc Wr vr wr ur Wf vf wf uf (ix3 b k e) = emb X W v b (pick (deep 0 (act X W v Wc vc b) (bin (act X W v Wc vc b)) (bin (act2 X Wr vr wr ur Wf vf wf uf b))) k) e := by
  have hi : val_main_v151 (F := Ideal) X W v Wc vc Wr vr wr ur Wf vf wf uf (ix3 b k e) = BitVec.ofNat 32 (pick (deep 0 (act X W v Wc vc b) (bin (act X W v Wc vc b)) (bin (act2 X Wr vr wr ur Wf vf wf uf b))) k).val := by
    pointwise [val_main_v151, val_main_v150]
    exact first1 X W v Wc vc Wr vr wr ur Wf vf wf uf b k
  have hs : val_main_v152 (F := Ideal) X W v Wc vc Wr vr wr ur Wf vf wf uf = lookup (val_main_v88 (F := Ideal) X W v) (val_main_v151 (F := Ideal) X W v Wc vc Wr vr wr ur Wf vf wf uf) := rfl
  rw [hs]
  exact (lookup_eq _ _ b k e _ hi).trans (ref_emb X W v b _ e)

/-- Selection 3 from the embedding. -/
theorem ref_pick6 (b : Fin 8) (k : Fin 37) (e : Fin 512) :
    val_main_v155 (F := Ideal) X W v Wc vc Wr vr wr ur Wf vf wf uf (ix3 b k e) = emb X W v b (pick (high 1 (act X W v Wc vc b) (bin (act X W v Wc vc b)) (bin (act2 X Wr vr wr ur Wf vf wf uf b))) k) e := by
  have hi : val_main_v154 (F := Ideal) X W v Wc vc Wr vr wr ur Wf vf wf uf (ix3 b k e) = BitVec.ofNat 32 (pick (high 1 (act X W v Wc vc b) (bin (act X W v Wc vc b)) (bin (act2 X Wr vr wr ur Wf vf wf uf b))) k).val := by
    pointwise [val_main_v154, val_main_v153]
    exact first2 X W v Wc vc Wr vr wr ur Wf vf wf uf b k
  have hs : val_main_v155 (F := Ideal) X W v Wc vc Wr vr wr ur Wf vf wf uf = lookup (val_main_v88 (F := Ideal) X W v) (val_main_v154 (F := Ideal) X W v Wc vc Wr vr wr ur Wf vf wf uf) := rfl
  rw [hs]
  exact (lookup_eq _ _ b k e _ hi).trans (ref_emb X W v b _ e)

/-- Selection 4 from the embedding. -/
theorem ref_pick7 (b : Fin 8) (k : Fin 37) (e : Fin 512) :
    val_main_v158 (F := Ideal) X W v Wc vc Wr vr wr ur Wf vf wf uf (ix3 b k e) = emb X W v b (pick (deep 1 (act X W v Wc vc b) (bin (act X W v Wc vc b)) (bin (act2 X Wr vr wr ur Wf vf wf uf b))) k) e := by
  have hi : val_main_v157 (F := Ideal) X W v Wc vc Wr vr wr ur Wf vf wf uf (ix3 b k e) = BitVec.ofNat 32 (pick (deep 1 (act X W v Wc vc b) (bin (act X W v Wc vc b)) (bin (act2 X Wr vr wr ur Wf vf wf uf b))) k).val := by
    pointwise [val_main_v157, val_main_v156]
    exact first3 X W v Wc vc Wr vr wr ur Wf vf wf uf b k
  have hs : val_main_v158 (F := Ideal) X W v Wc vc Wr vr wr ur Wf vf wf uf = lookup (val_main_v88 (F := Ideal) X W v) (val_main_v157 (F := Ideal) X W v Wc vc Wr vr wr ur Wf vf wf uf) := rfl
  rw [hs]
  exact (lookup_eq _ _ b k e _ hi).trans (ref_emb X W v b _ e)

/-- Selection 1 from the first stream. -/
theorem ref_pick8 (b : Fin 8) (k : Fin 37) (e : Fin 512) :
    val_main_v161 (F := Ideal) X W v Wc vc Wr vr wr ur Wf vf wf uf (ix3 b k e) = embHalf 0 X Wr vr b (pick (high (Ideal.ofBits .f32 0x40000000#32) (act X W v Wc vc b) (bin (act X W v Wc vc b)) (bin (act2 X Wr vr wr ur Wf vf wf uf b))) k) e := by
  have hi : val_main_v160 (F := Ideal) X W v Wc vc Wr vr wr ur Wf vf wf uf (ix3 b k e) = BitVec.ofNat 32 (pick (high (Ideal.ofBits .f32 0x40000000#32) (act X W v Wc vc b) (bin (act X W v Wc vc b)) (bin (act2 X Wr vr wr ur Wf vf wf uf b))) k).val := by
    pointwise [val_main_v160, val_main_v159]
    exact first0 X W v Wc vc Wr vr wr ur Wf vf wf uf b k
  have hs : val_main_v161 (F := Ideal) X W v Wc vc Wr vr wr ur Wf vf wf uf = lookup (val_main_v43 (F := Ideal) X Wr vr) (val_main_v160 (F := Ideal) X W v Wc vc Wr vr wr ur Wf vf wf uf) := rfl
  rw [hs]
  exact (lookup_eq _ _ b k e _ hi).trans (ref_embr X Wr vr b _ e)

/-- Selection 2 from the first stream. -/
theorem ref_pick9 (b : Fin 8) (k : Fin 37) (e : Fin 512) :
    val_main_v164 (F := Ideal) X W v Wc vc Wr vr wr ur Wf vf wf uf (ix3 b k e) = embHalf 0 X Wr vr b (pick (deep 0 (act X W v Wc vc b) (bin (act X W v Wc vc b)) (bin (act2 X Wr vr wr ur Wf vf wf uf b))) k) e := by
  have hi : val_main_v163 (F := Ideal) X W v Wc vc Wr vr wr ur Wf vf wf uf (ix3 b k e) = BitVec.ofNat 32 (pick (deep 0 (act X W v Wc vc b) (bin (act X W v Wc vc b)) (bin (act2 X Wr vr wr ur Wf vf wf uf b))) k).val := by
    pointwise [val_main_v163, val_main_v162]
    exact first1 X W v Wc vc Wr vr wr ur Wf vf wf uf b k
  have hs : val_main_v164 (F := Ideal) X W v Wc vc Wr vr wr ur Wf vf wf uf = lookup (val_main_v43 (F := Ideal) X Wr vr) (val_main_v163 (F := Ideal) X W v Wc vc Wr vr wr ur Wf vf wf uf) := rfl
  rw [hs]
  exact (lookup_eq _ _ b k e _ hi).trans (ref_embr X Wr vr b _ e)

/-- Selection 3 from the first stream. -/
theorem ref_pick10 (b : Fin 8) (k : Fin 37) (e : Fin 512) :
    val_main_v167 (F := Ideal) X W v Wc vc Wr vr wr ur Wf vf wf uf (ix3 b k e) = embHalf 0 X Wr vr b (pick (high 1 (act X W v Wc vc b) (bin (act X W v Wc vc b)) (bin (act2 X Wr vr wr ur Wf vf wf uf b))) k) e := by
  have hi : val_main_v166 (F := Ideal) X W v Wc vc Wr vr wr ur Wf vf wf uf (ix3 b k e) = BitVec.ofNat 32 (pick (high 1 (act X W v Wc vc b) (bin (act X W v Wc vc b)) (bin (act2 X Wr vr wr ur Wf vf wf uf b))) k).val := by
    pointwise [val_main_v166, val_main_v165]
    exact first2 X W v Wc vc Wr vr wr ur Wf vf wf uf b k
  have hs : val_main_v167 (F := Ideal) X W v Wc vc Wr vr wr ur Wf vf wf uf = lookup (val_main_v43 (F := Ideal) X Wr vr) (val_main_v166 (F := Ideal) X W v Wc vc Wr vr wr ur Wf vf wf uf) := rfl
  rw [hs]
  exact (lookup_eq _ _ b k e _ hi).trans (ref_embr X Wr vr b _ e)

/-- Selection 4 from the first stream. -/
theorem ref_pick11 (b : Fin 8) (k : Fin 37) (e : Fin 512) :
    val_main_v170 (F := Ideal) X W v Wc vc Wr vr wr ur Wf vf wf uf (ix3 b k e) = embHalf 0 X Wr vr b (pick (deep 1 (act X W v Wc vc b) (bin (act X W v Wc vc b)) (bin (act2 X Wr vr wr ur Wf vf wf uf b))) k) e := by
  have hi : val_main_v169 (F := Ideal) X W v Wc vc Wr vr wr ur Wf vf wf uf (ix3 b k e) = BitVec.ofNat 32 (pick (deep 1 (act X W v Wc vc b) (bin (act X W v Wc vc b)) (bin (act2 X Wr vr wr ur Wf vf wf uf b))) k).val := by
    pointwise [val_main_v169, val_main_v168]
    exact first3 X W v Wc vc Wr vr wr ur Wf vf wf uf b k
  have hs : val_main_v170 (F := Ideal) X W v Wc vc Wr vr wr ur Wf vf wf uf = lookup (val_main_v43 (F := Ideal) X Wr vr) (val_main_v169 (F := Ideal) X W v Wc vc Wr vr wr ur Wf vf wf uf) := rfl
  rw [hs]
  exact (lookup_eq _ _ b k e _ hi).trans (ref_embr X Wr vr b _ e)

/-- Selection 1 from the second stream. -/
theorem ref_pick12 (b : Fin 8) (k : Fin 37) (e : Fin 512) :
    val_main_v173 (F := Ideal) X W v Wc vc Wr vr wr ur Wf vf wf uf (ix3 b k e) = embHalf 1 X Wf vf b (pick (high (Ideal.ofBits .f32 0x40000000#32) (act X W v Wc vc b) (bin (act X W v Wc vc b)) (bin (act2 X Wr vr wr ur Wf vf wf uf b))) k) e := by
  have hi : val_main_v172 (F := Ideal) X W v Wc vc Wr vr wr ur Wf vf wf uf (ix3 b k e) = BitVec.ofNat 32 (pick (high (Ideal.ofBits .f32 0x40000000#32) (act X W v Wc vc b) (bin (act X W v Wc vc b)) (bin (act2 X Wr vr wr ur Wf vf wf uf b))) k).val := by
    pointwise [val_main_v172, val_main_v171]
    exact first0 X W v Wc vc Wr vr wr ur Wf vf wf uf b k
  have hs : val_main_v173 (F := Ideal) X W v Wc vc Wr vr wr ur Wf vf wf uf = lookup (val_main_v21 (F := Ideal) X Wf vf) (val_main_v172 (F := Ideal) X W v Wc vc Wr vr wr ur Wf vf wf uf) := rfl
  rw [hs]
  exact (lookup_eq _ _ b k e _ hi).trans (ref_embf X Wf vf b _ e)

/-- Selection 2 from the second stream. -/
theorem ref_pick13 (b : Fin 8) (k : Fin 37) (e : Fin 512) :
    val_main_v176 (F := Ideal) X W v Wc vc Wr vr wr ur Wf vf wf uf (ix3 b k e) = embHalf 1 X Wf vf b (pick (deep 0 (act X W v Wc vc b) (bin (act X W v Wc vc b)) (bin (act2 X Wr vr wr ur Wf vf wf uf b))) k) e := by
  have hi : val_main_v175 (F := Ideal) X W v Wc vc Wr vr wr ur Wf vf wf uf (ix3 b k e) = BitVec.ofNat 32 (pick (deep 0 (act X W v Wc vc b) (bin (act X W v Wc vc b)) (bin (act2 X Wr vr wr ur Wf vf wf uf b))) k).val := by
    pointwise [val_main_v175, val_main_v174]
    exact first1 X W v Wc vc Wr vr wr ur Wf vf wf uf b k
  have hs : val_main_v176 (F := Ideal) X W v Wc vc Wr vr wr ur Wf vf wf uf = lookup (val_main_v21 (F := Ideal) X Wf vf) (val_main_v175 (F := Ideal) X W v Wc vc Wr vr wr ur Wf vf wf uf) := rfl
  rw [hs]
  exact (lookup_eq _ _ b k e _ hi).trans (ref_embf X Wf vf b _ e)

/-- Selection 3 from the second stream. -/
theorem ref_pick14 (b : Fin 8) (k : Fin 37) (e : Fin 512) :
    val_main_v179 (F := Ideal) X W v Wc vc Wr vr wr ur Wf vf wf uf (ix3 b k e) = embHalf 1 X Wf vf b (pick (high 1 (act X W v Wc vc b) (bin (act X W v Wc vc b)) (bin (act2 X Wr vr wr ur Wf vf wf uf b))) k) e := by
  have hi : val_main_v178 (F := Ideal) X W v Wc vc Wr vr wr ur Wf vf wf uf (ix3 b k e) = BitVec.ofNat 32 (pick (high 1 (act X W v Wc vc b) (bin (act X W v Wc vc b)) (bin (act2 X Wr vr wr ur Wf vf wf uf b))) k).val := by
    pointwise [val_main_v178, val_main_v177]
    exact first2 X W v Wc vc Wr vr wr ur Wf vf wf uf b k
  have hs : val_main_v179 (F := Ideal) X W v Wc vc Wr vr wr ur Wf vf wf uf = lookup (val_main_v21 (F := Ideal) X Wf vf) (val_main_v178 (F := Ideal) X W v Wc vc Wr vr wr ur Wf vf wf uf) := rfl
  rw [hs]
  exact (lookup_eq _ _ b k e _ hi).trans (ref_embf X Wf vf b _ e)

/-- Selection 4 from the second stream. -/
theorem ref_pick15 (b : Fin 8) (k : Fin 37) (e : Fin 512) :
    val_main_v182 (F := Ideal) X W v Wc vc Wr vr wr ur Wf vf wf uf (ix3 b k e) = embHalf 1 X Wf vf b (pick (deep 1 (act X W v Wc vc b) (bin (act X W v Wc vc b)) (bin (act2 X Wr vr wr ur Wf vf wf uf b))) k) e := by
  have hi : val_main_v181 (F := Ideal) X W v Wc vc Wr vr wr ur Wf vf wf uf (ix3 b k e) = BitVec.ofNat 32 (pick (deep 1 (act X W v Wc vc b) (bin (act X W v Wc vc b)) (bin (act2 X Wr vr wr ur Wf vf wf uf b))) k).val := by
    pointwise [val_main_v181, val_main_v180]
    exact first3 X W v Wc vc Wr vr wr ur Wf vf wf uf b k
  have hs : val_main_v182 (F := Ideal) X W v Wc vc Wr vr wr ur Wf vf wf uf = lookup (val_main_v21 (F := Ideal) X Wf vf) (val_main_v181 (F := Ideal) X W v Wc vc Wr vr wr ur Wf vf wf uf) := rfl
  rw [hs]
  exact (lookup_eq _ _ b k e _ hi).trans (ref_embf X Wf vf b _ e)

end Cert.ReferenceIdeal.Hand
-- ==== Proof.ValueTie.lean ====
/- The results of the two programs, one against the other. -/
module

public import proofs.«01_k».proof.Proof.ValuePick
public import proofs.«01_k».proof.Proof.ValueRefPick

@[expose] public section

set_option maxRecDepth 16384

noncomputable section

namespace Cert.Tie

open Idealize.ShloMosaic Idealize.ShloMosaic.TcCoe
open Cert.Maths
open Cert.KernelIdeal.Hand (W9 a0 a1 a2 a3 a4 a5 a6 a7 a8 a9 a10 a11 a12)
open Cert.KernelIdeal (τ sig nD)
open Cert.ReferenceIdeal.Read

variable (m : (ℓ : Loc nD τ sig) → Buf (Elt Ideal) ℓ) (ρ : Dev nD → PrngReg) (c : Dev nD)

/-- The class scores agree. -/
theorem tie_cas : val_main_v93 (F := Ideal) (a0 m c) (a1 m c) (a2 m c) (a3 m c) (a4 m c) = W9 m ρ c Cert.KernelIdeal.main_v36_0 := by
  funext i
  idx_vars i
  exact (Cert.ReferenceIdeal.Hand.ref_cas ..).trans (Cert.KernelIdeal.Hand.out_cas ..).symm

/-- The second stream's actionness agrees. -/
theorem tie_actf : val_main_v55 (F := Ideal) (a0 m c) (a9 m c) (a10 m c) (a11 m c) (a12 m c) = W9 m ρ c Cert.KernelIdeal.main_v38 := by
  funext i
  idx_vars i
  obtain rfl : i1 = 0 := Subsingleton.elim _ _
  exact (Cert.ReferenceIdeal.Hand.ref_actf ..).trans (Cert.KernelIdeal.Hand.out_actf ..).symm

/-- The first stream's actionness agrees. -/
theorem tie_actr : val_main_v67 (F := Ideal) (a0 m c) (a5 m c) (a6 m c) (a7 m c) (a8 m c) = W9 m ρ c Cert.KernelIdeal.main_v40 := by
  funext i
  idx_vars i
  obtain rfl : i1 = 0 := Subsingleton.elim _ _
  exact (Cert.ReferenceIdeal.Hand.ref_actr ..).trans (Cert.KernelIdeal.Hand.out_actr ..).symm

/-- The actionness agrees. -/
theorem tie_act : val_main_v100 (F := Ideal) (a0 m c) (a1 m c) (a2 m c) (a3 m c) (a4 m c) = W9 m ρ c Cert.KernelIdeal.main_v41 := by
  funext i
  idx_vars i
  exact (Cert.ReferenceIdeal.Hand.ref_act ..).trans (Cert.KernelIdeal.Hand.out_act ..).symm

/-- The mean actionness agrees. -/
theorem tie_act2 : val_main_v104 (F := Ideal) (a0 m c) (a5 m c) (a6 m c) (a7 m c) (a8 m c) (a9 m c) (a10 m c) (a11 m c) (a12 m c)
    = W9 m ρ c Cert.KernelIdeal.main_v42 := by
  funext i
  idx_vars i
  exact (Cert.ReferenceIdeal.Hand.ref_act2 ..).trans (Cert.KernelIdeal.Hand.out_act2 ..).symm

/-- The first mask agrees. -/
theorem tie_bin1 : val_main_v108 (F := Ideal) (a0 m c) (a1 m c) (a2 m c) (a3 m c) (a4 m c) = W9 m ρ c Cert.KernelIdeal.main_v43 := by
  funext i
  idx_vars i
  exact (Cert.ReferenceIdeal.Hand.ref_bin1 ..).trans (Cert.KernelIdeal.Hand.out_bin1 ..).symm

/-- The second mask agrees. -/
theorem tie_bin2 : val_main_v112 (F := Ideal) (a0 m c) (a5 m c) (a6 m c) (a7 m c) (a8 m c) (a9 m c) (a10 m c) (a11 m c) (a12 m c)
    = W9 m ρ c Cert.KernelIdeal.main_v44 := by
  funext i
  idx_vars i
  exact (Cert.ReferenceIdeal.Hand.ref_bin2 ..).trans (Cert.KernelIdeal.Hand.out_bin2 ..).symm

/-- The rows of selection 1 from the embedding agree. -/
theorem tie_pick4 : val_main_v149 (F := Ideal) (a0 m c) (a1 m c) (a2 m c) (a3 m c) (a4 m c) (a5 m c) (a6 m c) (a7 m c) (a8 m c) (a9 m c) (a10 m c) (a11 m c) (a12 m c)
    = W9 m ρ c Cert.KernelIdeal.main_v36_3 := by
  funext i
  idx_vars i
  exact (Cert.ReferenceIdeal.Hand.ref_pick4 ..).trans (Cert.KernelIdeal.Hand.out_pick4 ..).symm

/-- The rows of selection 2 from the embedding agree. -/
theorem tie_pick5 : val_main_v152 (F := Ideal) (a0 m c) (a1 m c) (a2 m c) (a3 m c) (a4 m c) (a5 m c) (a6 m c) (a7 m c) (a8 m c) (a9 m c) (a10 m c) (a11 m c) (a12 m c)
    = W9 m ρ c Cert.KernelIdeal.main_v36_4 := by
  funext i
  idx_vars i
  exact (Cert.ReferenceIdeal.Hand.ref_pick5 ..).trans (Cert.KernelIdeal.Hand.out_pick5 ..).symm

/-- The rows of selection 3 from the embedding agree. -/
theorem tie_pick6 : val_main_v155 (F := Ideal) (a0 m c) (a1 m c) (a2 m c) (a3 m c) (a4 m c) (a5 m c) (a6 m c) (a7 m c) (a8 m c) (a9 m c) (a10 m c) (a11 m c) (a12 m c)
    = W9 m ρ c Cert.KernelIdeal.main_v36_5 := by
  funext i
  idx_vars i
  exact (Cert.ReferenceIdeal.Hand.ref_pick6 ..).trans (Cert.KernelIdeal.Hand.out_pick6 ..).symm

/-- The rows of selection 4 from the embedding agree. -/
theorem tie_pick7 : val_main_v158 (F := Ideal) (a0 m c) (a1 m c) (a2 m c) (a3 m c) (a4 m c) (a5 m c) (a6 m c) (a7 m c) (a8 m c) (a9 m c) (a10 m c) (a11 m c) (a12 m c)
    = W9 m ρ c Cert.KernelIdeal.main_v36_6 := by
  funext i
  idx_vars i
  exact (Cert.ReferenceIdeal.Hand.ref_pick7 ..).trans (Cert.KernelIdeal.Hand.out_pick7 ..).symm

/-- The rows of selection 1 from the first stream agree. -/
theorem tie_pick8 : val_main_v161 (F := Ideal) (a0 m c) (a1 m c) (a2 m c) (a3 m c) (a4 m c) (a5 m c) (a6 m c) (a7 m c) (a8 m c) (a9 m c) (a10 m c) (a11 m c) (a12 m c)
    = W9 m ρ c Cert.KernelIdeal.main_v36_7 := by
  funext i
  idx_vars i
  exact (Cert.ReferenceIdeal.Hand.ref_pick8 ..).trans (Cert.KernelIdeal.Hand.out_pick8 ..).symm

/-- The rows of selection 2 from the first stream agree. -/
theorem tie_pick9 : val_main_v164 (F := Ideal) (a0 m c) (a1 m c) (a2 m c) (a3 m c) (a4 m c) (a5 m c) (a6 m c) (a7 m c) (a8 m c) (a9 m c) (a10 m c) (a11 m c) (a12 m c)
    = W9 m ρ c Cert.KernelIdeal.main_v36_8 := by
  funext i
  idx_vars i
  exact (Cert.ReferenceIdeal.Hand.ref_pick9 ..).trans (Cert.KernelIdeal.Hand.out_pick9 ..).symm

/-- The rows of selection 3 from the first stream agree. -/
theorem tie_pick10 : val_main_v167 (F := Ideal) (a0 m c) (a1 m c) (a2 m c) (a3 m c) (a4 m c) (a5 m c) (a6 m c) (a7 m c) (a8 m c) (a9 m c) (a10 m c) (a11 m c) (a12 m c)
    = W9 m ρ c Cert.KernelIdeal.main_v36_9 := by
  funext i
  idx_vars i
  exact (Cert.ReferenceIdeal.Hand.ref_pick10 ..).trans (Cert.KernelIdeal.Hand.out_pick10 ..).symm

/-- The rows of selection 4 from the first stream agree. -/
theorem tie_pick11 : val_main_v170 (F := Ideal) (a0 m c) (a1 m c) (a2 m c) (a3 m c) (a4 m c) (a5 m c) (a6 m c) (a7 m c) (a8 m c) (a9 m c) (a10 m c) (a11 m c) (a12 m c)
    = W9 m ρ c Cert.KernelIdeal.main_v36_10 := by
  funext i
  idx_vars i
  exact (Cert.ReferenceIdeal.Hand.ref_pick11 ..).trans (Cert.KernelIdeal.Hand.out_pick11 ..).symm

/-- The rows of selection 1 from the second stream agree. -/
theorem tie_pick12 : val_main_v173 (F := Ideal) (a0 m c) (a1 m c) (a2 m c) (a3 m c) (a4 m c) (a5 m c) (a6 m c) (a7 m c) (a8 m c) (a9 m c) (a10 m c) (a11 m c) (a12 m c)
    = W9 m ρ c Cert.KernelIdeal.main_v36_11 := by
  funext i
  idx_vars i
  exact (Cert.ReferenceIdeal.Hand.ref_pick12 ..).trans (Cert.KernelIdeal.Hand.out_pick12 ..).symm

/-- The rows of selection 2 from the second stream agree. -/
theorem tie_pick13 : val_main_v176 (F := Ideal) (a0 m c) (a1 m c) (a2 m c) (a3 m c) (a4 m c) (a5 m c) (a6 m c) (a7 m c) (a8 m c) (a9 m c) (a10 m c) (a11 m c) (a12 m c)
    = W9 m ρ c Cert.KernelIdeal.main_v36_12 := by
  funext i
  idx_vars i
  exact (Cert.ReferenceIdeal.Hand.ref_pick13 ..).trans (Cert.KernelIdeal.Hand.out_pick13 ..).symm

/-- The rows of selection 3 from the second stream agree. -/
theorem tie_pick14 : val_main_v179 (F := Ideal) (a0 m c) (a1 m c) (a2 m c) (a3 m c) (a4 m c) (a5 m c) (a6 m c) (a7 m c) (a8 m c) (a9 m c) (a10 m c) (a11 m c) (a12 m c)
    = W9 m ρ c Cert.KernelIdeal.main_v36_13 := by
  funext i
  idx_vars i
  exact (Cert.ReferenceIdeal.Hand.ref_pick14 ..).trans (Cert.KernelIdeal.Hand.out_pick14 ..).symm

/-- The rows of selection 4 from the second stream agree. -/
theorem tie_pick15 : val_main_v182 (F := Ideal) (a0 m c) (a1 m c) (a2 m c) (a3 m c) (a4 m c) (a5 m c) (a6 m c) (a7 m c) (a8 m c) (a9 m c) (a10 m c) (a11 m c) (a12 m c)
    = W9 m ρ c Cert.KernelIdeal.main_v36_14 := by
  funext i
  idx_vars i
  exact (Cert.ReferenceIdeal.Hand.ref_pick15 ..).trans (Cert.KernelIdeal.Hand.out_pick15 ..).symm

end Cert.Tie
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.BitsRun
public import proofs.«01_k».proof.Proof.IdealRun
public import proofs.«01_k».proof.Proof.ValueTie
public import Idealize.ShloMosaic.Adequacy
public import Idealize.ShloMosaic.Init

@[expose] public section

noncomputable section

namespace Cert.Proof

open Idealize.ShloMosaic Idealize.ShloMosaic.TcCoe Idealize.SL.Sem
open Cert.KernelIdeal.Hand (W9 a0 a1 a2 a3 a4 a5 a6 a7 a8 a9 a10 a11 a12)
open Cert.ReferenceIdeal.Read

/-- The two programs are given the same arguments on this device. -/
def Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

/-- The reference's result, over arguments that agree with the kernel's. -/
theorem arg_cas (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v93 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      = val_main_v93 (F := Ideal) (a0 m c) (a1 m c) (a2 m c) (a3 m c) (a4 m c) := by
  obtain ⟨e0, e1, e2, e3, e4, e5, e6, e7, e8, e9, e10, e11, e12⟩ := e
  rw [e0, e1, e2, e3, e4]

/-- The reference's result, over arguments that agree with the kernel's. -/
theorem arg_actf (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v55 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v55 (F := Ideal) (a0 m c) (a9 m c) (a10 m c) (a11 m c) (a12 m c) := by
  obtain ⟨e0, e1, e2, e3, e4, e5, e6, e7, e8, e9, e10, e11, e12⟩ := e
  rw [e0, e9, e10, e11, e12]

/-- The reference's result, over arguments that agree with the kernel's. -/
theorem arg_actr (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v67 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      = val_main_v67 (F := Ideal) (a0 m c) (a5 m c) (a6 m c) (a7 m c) (a8 m c) := by
  obtain ⟨e0, e1, e2, e3, e4, e5, e6, e7, e8, e9, e10, e11, e12⟩ := e
  rw [e0, e5, e6, e7, e8]

/-- The reference's result, over arguments that agree with the kernel's. -/
theorem arg_pick4 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v149 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v149 (F := Ideal) (a0 m c) (a1 m c) (a2 m c) (a3 m c) (a4 m c) (a5 m c) (a6 m c) (a7 m c) (a8 m c) (a9 m c) (a10 m c) (a11 m c) (a12 m c) := by
  obtain ⟨e0, e1, e2, e3, e4, e5, e6, e7, e8, e9, e10, e11, e12⟩ := e
  rw [e0, e1, e2, e3, e4, e5, e6, e7, e8, e9, e10, e11, e12]

/-- The reference's result, over arguments that agree with the kernel's. -/
theorem arg_pick5 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v152 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v152 (F := Ideal) (a0 m c) (a1 m c) (a2 m c) (a3 m c) (a4 m c) (a5 m c) (a6 m c) (a7 m c) (a8 m c) (a9 m c) (a10 m c) (a11 m c) (a12 m c) := by
  obtain ⟨e0, e1, e2, e3, e4, e5, e6, e7, e8, e9, e10, e11, e12⟩ := e
  rw [e0, e1, e2, e3, e4, e5, e6, e7, e8, e9, e10, e11, e12]

/-- The reference's result, over arguments that agree with the kernel's. -/
theorem arg_pick6 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v155 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v155 (F := Ideal) (a0 m c) (a1 m c) (a2 m c) (a3 m c) (a4 m c) (a5 m c) (a6 m c) (a7 m c) (a8 m c) (a9 m c) (a10 m c) (a11 m c) (a12 m c) := by
  obtain ⟨e0, e1, e2, e3, e4, e5, e6, e7, e8, e9, e10, e11, e12⟩ := e
  rw [e0, e1, e2, e3, e4, e5, e6, e7, e8, e9, e10, e11, e12]

/-- The reference's result, over arguments that agree with the kernel's. -/
theorem arg_pick7 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v158 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v158 (F := Ideal) (a0 m c) (a1 m c) (a2 m c) (a3 m c) (a4 m c) (a5 m c) (a6 m c) (a7 m c) (a8 m c) (a9 m c) (a10 m c) (a11 m c) (a12 m c) := by
  obtain ⟨e0, e1, e2, e3, e4, e5, e6, e7, e8, e9, e10, e11, e12⟩ := e
  rw [e0, e1, e2, e3, e4, e5, e6, e7, e8, e9, e10, e11, e12]

/-- The reference's result, over arguments that agree with the kernel's. -/
theorem arg_pick8 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v161 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v161 (F := Ideal) (a0 m c) (a1 m c) (a2 m c) (a3 m c) (a4 m c) (a5 m c) (a6 m c) (a7 m c) (a8 m c) (a9 m c) (a10 m c) (a11 m c) (a12 m c) := by
  obtain ⟨e0, e1, e2, e3, e4, e5, e6, e7, e8, e9, e10, e11, e12⟩ := e
  rw [e0, e1, e2, e3, e4, e5, e6, e7, e8, e9, e10, e11, e12]

/-- The reference's result, over arguments that agree with the kernel's. -/
theorem arg_pick9 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v164 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v164 (F := Ideal) (a0 m c) (a1 m c) (a2 m c) (a3 m c) (a4 m c) (a5 m c) (a6 m c) (a7 m c) (a8 m c) (a9 m c) (a10 m c) (a11 m c) (a12 m c) := by
  obtain ⟨e0, e1, e2, e3, e4, e5, e6, e7, e8, e9, e10, e11, e12⟩ := e
  rw [e0, e1, e2, e3, e4, e5, e6, e7, e8, e9, e10, e11, e12]

/-- The reference's result, over arguments that agree with the kernel's. -/
theorem arg_pick10 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v167 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v167 (F := Ideal) (a0 m c) (a1 m c) (a2 m c) (a3 m c) (a4 m c) (a5 m c) (a6 m c) (a7 m c) (a8 m c) (a9 m c) (a10 m c) (a11 m c) (a12 m c) := by
  obtain ⟨e0, e1, e2, e3, e4, e5, e6, e7, e8, e9, e10, e11, e12⟩ := e
  rw [e0, e1, e2, e3, e4, e5, e6, e7, e8, e9, e10, e11, e12]

/-- The reference's result, over arguments that agree with the kernel's. -/
theorem arg_pick11 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v170 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v170 (F := Ideal) (a0 m c) (a1 m c) (a2 m c) (a3 m c) (a4 m c) (a5 m c) (a6 m c) (a7 m c) (a8 m c) (a9 m c) (a10 m c) (a11 m c) (a12 m c) := by
  obtain ⟨e0, e1, e2, e3, e4, e5, e6, e7, e8, e9, e10, e11, e12⟩ := e
  rw [e0, e1, e2, e3, e4, e5, e6, e7, e8, e9, e10, e11, e12]

/-- The reference's result, over arguments that agree with the kernel's. -/
theorem arg_pick12 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v173 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v173 (F := Ideal) (a0 m c) (a1 m c) (a2 m c) (a3 m c) (a4 m c) (a5 m c) (a6 m c) (a7 m c) (a8 m c) (a9 m c) (a10 m c) (a11 m c) (a12 m c) := by
  obtain ⟨e0, e1, e2, e3, e4, e5, e6, e7, e8, e9, e10, e11, e12⟩ := e
  rw [e0, e1, e2, e3, e4, e5, e6, e7, e8, e9, e10, e11, e12]

/-- The reference's result, over arguments that agree with the kernel's. -/
theorem arg_pick13 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v176 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v176 (F := Ideal) (a0 m c) (a1 m c) (a2 m c) (a3 m c) (a4 m c) (a5 m c) (a6 m c) (a7 m c) (a8 m c) (a9 m c) (a10 m c) (a11 m c) (a12 m c) := by
  obtain ⟨e0, e1, e2, e3, e4, e5, e6, e7, e8, e9, e10, e11, e12⟩ := e
  rw [e0, e1, e2, e3, e4, e5, e6, e7, e8, e9, e10, e11, e12]

/-- The reference's result, over arguments that agree with the kernel's. -/
theorem arg_pick14 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v179 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v179 (F := Ideal) (a0 m c) (a1 m c) (a2 m c) (a3 m c) (a4 m c) (a5 m c) (a6 m c) (a7 m c) (a8 m c) (a9 m c) (a10 m c) (a11 m c) (a12 m c) := by
  obtain ⟨e0, e1, e2, e3, e4, e5, e6, e7, e8, e9, e10, e11, e12⟩ := e
  rw [e0, e1, e2, e3, e4, e5, e6, e7, e8, e9, e10, e11, e12]

/-- The reference's result, over arguments that agree with the kernel's. -/
theorem arg_pick15 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v182 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v182 (F := Ideal) (a0 m c) (a1 m c) (a2 m c) (a3 m c) (a4 m c) (a5 m c) (a6 m c) (a7 m c) (a8 m c) (a9 m c) (a10 m c) (a11 m c) (a12 m c) := by
  obtain ⟨e0, e1, e2, e3, e4, e5, e6, e7, e8, e9, e10, e11, e12⟩ := e
  rw [e0, e1, e2, e3, e4, e5, e6, e7, e8, e9, e10, e11, e12]

/-- The reference's result, over arguments that agree with the kernel's. -/
theorem arg_act (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v100 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      = val_main_v100 (F := Ideal) (a0 m c) (a1 m c) (a2 m c) (a3 m c) (a4 m c) := by
  obtain ⟨e0, e1, e2, e3, e4, e5, e6, e7, e8, e9, e10, e11, e12⟩ := e
  rw [e0, e1, e2, e3, e4]

/-- The reference's result, over arguments that agree with the kernel's. -/
theorem arg_act2 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v104 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v104 (F := Ideal) (a0 m c) (a5 m c) (a6 m c) (a7 m c) (a8 m c) (a9 m c) (a10 m c) (a11 m c) (a12 m c) := by
  obtain ⟨e0, e1, e2, e3, e4, e5, e6, e7, e8, e9, e10, e11, e12⟩ := e
  rw [e0, e5, e6, e7, e8, e9, e10, e11, e12]

/-- The reference's result, over arguments that agree with the kernel's. -/
theorem arg_bin1 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v108 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      = val_main_v108 (F := Ideal) (a0 m c) (a1 m c) (a2 m c) (a3 m c) (a4 m c) := by
  obtain ⟨e0, e1, e2, e3, e4, e5, e6, e7, e8, e9, e10, e11, e12⟩ := e
  rw [e0, e1, e2, e3, e4]

/-- The reference's result, over arguments that agree with the kernel's. -/
theorem arg_bin2 (m : (ℓ : Loc Cert.KernelIdeal.nD Cert.KernelIdeal.τ Cert.KernelIdeal.sig) → Buf (Elt Ideal) ℓ) (g : Dev Cert.KernelIdeal.nD → PrngReg)
    (c : Dev Cert.KernelIdeal.nD) (m' : (ℓ : Loc Cert.ReferenceIdeal.nD Cert.ReferenceIdeal.τ Cert.ReferenceIdeal.sig) → Buf (Elt Ideal) ℓ) (e : Same m m' c) :
    val_main_v112 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = val_main_v112 (F := Ideal) (a0 m c) (a5 m c) (a6 m c) (a7 m c) (a8 m c) (a9 m c) (a10 m c) (a11 m c) (a12 m c) := by
  obtain ⟨e0, e1, e2, e3, e4, e5, e6, e7, e8, e9, e10, e11, e12⟩ := e
  rw [e0, e5, e6, e7, e8, e9, e10, e11, e12]

/-- The two programs' results agree. -/
theorem agree : Cert.algebraic_KernelIdeal_ReferenceIdeal (hKernelIdeal := Cert.KernelIdeal.Gen.facts) (hReferenceIdeal := Cert.ReferenceIdeal.Gen.facts) := by
  intro m g m' g' _ e
  refine ⟨fun c => W9 m g c Cert.KernelIdeal.main_v36_0, fun c => W9 m g c Cert.KernelIdeal.main_v38, fun c => W9 m g c Cert.KernelIdeal.main_v40, fun c => W9 m g c Cert.KernelIdeal.main_v36_3, fun c => W9 m g c Cert.KernelIdeal.main_v36_4, fun c => W9 m g c Cert.KernelIdeal.main_v36_5, fun c => W9 m g c Cert.KernelIdeal.main_v36_6, fun c => W9 m g c Cert.KernelIdeal.main_v36_7, fun c => W9 m g c Cert.KernelIdeal.main_v36_8, fun c => W9 m g c Cert.KernelIdeal.main_v36_9, fun c => W9 m g c Cert.KernelIdeal.main_v36_10, fun c => W9 m g c Cert.KernelIdeal.main_v36_11, fun c => W9 m g c Cert.KernelIdeal.main_v36_12, fun c => W9 m g c Cert.KernelIdeal.main_v36_13, fun c => W9 m g c Cert.KernelIdeal.main_v36_14, fun c => W9 m g c Cert.KernelIdeal.main_v41, fun c => W9 m g c Cert.KernelIdeal.main_v42, fun c => W9 m g c Cert.KernelIdeal.main_v43, fun c => W9 m g c Cert.KernelIdeal.main_v44, ?_, ?_⟩
  · exact (θ_run Cert.KernelIdeal.defs _ _).mono (fun r h c => ⟨h.1 c _ (Cert.KernelIdeal.Hand.mem_uc Cert.KernelIdeal.main_v36_0 (by decide)),
      h.1 c _ (Cert.KernelIdeal.Hand.mem_uc Cert.KernelIdeal.main_v38 (by decide)),
      h.1 c _ (Cert.KernelIdeal.Hand.mem_uc Cert.KernelIdeal.main_v40 (by decide)),
      h.1 c _ (Cert.KernelIdeal.Hand.mem_uc Cert.KernelIdeal.main_v36_3 (by decide)),
      h.1 c _ (Cert.KernelIdeal.Hand.mem_uc Cert.KernelIdeal.main_v36_4 (by decide)),
      h.1 c _ (Cert.KernelIdeal.Hand.mem_uc Cert.KernelIdeal.main_v36_5 (by decide)),
      h.1 c _ (Cert.KernelIdeal.Hand.mem_uc Cert.KernelIdeal.main_v36_6 (by decide)),
      h.1 c _ (Cert.KernelIdeal.Hand.mem_uc Cert.KernelIdeal.main_v36_7 (by decide)),
      h.1 c _ (Cert.KernelIdeal.Hand.mem_uc Cert.KernelIdeal.main_v36_8 (by decide)),
      h.1 c _ (Cert.KernelIdeal.Hand.mem_uc Cert.KernelIdeal.main_v36_9 (by decide)),
      h.1 c _ (Cert.KernelIdeal.Hand.mem_uc Cert.KernelIdeal.main_v36_10 (by decide)),
      h.1 c _ (Cert.KernelIdeal.Hand.mem_uc Cert.KernelIdeal.main_v36_11 (by decide)),
      h.1 c _ (Cert.KernelIdeal.Hand.mem_uc Cert.KernelIdeal.main_v36_12 (by decide)),
      h.1 c _ (Cert.KernelIdeal.Hand.mem_uc Cert.KernelIdeal.main_v36_13 (by decide)),
      h.1 c _ (Cert.KernelIdeal.Hand.mem_uc Cert.KernelIdeal.main_v36_14 (by decide)),
      h.1 c _ (Cert.KernelIdeal.Hand.mem_uc Cert.KernelIdeal.main_v41 (by decide)),
      h.1 c _ (Cert.KernelIdeal.Hand.mem_uc Cert.KernelIdeal.main_v42 (by decide)),
      h.1 c _ (Cert.KernelIdeal.Hand.mem_uc Cert.KernelIdeal.main_v43 (by decide)),
      h.1 c _ (Cert.KernelIdeal.Hand.mem_uc Cert.KernelIdeal.main_v44 (by decide)),
      (h.1 c _ (Cert.KernelIdeal.Hand.mem_uc Cert.KernelIdeal.main_arg0 (by decide))).trans (Cert.KernelIdeal.Hand.W9_main_arg0 m g c),
      (h.1 c _ (Cert.KernelIdeal.Hand.mem_uc Cert.KernelIdeal.main_arg1 (by decide))).trans (Cert.KernelIdeal.Hand.W9_main_arg1 m g c),
      (h.1 c _ (Cert.KernelIdeal.Hand.mem_uc Cert.KernelIdeal.main_arg2 (by decide))).trans (Cert.KernelIdeal.Hand.W9_main_arg2 m g c),
      (h.1 c _ (Cert.KernelIdeal.Hand.mem_uc Cert.KernelIdeal.main_arg3 (by decide))).trans (Cert.KernelIdeal.Hand.W9_main_arg3 m g c),
      (h.1 c _ (Cert.KernelIdeal.Hand.mem_uc Cert.KernelIdeal.main_arg4 (by decide))).trans (Cert.KernelIdeal.Hand.W9_main_arg4 m g c),
      (h.1 c _ (Cert.KernelIdeal.Hand.mem_uc Cert.KernelIdeal.main_arg5 (by decide))).trans (Cert.KernelIdeal.Hand.W9_main_arg5 m g c),
      (h.1 c _ (Cert.KernelIdeal.Hand.mem_uc Cert.KernelIdeal.main_arg6 (by decide))).trans (Cert.KernelIdeal.Hand.W9_main_arg6 m g c),
      (h.1 c _ (Cert.KernelIdeal.Hand.mem_uc Cert.KernelIdeal.main_arg7 (by decide))).trans (Cert.KernelIdeal.Hand.W9_main_arg7 m g c),
      (h.1 c _ (Cert.KernelIdeal.Hand.mem_uc Cert.KernelIdeal.main_arg8 (by decide))).trans (Cert.KernelIdeal.Hand.W9_main_arg8 m g c),
      (h.1 c _ (Cert.KernelIdeal.Hand.mem_uc Cert.KernelIdeal.main_arg9 (by decide))).trans (Cert.KernelIdeal.Hand.W9_main_arg9 m g c),
      (h.1 c _ (Cert.KernelIdeal.Hand.mem_uc Cert.KernelIdeal.main_arg10 (by decide))).trans (Cert.KernelIdeal.Hand.W9_main_arg10 m g c),
      (h.1 c _ (Cert.KernelIdeal.Hand.mem_uc Cert.KernelIdeal.main_arg11 (by decide))).trans (Cert.KernelIdeal.Hand.W9_main_arg11 m g c),
      (h.1 c _ (Cert.KernelIdeal.Hand.mem_uc Cert.KernelIdeal.main_arg12 (by decide))).trans (Cert.KernelIdeal.Hand.W9_main_arg12 m g c)⟩)
      (Cert.KernelIdeal.Hand.run m g)
  · exact (θ_run Cert.ReferenceIdeal.defs _ _).mono (fun r h c => ⟨((h c).1).trans ((val_main_v93_eq (StableHlo.launchContents m' c)).trans ((arg_cas m g c m' (e c)).trans (Cert.Tie.tie_cas m g c))),
      ((h c).2.1).trans ((val_main_v55_eq (StableHlo.launchContents m' c)).trans ((arg_actf m g c m' (e c)).trans (Cert.Tie.tie_actf m g c))),
      ((h c).2.2.1).trans ((val_main_v67_eq (StableHlo.launchContents m' c)).trans ((arg_actr m g c m' (e c)).trans (Cert.Tie.tie_actr m g c))),
      ((h c).2.2.2.1).trans ((val_main_v149_eq (StableHlo.launchContents m' c)).trans ((arg_pick4 m g c m' (e c)).trans (Cert.Tie.tie_pick4 m g c))),
      ((h c).2.2.2.2.1).trans ((val_main_v152_eq (StableHlo.launchContents m' c)).trans ((arg_pick5 m g c m' (e c)).trans (Cert.Tie.tie_pick5 m g c))),
      ((h c).2.2.2.2.2.1).trans ((val_main_v155_eq (StableHlo.launchContents m' c)).trans ((arg_pick6 m g c m' (e c)).trans (Cert.Tie.tie_pick6 m g c))),
      ((h c).2.2.2.2.2.2.1).trans ((val_main_v158_eq (StableHlo.launchContents m' c)).trans ((arg_pick7 m g c m' (e c)).trans (Cert.Tie.tie_pick7 m g c))),
      ((h c).2.2.2.2.2.2.2.1).trans ((val_main_v161_eq (StableHlo.launchContents m' c)).trans ((arg_pick8 m g c m' (e c)).trans (Cert.Tie.tie_pick8 m g c))),
      ((h c).2.2.2.2.2.2.2.2.1).trans ((val_main_v164_eq (StableHlo.launchContents m' c)).trans ((arg_pick9 m g c m' (e c)).trans (Cert.Tie.tie_pick9 m g c))),
      ((h c).2.2.2.2.2.2.2.2.2.1).trans ((val_main_v167_eq (StableHlo.launchContents m' c)).trans ((arg_pick10 m g c m' (e c)).trans (Cert.Tie.tie_pick10 m g c))),
      ((h c).2.2.2.2.2.2.2.2.2.2.1).trans ((val_main_v170_eq (StableHlo.launchContents m' c)).trans ((arg_pick11 m g c m' (e c)).trans (Cert.Tie.tie_pick11 m g c))),
      ((h c).2.2.2.2.2.2.2.2.2.2.2.1).trans ((val_main_v173_eq (StableHlo.launchContents m' c)).trans ((arg_pick12 m g c m' (e c)).trans (Cert.Tie.tie_pick12 m g c))),
      ((h c).2.2.2.2.2.2.2.2.2.2.2.2.1).trans ((val_main_v176_eq (StableHlo.launchContents m' c)).trans ((arg_pick13 m g c m' (e c)).trans (Cert.Tie.tie_pick13 m g c))),
      ((h c).2.2.2.2.2.2.2.2.2.2.2.2.2.1).trans ((val_main_v179_eq (StableHlo.launchContents m' c)).trans ((arg_pick14 m g c m' (e c)).trans (Cert.Tie.tie_pick14 m g c))),
      ((h c).2.2.2.2.2.2.2.2.2.2.2.2.2.2.1).trans ((val_main_v182_eq (StableHlo.launchContents m' c)).trans ((arg_pick15 m g c m' (e c)).trans (Cert.Tie.tie_pick15 m g c))),
      ((h c).2.2.2.2.2.2.2.2.2.2.2.2.2.2.2.1).trans ((val_main_v100_eq (StableHlo.launchContents m' c)).trans ((arg_act m g c m' (e c)).trans (Cert.Tie.tie_act m g c))),
      ((h c).2.2.2.2.2.2.2.2.2.2.2.2.2.2.2.2.1).trans ((val_main_v104_eq (StableHlo.launchContents m' c)).trans ((arg_act2 m g c m' (e c)).trans (Cert.Tie.tie_act2 m g c))),
      ((h c).2.2.2.2.2.2.2.2.2.2.2.2.2.2.2.2.2.1).trans ((val_main_v108_eq (StableHlo.launchContents m' c)).trans ((arg_bin1 m g c m' (e c)).trans (Cert.Tie.tie_bin1 m g c))),
      ((h c).2.2.2.2.2.2.2.2.2.2.2.2.2.2.2.2.2.2.1).trans ((val_main_v112_eq (StableHlo.launchContents m' c)).trans ((arg_bin2 m g c m' (e c)).trans (Cert.Tie.tie_bin2 m g c))),
      (h c).2.2.2.2.2.2.2.2.2.2.2.2.2.2.2.2.2.2.2⟩) (Cert.ReferenceIdeal.Value.run m' g')

/-- Everything claimed. -/
theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => (θ_run Cert.ReferenceIdeal.defs _ _).mono (fun r h =>
    ⟨fun c => (h c).2.2.2.2.2.2.2.2.2.2.2.2.2.2.2.2.2.2.2, sem_eq_zero_of_no_sems (by decide) r.2⟩) (Cert.ReferenceIdeal.Value.run m g),
  trivial,
  agree⟩

end Cert.Proof

end
